-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1x50000 : Shape := ⟨2, ![1, 50000]⟩
abbrev S1600000 : Shape := ⟨1, ![1600000]⟩
abbrev S1600000x2 : Shape := ⟨2, ![1600000, 2]⟩
abbrev S512x5 : Shape := ⟨2, ![512, 5]⟩
abbrev S50000 : Shape := ⟨1, ![50000]⟩
abbrev S_ : Shape := ⟨0, ![]⟩

class Facts : Prop where
  bcast_S_S1600000x2 : S_.BroadcastsInDim S1600000x2 (![] : Fin 0 → Fin S1600000x2.rank)
  bcast_S_S1600000 : S_.BroadcastsInDim S1600000 (![] : Fin 0 → Fin S1600000.rank)

variable [Facts]

def fn {F : FTy → Type} [FloatOps F] (main_arg0 : FVec F S1x50000 .f32) (main_arg1 : FVec F S1x50000 .f32) (main_arg2 : FVec F S1600000 .f32) (main_arg3 : IVec S1600000 32) (main_arg4 : IVec S1600000x2 32) (main_arg5 : FVec F S512x5 .f32) (main_arg6 : FVec F S50000 .f32) (main_arg7 : FVec F S50000 .f32) (main_arg8 : FVec F S50000 .f32) (main_arg9 : FVec F S50000 .f32) : IVec S1600000x2 1 × IVec S1600000 1 :=
  let main_c : IVec S_ 32 := constantI S_ 32 0#32
  let main_v0 : IVec S1600000x2 32 := broadcastInDim S1600000x2 ![] bcast_S_S1600000x2 main_c
  let main_v1 : IVec S1600000x2 1 := cmpi .sge main_arg4 main_v0
  let main_c_0 : IVec S_ 32 := constantI S_ 32 50000#32
  let main_v2 : IVec S1600000x2 32 := broadcastInDim S1600000x2 ![] bcast_S_S1600000x2 main_c_0
  let main_v3 : IVec S1600000x2 1 := cmpi .slt main_arg4 main_v2
  let main_v4 : IVec S1600000x2 1 := andi main_v1 main_v3
  let main_c_1 : IVec S_ 32 := constantI S_ 32 0#32
  let main_v5 : IVec S1600000 32 := broadcastInDim S1600000 ![] bcast_S_S1600000 main_c_1
  let main_v6 : IVec S1600000 1 := cmpi .sge main_arg3 main_v5
  let main_c_2 : IVec S_ 32 := constantI S_ 32 512#32
  let main_v7 : IVec S1600000 32 := broadcastInDim S1600000 ![] bcast_S_S1600000 main_c_2
  let main_v8 : IVec S1600000 1 := cmpi .slt main_arg3 main_v7
  let main_v9 : IVec S1600000 1 := andi main_v6 main_v8
  (main_v4, main_v9)
-- ==== Pre_in_range_finite.lean ====
abbrev S1x50000 : Shape := ⟨2, ![1, 50000]⟩
abbrev S1600000 : Shape := ⟨1, ![1600000]⟩
abbrev S1600000x2 : Shape := ⟨2, ![1600000, 2]⟩
abbrev S512x5 : Shape := ⟨2, ![512, 5]⟩
abbrev S50000 : Shape := ⟨1, ![50000]⟩
abbrev S_ : Shape := ⟨0, ![]⟩

class Facts : Prop where
  bcast_S_S1600000x2 : S_.BroadcastsInDim S1600000x2 (![] : Fin 0 → Fin S1600000x2.rank)
  bcast_S_S1600000 : S_.BroadcastsInDim S1600000 (![] : Fin 0 → Fin S1600000.rank)
  bcast_S_S1x50000 : S_.BroadcastsInDim S1x50000 (![] : Fin 0 → Fin S1x50000.rank)
  bcast_S_S512x5 : S_.BroadcastsInDim S512x5 (![] : Fin 0 → Fin S512x5.rank)

variable [Facts]

def fn_part1 {F : FTy → Type} [FloatOps F] (main_arg5 : FVec F S512x5 .f32) (main_v4 : IVec S1600000x2 1) (main_v9 : IVec S1600000 1) (main_v14 : IVec S1x50000 1) (main_v15 : FVec F S1600000 .f32) (main_v16 : FVec F S1600000 .f32) : IVec S1600000x2 1 × IVec S1600000 1 × IVec S1x50000 1 × IVec S1600000 1 × IVec S512x5 1 :=
  let main_v17 : IVec S1600000 1 := cmpf .olt main_v15 main_v16
  let main_v18 : FVec F S512x5 .f32 := Host.absf main_arg5
  let main_cst_5 : FVec F S_ .f32 := constant S_ .f32 0x7F800000#32
  let main_v19 : FVec F S512x5 .f32 := broadcastInDim S512x5 ![] bcast_S_S512x5 main_cst_5
  let main_v20 : IVec S512x5 1 := cmpf .olt main_v18 main_v19
  (main_v4, main_v9, main_v14, main_v17, main_v20)

def fn {F : FTy → Type} [FloatOps F] (main_arg0 : FVec F S1x50000 .f32) (main_arg1 : FVec F S1x50000 .f32) (main_arg2 : FVec F S1600000 .f32) (main_arg3 : IVec S1600000 32) (main_arg4 : IVec S1600000x2 32) (main_arg5 : FVec F S512x5 .f32) (main_arg6 : FVec F S50000 .f32) (main_arg7 : FVec F S50000 .f32) (main_arg8 : FVec F S50000 .f32) (main_arg9 : FVec F S50000 .f32) : IVec S1600000x2 1 × IVec S1600000 1 × IVec S1x50000 1 × IVec S1600000 1 × IVec S512x5 1 :=
  let main_c : IVec S_ 32 := constantI S_ 32 0#32
  let main_v0 : IVec S1600000x2 32 := broadcastInDim S1600000x2 ![] bcast_S_S1600000x2 main_c
  let main_v1 : IVec S1600000x2 1 := cmpi .sge main_arg4 main_v0
  let main_c_0 : IVec S_ 32 := constantI S_ 32 50000#32
  let main_v2 : IVec S1600000x2 32 := broadcastInDim S1600000x2 ![] bcast_S_S1600000x2 main_c_0
  let main_v3 : IVec S1600000x2 1 := cmpi .slt main_arg4 main_v2
  let main_v4 : IVec S1600000x2 1 := andi main_v1 main_v3
  let main_c_1 : IVec S_ 32 := constantI S_ 32 0#32
  let main_v5 : IVec S1600000 32 := broadcastInDim S1600000 ![] bcast_S_S1600000 main_c_1
  let main_v6 : IVec S1600000 1 := cmpi .sge main_arg3 main_v5
  let main_c_2 : IVec S_ 32 := constantI S_ 32 512#32
  let main_v7 : IVec S1600000 32 := broadcastInDim S1600000 ![] bcast_S_S1600000 main_c_2
  let main_v8 : IVec S1600000 1 := cmpi .slt main_arg3 main_v7
  let main_v9 : IVec S1600000 1 := andi main_v6 main_v8
  let main_cst : FVec F S_ .f32 := constant S_ .f32 0x00000000#32
  let main_v10 : FVec F S1x50000 .f32 := broadcastInDim S1x50000 ![] bcast_S_S1x50000 main_cst
  let main_v11 : IVec S1x50000 1 := cmpf .oge main_arg0 main_v10
  let main_cst_3 : FVec F S_ .f32 := constant S_ .f32 0x7F800000#32
  let main_v12 : FVec F S1x50000 .f32 := broadcastInDim S1x50000 ![] bcast_S_S1x50000 main_cst_3
  let main_v13 : IVec S1x50000 1 := cmpf .olt main_arg0 main_v12
  let main_v14 : IVec S1x50000 1 := andi main_v11 main_v13
  let main_v15 : FVec F S1600000 .f32 := Host.absf main_arg2
  let main_cst_4 : FVec F S_ .f32 := constant S_ .f32 0x7F800000#32
  let main_v16 : FVec F S1600000 .f32 := broadcastInDim S1600000 ![] bcast_S_S1600000 main_cst_4
  fn_part1 (F := F) main_arg5 main_v4 main_v9 main_v14 main_v15 main_v16
-- ==== Kernel.lean ====
abbrev S1x50000 : Shape := ⟨2, ![1, 50000]⟩
abbrev S1600000 : Shape := ⟨1, ![1600000]⟩
abbrev S1600000x2 : Shape := ⟨2, ![1600000, 2]⟩
abbrev S512x5 : Shape := ⟨2, ![512, 5]⟩
abbrev S50000 : Shape := ⟨1, ![50000]⟩
abbrev S1600000x1 : Shape := ⟨2, ![1600000, 1]⟩
abbrev S2560 : Shape := ⟨1, ![2560]⟩
abbrev S1605632 : Shape := ⟨1, ![1605632]⟩
abbrev S512 : Shape := ⟨1, ![512]⟩
abbrev S50176 : Shape := ⟨1, ![50176]⟩
abbrev S2000 : Shape := ⟨1, ![2000]⟩
abbrev S_ : Shape := ⟨0, ![]⟩
abbrev S16 : Shape := ⟨1, ![16]⟩
abbrev S1568 : Shape := ⟨1, ![1568]⟩
abbrev S1392 : Shape := ⟨1, ![1392]⟩

abbrev nBuf : Table → Nat
  | .hbm => 21
  | .local .scVector .vmem => 20
  | _ => 0

abbrev bufTy : (tb : Table) → Fin (nBuf tb) → BufTy
  | .hbm, ⟨0, _⟩ => ⟨S1x50000, .f32⟩
  | .hbm, ⟨1, _⟩ => ⟨S1x50000, .f32⟩
  | .hbm, ⟨2, _⟩ => ⟨S1600000, .f32⟩
  | .hbm, ⟨3, _⟩ => ⟨S1600000, .i32⟩
  | .hbm, ⟨4, _⟩ => ⟨S1600000x2, .i32⟩
  | .hbm, ⟨5, _⟩ => ⟨S512x5, .f32⟩
  | .hbm, ⟨6, _⟩ => ⟨S50000, .f32⟩
  | .hbm, ⟨7, _⟩ => ⟨S50000, .f32⟩
  | .hbm, ⟨8, _⟩ => ⟨S50000, .f32⟩
  | .hbm, ⟨9, _⟩ => ⟨S50000, .f32⟩
  | .hbm, ⟨10, _⟩ => ⟨S1600000x1, .i32⟩
  | .hbm, ⟨11, _⟩ => ⟨S1600000, .i32⟩
  | .hbm, ⟨12, _⟩ => ⟨S1600000x1, .i32⟩
  | .hbm, ⟨13, _⟩ => ⟨S1600000, .i32⟩
  | .hbm, ⟨14, _⟩ => ⟨S2560, .f32⟩
  | .hbm, ⟨15, _⟩ => ⟨S50000, .f32⟩
  | .hbm, ⟨16, _⟩ => ⟨S1605632, .f32⟩
  | .hbm, ⟨17, _⟩ => ⟨S50000, .f32⟩
  | .hbm, ⟨18, _⟩ => ⟨S50176, .f32⟩
  | .hbm, ⟨19, _⟩ => ⟨S50000, .f32⟩
  | .hbm, ⟨20, _⟩ => ⟨S1x50000, .f32⟩
  | .local .scVector .vmem, ⟨0, _⟩ => ⟨S50000, .f32⟩
  | .local .scVector .vmem, ⟨1, _⟩ => ⟨S2560, .f32⟩
  | .local .scVector .vmem, ⟨2, _⟩ => ⟨S512, .f32⟩
  | .local .scVector .vmem, ⟨3, _⟩ => ⟨S50176, .f32⟩
  | .local .scVector .vmem, ⟨4, _⟩ => ⟨S2000, .i32⟩
  | .local .scVector .vmem, ⟨5, _⟩ => ⟨S2000, .i32⟩
  | .local .scVector .vmem, ⟨6, _⟩ => ⟨S2000, .i32⟩
  | .local .scVector .vmem, ⟨7, _⟩ => ⟨S2000, .i32⟩
  | .local .scVector .vmem, ⟨8, _⟩ => ⟨S2000, .i32⟩
  | .local .scVector .vmem, ⟨9, _⟩ => ⟨S2000, .i32⟩
  | .local .scVector .vmem, ⟨10, _⟩ => ⟨S2000, .f32⟩
  | .local .scVector .vmem, ⟨11, _⟩ => ⟨S2000, .f32⟩
  | .local .scVector .vmem, ⟨12, _⟩ => ⟨S50176, .f32⟩
  | .local .scVector .vmem, ⟨13, _⟩ => ⟨S1568, .f32⟩
  | .local .scVector .vmem, ⟨14, _⟩ => ⟨S1568, .f32⟩
  | .local .scVector .vmem, ⟨15, _⟩ => ⟨S1568, .f32⟩
  | .local .scVector .vmem, ⟨16, _⟩ => ⟨S1568, .f32⟩
  | .local .scVector .vmem, ⟨17, _⟩ => ⟨S1568, .f32⟩
  | .local .scVector .vmem, ⟨18, _⟩ => ⟨S1568, .f32⟩
  | .local .scVector .vmem, ⟨19, _⟩ => ⟨S1568, .f32⟩
  | _, _ => ⟨S1x50000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v1_scv : Ref sig .scVector := ⟨.hbm, 11, rfl⟩
abbrev main_v3_scv : Ref sig .scVector := ⟨.hbm, 13, rfl⟩
abbrev main_arg3_scv : Ref sig .scVector := ⟨.hbm, 3, rfl⟩
abbrev main_arg2_scv : Ref sig .scVector := ⟨.hbm, 2, rfl⟩
abbrev main_v5_scv : Ref sig .scVector := ⟨.hbm, 15, rfl⟩
abbrev main_v4_scv : Ref sig .scVector := ⟨.hbm, 14, rfl⟩
abbrev main_v6_scv : Ref sig .scVector := ⟨.hbm, 16, rfl⟩
abbrev main_v7_scv : Ref sig .scVector := ⟨.hbm, 17, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_arg9_scv : Ref sig .scVector := ⟨.hbm, 9, rfl⟩
abbrev main_v8_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_scratch0 : Ref sig .scVector := ⟨.vmem, 12, rfl⟩
abbrev cc1_scratch1 : Ref sig .scVector := ⟨.vmem, 13, rfl⟩
abbrev cc1_scratch2 : Ref sig .scVector := ⟨.vmem, 14, rfl⟩
abbrev cc1_scratch3 : Ref sig .scVector := ⟨.vmem, 15, rfl⟩
abbrev cc1_scratch4 : Ref sig .scVector := ⟨.vmem, 16, rfl⟩
abbrev cc1_scratch5 : Ref sig .scVector := ⟨.vmem, 17, rfl⟩
abbrev cc1_scratch6 : Ref sig .scVector := ⟨.vmem, 18, rfl⟩
abbrev cc1_scratch7 : Ref sig .scVector := ⟨.vmem, 19, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c50000_i32 : BitVec 32 := 50000#32
  let v2 : BitVec 32 := Scalar.muli v1 c50000_i32
  let c0_i32 : BitVec 32 := 0#32
  let v3 : BitVec 32 := Scalar.addi v2 c0_i32
  ![v3.toNat]
@[reducible] def k0_t1_loop : Scf.Loop 32 :=
  let c0_i32_1 : BitVec 32 := 0#32
  let c784_i32 : BitVec 32 := 784#32
  let v13 : BitVec 32 := Scalar.addi c0_i32_1 c784_i32
  let c1_i32 : BitVec 32 := 1#32
  ⟨c0_i32_1, v13, c1_i32⟩
def k0_off2 (k0_t1 : Fin k0_t1_loop.trips) (c0_i32_23 : BitVec 32) : Fin 1 → Nat :=
  let c0_i32_1 : BitVec 32 := 0#32
  let c1_i32 : BitVec 32 := 1#32
  let arg25 : BitVec 32 := Scf.iv c0_i32_1 c1_i32 k0_t1
  let c4_i32 : BitVec 32 := 4#32
  let v27 : BitVec 32 := Scalar.muli arg25 c4_i32
  let v28 : BitVec 32 := Scalar.addi v27 c0_i32_23
  let c16_i32_24 : BitVec 32 := 16#32
  let v29 : BitVec 32 := Scalar.muli v28 c16_i32_24
  let v30 : Index := Scalar.indexCast v29
  ![v30.toNat]
@[reducible] def k0_t2_loop : Scf.Loop 32 :=
  let c0_i32_4 : BitVec 32 := 0#32
  let c32_i32 : BitVec 32 := 32#32
  let v15 : BitVec 32 := Scalar.addi c0_i32_4 c32_i32
  let c1_i32_5 : BitVec 32 := 1#32
  ⟨c0_i32_4, v15, c1_i32_5⟩

def k0_chk1 (v31 : IVec S16 32) : Prop :=
  (∀ a x, ((![v31] : Fin 1 → IVec S16 32) a x).toNat < S2560.size a)
theorem k0_idx1_inb : ∀ (v31 : IVec S16 32) (k0_hw1 : k0_chk1 v31), ∀ a x, ((![v31] : Fin 1 → IVec S16 32) a x).toNat < S2560.size a := fun v31 k0_hw1 => k0_hw1

def k0_chk2 (v34 : IVec S16 32) : Prop :=
  (∀ a x, ((![v34] : Fin 1 → IVec S16 32) a x).toNat < S2560.size a)
theorem k0_idx2_inb : ∀ (v34 : IVec S16 32) (k0_hw2 : k0_chk2 v34), ∀ a x, ((![v34] : Fin 1 → IVec S16 32) a x).toNat < S2560.size a := fun v34 k0_hw2 => k0_hw2

def k0_chk3 (v38 : IVec S16 32) : Prop :=
  (∀ a x, ((![v38] : Fin 1 → IVec S16 32) a x).toNat < S2560.size a)
theorem k0_idx3_inb : ∀ (v38 : IVec S16 32) (k0_hw3 : k0_chk3 v38), ∀ a x, ((![v38] : Fin 1 → IVec S16 32) a x).toNat < S2560.size a := fun v38 k0_hw3 => k0_hw3

def k0_chk4 (v42 : IVec S16 32) : Prop :=
  (∀ a x, ((![v42] : Fin 1 → IVec S16 32) a x).toNat < S2560.size a)
theorem k0_idx4_inb : ∀ (v42 : IVec S16 32) (k0_hw4 : k0_chk4 v42), ∀ a x, ((![v42] : Fin 1 → IVec S16 32) a x).toNat < S2560.size a := fun v42 k0_hw4 => k0_hw4

def k0_chk5 (v46 : IVec S16 32) : Prop :=
  (∀ a x, ((![v46] : Fin 1 → IVec S16 32) a x).toNat < S2560.size a)
theorem k0_idx5_inb : ∀ (v46 : IVec S16 32) (k0_hw5 : k0_chk5 v46), ∀ a x, ((![v46] : Fin 1 → IVec S16 32) a x).toNat < S2560.size a := fun v46 k0_hw5 => k0_hw5
def k0_off3 (k0_t2 : Fin k0_t2_loop.trips) : Fin 1 → Nat :=
  let c0_i32_4 : BitVec 32 := 0#32
  let c1_i32_5 : BitVec 32 := 1#32
  let arg25 : BitVec 32 := Scf.iv c0_i32_4 c1_i32_5 k0_t2
  let c16_i32_25 : BitVec 32 := 16#32
  let v49 : BitVec 32 := Scalar.muli arg25 c16_i32_25
  let v50 : Index := Scalar.indexCast v49
  ![v50.toNat]
@[reducible] def k0_t3_loop : Scf.Loop 32 :=
  let c0_i32_8 : BitVec 32 := 0#32
  let c12_i32 : BitVec 32 := 12#32
  let v16 : BitVec 32 := Scalar.addi c0_i32_8 c12_i32
  let c1_i32_9 : BitVec 32 := 1#32
  ⟨c0_i32_8, v16, c1_i32_9⟩
def k0_off4 (i : grid0.Coords) (k0_t3 : Fin k0_t3_loop.trips) (c1_i32_23 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c50000_i32 : BitVec 32 := 50000#32
  let v2 : BitVec 32 := Scalar.muli v1 c50000_i32
  let c0_i32_8 : BitVec 32 := 0#32
  let c1_i32_9 : BitVec 32 := 1#32
  let arg25 : BitVec 32 := Scf.iv c0_i32_8 c1_i32_9 k0_t3
  let c2_i32 : BitVec 32 := 2#32
  let v27 : BitVec 32 := Scalar.muli arg25 c2_i32
  let v28 : BitVec 32 := Scalar.addi v27 c1_i32_23
  let c2000_i32 : BitVec 32 := 2000#32
  let v29 : BitVec 32 := Scalar.muli v28 c2000_i32
  let v30 : BitVec 32 := Scalar.addi v2 v29
  ![v30.toNat]
@[reducible] def k0_t4_loop : Scf.Loop 32 :=
  let c0_i32_33 : BitVec 32 := 0#32
  let c25_i32_34 : BitVec 32 := 25#32
  let v47 : BitVec 32 := Scalar.addi c0_i32_33 c25_i32_34
  let c1_i32_35 : BitVec 32 := 1#32
  ⟨c0_i32_33, v47, c1_i32_35⟩
def k0_off5 (k0_t4 : Fin k0_t4_loop.trips) : Fin 1 → Nat :=
  let c0_i32_33 : BitVec 32 := 0#32
  let c1_i32_35 : BitVec 32 := 1#32
  let arg26 : BitVec 32 := Scf.iv c0_i32_33 c1_i32_35 k0_t4
  let c5_i32 : BitVec 32 := 5#32
  let v68 : BitVec 32 := Scalar.muli arg26 c5_i32
  let c0_i32_52 : BitVec 32 := 0#32
  let v69 : BitVec 32 := Scalar.addi v68 c0_i32_52
  let c16_i32_53 : BitVec 32 := 16#32
  let v70 : BitVec 32 := Scalar.muli v69 c16_i32_53
  let v71 : Index := Scalar.indexCast v70
  ![v71.toNat]

def k0_chk6 (v72 : IVec S16 32) : Prop :=
  (∀ a x, ((![v72] : Fin 1 → IVec S16 32) a x).toNat < S50000.size a)
theorem k0_idx6_inb : ∀ (v72 : IVec S16 32) (k0_hw6 : k0_chk6 v72), ∀ a x, ((![v72] : Fin 1 → IVec S16 32) a x).toNat < S50000.size a := fun v72 k0_hw6 => k0_hw6

def k0_chk7 (v78 : IVec S16 32) : Prop :=
  (∀ a x, ((![v78] : Fin 1 → IVec S16 32) a x).toNat < S512.size a)
theorem k0_idx7_inb : ∀ (v78 : IVec S16 32) (k0_hw7 : k0_chk7 v78), ∀ a x, ((![v78] : Fin 1 → IVec S16 32) a x).toNat < S512.size a := fun v78 k0_hw7 => k0_hw7

def k0_chk8 (v75 : IVec S16 32) : Prop :=
  (∀ a x, ((![v75] : Fin 1 → IVec S16 32) a x).toNat < S50176.size a)
theorem k0_idx8_inb : ∀ (v75 : IVec S16 32) (k0_hw8 : k0_chk8 v75), ∀ a x, ((![v75] : Fin 1 → IVec S16 32) a x).toNat < S50176.size a := fun v75 k0_hw8 => k0_hw8
def k0_off6 (k0_t4 : Fin k0_t4_loop.trips) : Fin 1 → Nat :=
  let c0_i32_33 : BitVec 32 := 0#32
  let c1_i32_35 : BitVec 32 := 1#32
  let arg26 : BitVec 32 := Scf.iv c0_i32_33 c1_i32_35 k0_t4
  let c5_i32_58 : BitVec 32 := 5#32
  let v88 : BitVec 32 := Scalar.muli arg26 c5_i32_58
  let c1_i32_59 : BitVec 32 := 1#32
  let v89 : BitVec 32 := Scalar.addi v88 c1_i32_59
  let c16_i32_60 : BitVec 32 := 16#32
  let v90 : BitVec 32 := Scalar.muli v89 c16_i32_60
  let v91 : Index := Scalar.indexCast v90
  ![v91.toNat]

def k0_chk9 (v92 : IVec S16 32) : Prop :=
  (∀ a x, ((![v92] : Fin 1 → IVec S16 32) a x).toNat < S50000.size a)
theorem k0_idx9_inb : ∀ (v92 : IVec S16 32) (k0_hw9 : k0_chk9 v92), ∀ a x, ((![v92] : Fin 1 → IVec S16 32) a x).toNat < S50000.size a := fun v92 k0_hw9 => k0_hw9

def k0_chk10 (v98 : IVec S16 32) : Prop :=
  (∀ a x, ((![v98] : Fin 1 → IVec S16 32) a x).toNat < S512.size a)
theorem k0_idx10_inb : ∀ (v98 : IVec S16 32) (k0_hw10 : k0_chk10 v98), ∀ a x, ((![v98] : Fin 1 → IVec S16 32) a x).toNat < S512.size a := fun v98 k0_hw10 => k0_hw10

def k0_chk11 (v95 : IVec S16 32) : Prop :=
  (∀ a x, ((![v95] : Fin 1 → IVec S16 32) a x).toNat < S50176.size a)
theorem k0_idx11_inb : ∀ (v95 : IVec S16 32) (k0_hw11 : k0_chk11 v95), ∀ a x, ((![v95] : Fin 1 → IVec S16 32) a x).toNat < S50176.size a := fun v95 k0_hw11 => k0_hw11
def k0_off7 (k0_t4 : Fin k0_t4_loop.trips) : Fin 1 → Nat :=
  let c0_i32_33 : BitVec 32 := 0#32
  let c1_i32_35 : BitVec 32 := 1#32
  let arg26 : BitVec 32 := Scf.iv c0_i32_33 c1_i32_35 k0_t4
  let c5_i32_65 : BitVec 32 := 5#32
  let v108 : BitVec 32 := Scalar.muli arg26 c5_i32_65
  let c2_i32_66 : BitVec 32 := 2#32
  let v109 : BitVec 32 := Scalar.addi v108 c2_i32_66
  let c16_i32_67 : BitVec 32 := 16#32
  let v110 : BitVec 32 := Scalar.muli v109 c16_i32_67
  let v111 : Index := Scalar.indexCast v110
  ![v111.toNat]

def k0_chk12 (v112 : IVec S16 32) : Prop :=
  (∀ a x, ((![v112] : Fin 1 → IVec S16 32) a x).toNat < S50000.size a)
theorem k0_idx12_inb : ∀ (v112 : IVec S16 32) (k0_hw12 : k0_chk12 v112), ∀ a x, ((![v112] : Fin 1 → IVec S16 32) a x).toNat < S50000.size a := fun v112 k0_hw12 => k0_hw12

def k0_chk13 (v118 : IVec S16 32) : Prop :=
  (∀ a x, ((![v118] : Fin 1 → IVec S16 32) a x).toNat < S512.size a)
theorem k0_idx13_inb : ∀ (v118 : IVec S16 32) (k0_hw13 : k0_chk13 v118), ∀ a x, ((![v118] : Fin 1 → IVec S16 32) a x).toNat < S512.size a := fun v118 k0_hw13 => k0_hw13

def k0_chk14 (v115 : IVec S16 32) : Prop :=
  (∀ a x, ((![v115] : Fin 1 → IVec S16 32) a x).toNat < S50176.size a)
theorem k0_idx14_inb : ∀ (v115 : IVec S16 32) (k0_hw14 : k0_chk14 v115), ∀ a x, ((![v115] : Fin 1 → IVec S16 32) a x).toNat < S50176.size a := fun v115 k0_hw14 => k0_hw14
def k0_off8 (k0_t4 : Fin k0_t4_loop.trips) : Fin 1 → Nat :=
  let c0_i32_33 : BitVec 32 := 0#32
  let c1_i32_35 : BitVec 32 := 1#32
  let arg26 : BitVec 32 := Scf.iv c0_i32_33 c1_i32_35 k0_t4
  let c5_i32_72 : BitVec 32 := 5#32
  let v128 : BitVec 32 := Scalar.muli arg26 c5_i32_72
  let c3_i32 : BitVec 32 := 3#32
  let v129 : BitVec 32 := Scalar.addi v128 c3_i32
  let c16_i32_73 : BitVec 32 := 16#32
  let v130 : BitVec 32 := Scalar.muli v129 c16_i32_73
  let v131 : Index := Scalar.indexCast v130
  ![v131.toNat]

def k0_chk15 (v132 : IVec S16 32) : Prop :=
  (∀ a x, ((![v132] : Fin 1 → IVec S16 32) a x).toNat < S50000.size a)
theorem k0_idx15_inb : ∀ (v132 : IVec S16 32) (k0_hw15 : k0_chk15 v132), ∀ a x, ((![v132] : Fin 1 → IVec S16 32) a x).toNat < S50000.size a := fun v132 k0_hw15 => k0_hw15

def k0_chk16 (v138 : IVec S16 32) : Prop :=
  (∀ a x, ((![v138] : Fin 1 → IVec S16 32) a x).toNat < S512.size a)
theorem k0_idx16_inb : ∀ (v138 : IVec S16 32) (k0_hw16 : k0_chk16 v138), ∀ a x, ((![v138] : Fin 1 → IVec S16 32) a x).toNat < S512.size a := fun v138 k0_hw16 => k0_hw16

def k0_chk17 (v135 : IVec S16 32) : Prop :=
  (∀ a x, ((![v135] : Fin 1 → IVec S16 32) a x).toNat < S50176.size a)
theorem k0_idx17_inb : ∀ (v135 : IVec S16 32) (k0_hw17 : k0_chk17 v135), ∀ a x, ((![v135] : Fin 1 → IVec S16 32) a x).toNat < S50176.size a := fun v135 k0_hw17 => k0_hw17
def k0_off9 (k0_t4 : Fin k0_t4_loop.trips) : Fin 1 → Nat :=
  let c0_i32_33 : BitVec 32 := 0#32
  let c1_i32_35 : BitVec 32 := 1#32
  let arg26 : BitVec 32 := Scf.iv c0_i32_33 c1_i32_35 k0_t4
  let c5_i32_78 : BitVec 32 := 5#32
  let v148 : BitVec 32 := Scalar.muli arg26 c5_i32_78
  let c4_i32 : BitVec 32 := 4#32
  let v149 : BitVec 32 := Scalar.addi v148 c4_i32
  let c16_i32_79 : BitVec 32 := 16#32
  let v150 : BitVec 32 := Scalar.muli v149 c16_i32_79
  let v151 : Index := Scalar.indexCast v150
  ![v151.toNat]

def k0_chk18 (v152 : IVec S16 32) : Prop :=
  (∀ a x, ((![v152] : Fin 1 → IVec S16 32) a x).toNat < S50000.size a)
theorem k0_idx18_inb : ∀ (v152 : IVec S16 32) (k0_hw18 : k0_chk18 v152), ∀ a x, ((![v152] : Fin 1 → IVec S16 32) a x).toNat < S50000.size a := fun v152 k0_hw18 => k0_hw18

def k0_chk19 (v158 : IVec S16 32) : Prop :=
  (∀ a x, ((![v158] : Fin 1 → IVec S16 32) a x).toNat < S512.size a)
theorem k0_idx19_inb : ∀ (v158 : IVec S16 32) (k0_hw19 : k0_chk19 v158), ∀ a x, ((![v158] : Fin 1 → IVec S16 32) a x).toNat < S512.size a := fun v158 k0_hw19 => k0_hw19

def k0_chk20 (v155 : IVec S16 32) : Prop :=
  (∀ a x, ((![v155] : Fin 1 → IVec S16 32) a x).toNat < S50176.size a)
theorem k0_idx20_inb : ∀ (v155 : IVec S16 32) (k0_hw20 : k0_chk20 v155), ∀ a x, ((![v155] : Fin 1 → IVec S16 32) a x).toNat < S50176.size a := fun v155 k0_hw20 => k0_hw20
@[reducible] def k0_t5_loop : Scf.Loop 32 :=
  let c0_i32_48 : BitVec 32 := 0#32
  let c25_i32_49 : BitVec 32 := 25#32
  let v67 : BitVec 32 := Scalar.addi c0_i32_48 c25_i32_49
  let c1_i32_50 : BitVec 32 := 1#32
  ⟨c0_i32_48, v67, c1_i32_50⟩
def k0_off10 (k0_t5 : Fin k0_t5_loop.trips) : Fin 1 → Nat :=
  let c0_i32_48 : BitVec 32 := 0#32
  let c1_i32_50 : BitVec 32 := 1#32
  let arg26 : BitVec 32 := Scf.iv c0_i32_48 c1_i32_50 k0_t5
  let c5_i32 : BitVec 32 := 5#32
  let v68 : BitVec 32 := Scalar.muli arg26 c5_i32
  let c0_i32_52 : BitVec 32 := 0#32
  let v69 : BitVec 32 := Scalar.addi v68 c0_i32_52
  let c16_i32_53 : BitVec 32 := 16#32
  let v70 : BitVec 32 := Scalar.muli v69 c16_i32_53
  let v71 : Index := Scalar.indexCast v70
  ![v71.toNat]

def k0_chk21 (v72 : IVec S16 32) : Prop :=
  (∀ a x, ((![v72] : Fin 1 → IVec S16 32) a x).toNat < S50000.size a)
theorem k0_idx21_inb : ∀ (v72 : IVec S16 32) (k0_hw21 : k0_chk21 v72), ∀ a x, ((![v72] : Fin 1 → IVec S16 32) a x).toNat < S50000.size a := fun v72 k0_hw21 => k0_hw21

def k0_chk22 (v78 : IVec S16 32) : Prop :=
  (∀ a x, ((![v78] : Fin 1 → IVec S16 32) a x).toNat < S512.size a)
theorem k0_idx22_inb : ∀ (v78 : IVec S16 32) (k0_hw22 : k0_chk22 v78), ∀ a x, ((![v78] : Fin 1 → IVec S16 32) a x).toNat < S512.size a := fun v78 k0_hw22 => k0_hw22

def k0_chk23 (v75 : IVec S16 32) : Prop :=
  (∀ a x, ((![v75] : Fin 1 → IVec S16 32) a x).toNat < S50176.size a)
theorem k0_idx23_inb : ∀ (v75 : IVec S16 32) (k0_hw23 : k0_chk23 v75), ∀ a x, ((![v75] : Fin 1 → IVec S16 32) a x).toNat < S50176.size a := fun v75 k0_hw23 => k0_hw23
def k0_off11 (k0_t5 : Fin k0_t5_loop.trips) : Fin 1 → Nat :=
  let c0_i32_48 : BitVec 32 := 0#32
  let c1_i32_50 : BitVec 32 := 1#32
  let arg26 : BitVec 32 := Scf.iv c0_i32_48 c1_i32_50 k0_t5
  let c5_i32_58 : BitVec 32 := 5#32
  let v88 : BitVec 32 := Scalar.muli arg26 c5_i32_58
  let c1_i32_59 : BitVec 32 := 1#32
  let v89 : BitVec 32 := Scalar.addi v88 c1_i32_59
  let c16_i32_60 : BitVec 32 := 16#32
  let v90 : BitVec 32 := Scalar.muli v89 c16_i32_60
  let v91 : Index := Scalar.indexCast v90
  ![v91.toNat]

def k0_chk24 (v92 : IVec S16 32) : Prop :=
  (∀ a x, ((![v92] : Fin 1 → IVec S16 32) a x).toNat < S50000.size a)
theorem k0_idx24_inb : ∀ (v92 : IVec S16 32) (k0_hw24 : k0_chk24 v92), ∀ a x, ((![v92] : Fin 1 → IVec S16 32) a x).toNat < S50000.size a := fun v92 k0_hw24 => k0_hw24

def k0_chk25 (v98 : IVec S16 32) : Prop :=
  (∀ a x, ((![v98] : Fin 1 → IVec S16 32) a x).toNat < S512.size a)
theorem k0_idx25_inb : ∀ (v98 : IVec S16 32) (k0_hw25 : k0_chk25 v98), ∀ a x, ((![v98] : Fin 1 → IVec S16 32) a x).toNat < S512.size a := fun v98 k0_hw25 => k0_hw25

def k0_chk26 (v95 : IVec S16 32) : Prop :=
  (∀ a x, ((![v95] : Fin 1 → IVec S16 32) a x).toNat < S50176.size a)
theorem k0_idx26_inb : ∀ (v95 : IVec S16 32) (k0_hw26 : k0_chk26 v95), ∀ a x, ((![v95] : Fin 1 → IVec S16 32) a x).toNat < S50176.size a := fun v95 k0_hw26 => k0_hw26
def k0_off12 (k0_t5 : Fin k0_t5_loop.trips) : Fin 1 → Nat :=
  let c0_i32_48 : BitVec 32 := 0#32
  let c1_i32_50 : BitVec 32 := 1#32
  let arg26 : BitVec 32 := Scf.iv c0_i32_48 c1_i32_50 k0_t5
  let c5_i32_65 : BitVec 32 := 5#32
  let v108 : BitVec 32 := Scalar.muli arg26 c5_i32_65
  let c2_i32_66 : BitVec 32 := 2#32
  let v109 : BitVec 32 := Scalar.addi v108 c2_i32_66
  let c16_i32_67 : BitVec 32 := 16#32
  let v110 : BitVec 32 := Scalar.muli v109 c16_i32_67
  let v111 : Index := Scalar.indexCast v110
  ![v111.toNat]

def k0_chk27 (v112 : IVec S16 32) : Prop :=
  (∀ a x, ((![v112] : Fin 1 → IVec S16 32) a x).toNat < S50000.size a)
theorem k0_idx27_inb : ∀ (v112 : IVec S16 32) (k0_hw27 : k0_chk27 v112), ∀ a x, ((![v112] : Fin 1 → IVec S16 32) a x).toNat < S50000.size a := fun v112 k0_hw27 => k0_hw27

def k0_chk28 (v118 : IVec S16 32) : Prop :=
  (∀ a x, ((![v118] : Fin 1 → IVec S16 32) a x).toNat < S512.size a)
theorem k0_idx28_inb : ∀ (v118 : IVec S16 32) (k0_hw28 : k0_chk28 v118), ∀ a x, ((![v118] : Fin 1 → IVec S16 32) a x).toNat < S512.size a := fun v118 k0_hw28 => k0_hw28

def k0_chk29 (v115 : IVec S16 32) : Prop :=
  (∀ a x, ((![v115] : Fin 1 → IVec S16 32) a x).toNat < S50176.size a)
theorem k0_idx29_inb : ∀ (v115 : IVec S16 32) (k0_hw29 : k0_chk29 v115), ∀ a x, ((![v115] : Fin 1 → IVec S16 32) a x).toNat < S50176.size a := fun v115 k0_hw29 => k0_hw29
def k0_off13 (k0_t5 : Fin k0_t5_loop.trips) : Fin 1 → Nat :=
  let c0_i32_48 : BitVec 32 := 0#32
  let c1_i32_50 : BitVec 32 := 1#32
  let arg26 : BitVec 32 := Scf.iv c0_i32_48 c1_i32_50 k0_t5
  let c5_i32_72 : BitVec 32 := 5#32
  let v128 : BitVec 32 := Scalar.muli arg26 c5_i32_72
  let c3_i32 : BitVec 32 := 3#32
  let v129 : BitVec 32 := Scalar.addi v128 c3_i32
  let c16_i32_73 : BitVec 32 := 16#32
  let v130 : BitVec 32 := Scalar.muli v129 c16_i32_73
  let v131 : Index := Scalar.indexCast v130
  ![v131.toNat]

def k0_chk30 (v132 : IVec S16 32) : Prop :=
  (∀ a x, ((![v132] : Fin 1 → IVec S16 32) a x).toNat < S50000.size a)
theorem k0_idx30_inb : ∀ (v132 : IVec S16 32) (k0_hw30 : k0_chk30 v132), ∀ a x, ((![v132] : Fin 1 → IVec S16 32) a x).toNat < S50000.size a := fun v132 k0_hw30 => k0_hw30

def k0_chk31 (v138 : IVec S16 32) : Prop :=
  (∀ a x, ((![v138] : Fin 1 → IVec S16 32) a x).toNat < S512.size a)
theorem k0_idx31_inb : ∀ (v138 : IVec S16 32) (k0_hw31 : k0_chk31 v138), ∀ a x, ((![v138] : Fin 1 → IVec S16 32) a x).toNat < S512.size a := fun v138 k0_hw31 => k0_hw31

def k0_chk32 (v135 : IVec S16 32) : Prop :=
  (∀ a x, ((![v135] : Fin 1 → IVec S16 32) a x).toNat < S50176.size a)
theorem k0_idx32_inb : ∀ (v135 : IVec S16 32) (k0_hw32 : k0_chk32 v135), ∀ a x, ((![v135] : Fin 1 → IVec S16 32) a x).toNat < S50176.size a := fun v135 k0_hw32 => k0_hw32
def k0_off14 (k0_t5 : Fin k0_t5_loop.trips) : Fin 1 → Nat :=
  let c0_i32_48 : BitVec 32 := 0#32
  let c1_i32_50 : BitVec 32 := 1#32
  let arg26 : BitVec 32 := Scf.iv c0_i32_48 c1_i32_50 k0_t5
  let c5_i32_78 : BitVec 32 := 5#32
  let v148 : BitVec 32 := Scalar.muli arg26 c5_i32_78
  let c4_i32 : BitVec 32 := 4#32
  let v149 : BitVec 32 := Scalar.addi v148 c4_i32
  let c16_i32_79 : BitVec 32 := 16#32
  let v150 : BitVec 32 := Scalar.muli v149 c16_i32_79
  let v151 : Index := Scalar.indexCast v150
  ![v151.toNat]

def k0_chk33 (v152 : IVec S16 32) : Prop :=
  (∀ a x, ((![v152] : Fin 1 → IVec S16 32) a x).toNat < S50000.size a)
theorem k0_idx33_inb : ∀ (v152 : IVec S16 32) (k0_hw33 : k0_chk33 v152), ∀ a x, ((![v152] : Fin 1 → IVec S16 32) a x).toNat < S50000.size a := fun v152 k0_hw33 => k0_hw33

def k0_chk34 (v158 : IVec S16 32) : Prop :=
  (∀ a x, ((![v158] : Fin 1 → IVec S16 32) a x).toNat < S512.size a)
theorem k0_idx34_inb : ∀ (v158 : IVec S16 32) (k0_hw34 : k0_chk34 v158), ∀ a x, ((![v158] : Fin 1 → IVec S16 32) a x).toNat < S512.size a := fun v158 k0_hw34 => k0_hw34

def k0_chk35 (v155 : IVec S16 32) : Prop :=
  (∀ a x, ((![v155] : Fin 1 → IVec S16 32) a x).toNat < S50176.size a)
theorem k0_idx35_inb : ∀ (v155 : IVec S16 32) (k0_hw35 : k0_chk35 v155), ∀ a x, ((![v155] : Fin 1 → IVec S16 32) a x).toNat < S50176.size a := fun v155 k0_hw35 => k0_hw35
@[reducible] def k0_t6_loop : Scf.Loop 32 :=
  let c0_i32_20 : BitVec 32 := 0#32
  let c25_i32 : BitVec 32 := 25#32
  let v25 : BitVec 32 := Scalar.addi c0_i32_20 c25_i32
  let c1_i32_21 : BitVec 32 := 1#32
  ⟨c0_i32_20, v25, c1_i32_21⟩
def k0_off15 (k0_t6 : Fin k0_t6_loop.trips) : Fin 1 → Nat :=
  let c0_i32_20 : BitVec 32 := 0#32
  let c1_i32_21 : BitVec 32 := 1#32
  let arg25 : BitVec 32 := Scf.iv c0_i32_20 c1_i32_21 k0_t6
  let c5_i32 : BitVec 32 := 5#32
  let v27 : BitVec 32 := Scalar.muli arg25 c5_i32
  let c0_i32_23 : BitVec 32 := 0#32
  let v28 : BitVec 32 := Scalar.addi v27 c0_i32_23
  let c16_i32_24 : BitVec 32 := 16#32
  let v29 : BitVec 32 := Scalar.muli v28 c16_i32_24
  let v30 : Index := Scalar.indexCast v29
  ![v30.toNat]

def k0_chk36 (v31 : IVec S16 32) : Prop :=
  (∀ a x, ((![v31] : Fin 1 → IVec S16 32) a x).toNat < S50000.size a)
theorem k0_idx36_inb : ∀ (v31 : IVec S16 32) (k0_hw36 : k0_chk36 v31), ∀ a x, ((![v31] : Fin 1 → IVec S16 32) a x).toNat < S50000.size a := fun v31 k0_hw36 => k0_hw36

def k0_chk37 (v37 : IVec S16 32) : Prop :=
  (∀ a x, ((![v37] : Fin 1 → IVec S16 32) a x).toNat < S512.size a)
theorem k0_idx37_inb : ∀ (v37 : IVec S16 32) (k0_hw37 : k0_chk37 v37), ∀ a x, ((![v37] : Fin 1 → IVec S16 32) a x).toNat < S512.size a := fun v37 k0_hw37 => k0_hw37

def k0_chk38 (v34 : IVec S16 32) : Prop :=
  (∀ a x, ((![v34] : Fin 1 → IVec S16 32) a x).toNat < S50176.size a)
theorem k0_idx38_inb : ∀ (v34 : IVec S16 32) (k0_hw38 : k0_chk38 v34), ∀ a x, ((![v34] : Fin 1 → IVec S16 32) a x).toNat < S50176.size a := fun v34 k0_hw38 => k0_hw38
def k0_off16 (k0_t6 : Fin k0_t6_loop.trips) : Fin 1 → Nat :=
  let c0_i32_20 : BitVec 32 := 0#32
  let c1_i32_21 : BitVec 32 := 1#32
  let arg25 : BitVec 32 := Scf.iv c0_i32_20 c1_i32_21 k0_t6
  let c5_i32_29 : BitVec 32 := 5#32
  let v47 : BitVec 32 := Scalar.muli arg25 c5_i32_29
  let c1_i32_30 : BitVec 32 := 1#32
  let v48 : BitVec 32 := Scalar.addi v47 c1_i32_30
  let c16_i32_31 : BitVec 32 := 16#32
  let v49 : BitVec 32 := Scalar.muli v48 c16_i32_31
  let v50 : Index := Scalar.indexCast v49
  ![v50.toNat]

def k0_chk39 (v51 : IVec S16 32) : Prop :=
  (∀ a x, ((![v51] : Fin 1 → IVec S16 32) a x).toNat < S50000.size a)
theorem k0_idx39_inb : ∀ (v51 : IVec S16 32) (k0_hw39 : k0_chk39 v51), ∀ a x, ((![v51] : Fin 1 → IVec S16 32) a x).toNat < S50000.size a := fun v51 k0_hw39 => k0_hw39

def k0_chk40 (v57 : IVec S16 32) : Prop :=
  (∀ a x, ((![v57] : Fin 1 → IVec S16 32) a x).toNat < S512.size a)
theorem k0_idx40_inb : ∀ (v57 : IVec S16 32) (k0_hw40 : k0_chk40 v57), ∀ a x, ((![v57] : Fin 1 → IVec S16 32) a x).toNat < S512.size a := fun v57 k0_hw40 => k0_hw40

def k0_chk41 (v54 : IVec S16 32) : Prop :=
  (∀ a x, ((![v54] : Fin 1 → IVec S16 32) a x).toNat < S50176.size a)
theorem k0_idx41_inb : ∀ (v54 : IVec S16 32) (k0_hw41 : k0_chk41 v54), ∀ a x, ((![v54] : Fin 1 → IVec S16 32) a x).toNat < S50176.size a := fun v54 k0_hw41 => k0_hw41
def k0_off17 (k0_t6 : Fin k0_t6_loop.trips) : Fin 1 → Nat :=
  let c0_i32_20 : BitVec 32 := 0#32
  let c1_i32_21 : BitVec 32 := 1#32
  let arg25 : BitVec 32 := Scf.iv c0_i32_20 c1_i32_21 k0_t6
  let c5_i32_36 : BitVec 32 := 5#32
  let v67 : BitVec 32 := Scalar.muli arg25 c5_i32_36
  let c2_i32 : BitVec 32 := 2#32
  let v68 : BitVec 32 := Scalar.addi v67 c2_i32
  let c16_i32_37 : BitVec 32 := 16#32
  let v69 : BitVec 32 := Scalar.muli v68 c16_i32_37
  let v70 : Index := Scalar.indexCast v69
  ![v70.toNat]

def k0_chk42 (v71 : IVec S16 32) : Prop :=
  (∀ a x, ((![v71] : Fin 1 → IVec S16 32) a x).toNat < S50000.size a)
theorem k0_idx42_inb : ∀ (v71 : IVec S16 32) (k0_hw42 : k0_chk42 v71), ∀ a x, ((![v71] : Fin 1 → IVec S16 32) a x).toNat < S50000.size a := fun v71 k0_hw42 => k0_hw42

def k0_chk43 (v77 : IVec S16 32) : Prop :=
  (∀ a x, ((![v77] : Fin 1 → IVec S16 32) a x).toNat < S512.size a)
theorem k0_idx43_inb : ∀ (v77 : IVec S16 32) (k0_hw43 : k0_chk43 v77), ∀ a x, ((![v77] : Fin 1 → IVec S16 32) a x).toNat < S512.size a := fun v77 k0_hw43 => k0_hw43

def k0_chk44 (v74 : IVec S16 32) : Prop :=
  (∀ a x, ((![v74] : Fin 1 → IVec S16 32) a x).toNat < S50176.size a)
theorem k0_idx44_inb : ∀ (v74 : IVec S16 32) (k0_hw44 : k0_chk44 v74), ∀ a x, ((![v74] : Fin 1 → IVec S16 32) a x).toNat < S50176.size a := fun v74 k0_hw44 => k0_hw44
def k0_off18 (k0_t6 : Fin k0_t6_loop.trips) : Fin 1 → Nat :=
  let c0_i32_20 : BitVec 32 := 0#32
  let c1_i32_21 : BitVec 32 := 1#32
  let arg25 : BitVec 32 := Scf.iv c0_i32_20 c1_i32_21 k0_t6
  let c5_i32_42 : BitVec 32 := 5#32
  let v87 : BitVec 32 := Scalar.muli arg25 c5_i32_42
  let c3_i32 : BitVec 32 := 3#32
  let v88 : BitVec 32 := Scalar.addi v87 c3_i32
  let c16_i32_43 : BitVec 32 := 16#32
  let v89 : BitVec 32 := Scalar.muli v88 c16_i32_43
  let v90 : Index := Scalar.indexCast v89
  ![v90.toNat]

def k0_chk45 (v91 : IVec S16 32) : Prop :=
  (∀ a x, ((![v91] : Fin 1 → IVec S16 32) a x).toNat < S50000.size a)
theorem k0_idx45_inb : ∀ (v91 : IVec S16 32) (k0_hw45 : k0_chk45 v91), ∀ a x, ((![v91] : Fin 1 → IVec S16 32) a x).toNat < S50000.size a := fun v91 k0_hw45 => k0_hw45

def k0_chk46 (v97 : IVec S16 32) : Prop :=
  (∀ a x, ((![v97] : Fin 1 → IVec S16 32) a x).toNat < S512.size a)
theorem k0_idx46_inb : ∀ (v97 : IVec S16 32) (k0_hw46 : k0_chk46 v97), ∀ a x, ((![v97] : Fin 1 → IVec S16 32) a x).toNat < S512.size a := fun v97 k0_hw46 => k0_hw46

def k0_chk47 (v94 : IVec S16 32) : Prop :=
  (∀ a x, ((![v94] : Fin 1 → IVec S16 32) a x).toNat < S50176.size a)
theorem k0_idx47_inb : ∀ (v94 : IVec S16 32) (k0_hw47 : k0_chk47 v94), ∀ a x, ((![v94] : Fin 1 → IVec S16 32) a x).toNat < S50176.size a := fun v94 k0_hw47 => k0_hw47
def k0_off19 (k0_t6 : Fin k0_t6_loop.trips) : Fin 1 → Nat :=
  let c0_i32_20 : BitVec 32 := 0#32
  let c1_i32_21 : BitVec 32 := 1#32
  let arg25 : BitVec 32 := Scf.iv c0_i32_20 c1_i32_21 k0_t6
  let c5_i32_48 : BitVec 32 := 5#32
  let v107 : BitVec 32 := Scalar.muli arg25 c5_i32_48
  let c4_i32 : BitVec 32 := 4#32
  let v108 : BitVec 32 := Scalar.addi v107 c4_i32
  let c16_i32_49 : BitVec 32 := 16#32
  let v109 : BitVec 32 := Scalar.muli v108 c16_i32_49
  let v110 : Index := Scalar.indexCast v109
  ![v110.toNat]

def k0_chk48 (v111 : IVec S16 32) : Prop :=
  (∀ a x, ((![v111] : Fin 1 → IVec S16 32) a x).toNat < S50000.size a)
theorem k0_idx48_inb : ∀ (v111 : IVec S16 32) (k0_hw48 : k0_chk48 v111), ∀ a x, ((![v111] : Fin 1 → IVec S16 32) a x).toNat < S50000.size a := fun v111 k0_hw48 => k0_hw48

def k0_chk49 (v117 : IVec S16 32) : Prop :=
  (∀ a x, ((![v117] : Fin 1 → IVec S16 32) a x).toNat < S512.size a)
theorem k0_idx49_inb : ∀ (v117 : IVec S16 32) (k0_hw49 : k0_chk49 v117), ∀ a x, ((![v117] : Fin 1 → IVec S16 32) a x).toNat < S512.size a := fun v117 k0_hw49 => k0_hw49

def k0_chk50 (v114 : IVec S16 32) : Prop :=
  (∀ a x, ((![v114] : Fin 1 → IVec S16 32) a x).toNat < S50176.size a)
theorem k0_idx50_inb : ∀ (v114 : IVec S16 32) (k0_hw50 : k0_chk50 v114), ∀ a x, ((![v114] : Fin 1 → IVec S16 32) a x).toNat < S50176.size a := fun v114 k0_hw50 => k0_hw50
def k0_off20 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c50176_i32 : BitVec 32 := 50176#32
  let v26 : BitVec 32 := Scalar.muli v1 c50176_i32
  ![v26.toNat]
abbrev grid1 : Pipeline.Grid := ⟨2, ![2, 16], ![false, false]⟩

def k1_off1 (i : grid1.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  let v4 : BitVec 32 := Scalar.addi c0_i32 v2
  ![v4.toNat]
def k1_cond1 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let v164 : BitVec 32 := Scalar.extui v3
  let c0_i32_34 : BitVec 32 := 0#32
  let v165 : BitVec 1 := Scalar.cmpi .ne v164 c0_i32_34
  v165

def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  ![v2.toNat]
def k1_cond2 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let v_true : BitVec 1 := 1#1
  let v166 : BitVec 1 := Scalar.xori v3 v_true
  let v167 : BitVec 32 := Scalar.extui v166
  let c0_i32_35 : BitVec 32 := 0#32
  let v168 : BitVec 1 := Scalar.cmpi .ne v167 c0_i32_35
  v168

def k1_off3 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  ![v2.toNat]
@[reducible] def k1_t1_loop (i : grid1.Coords) : Scf.Loop 32 :=
  let c0_i32_101 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v297 : BitVec 32 := Scalar.select v3 c87_i32 c98_i32
  let v298 : BitVec 32 := Scalar.subi v297 c0_i32_101
  let c1_i32 : BitVec 32 := 1#32
  let v300 : BitVec 32 := Scalar.divsi v298 c1_i32
  let v301 : BitVec 32 := Scalar.muli v300 c1_i32
  let v302 : BitVec 32 := Scalar.addi c0_i32_101 v301
  let c1_i32_102 : BitVec 32 := 1#32
  ⟨c0_i32_101, v302, c1_i32_102⟩
def k1_off4 (i : grid1.Coords) (k1_t1 : Fin (k1_t1_loop i).trips) : Fin 1 → Nat :=
  let c0_i32_101 : BitVec 32 := 0#32
  let c1_i32_102 : BitVec 32 := 1#32
  let arg31 : BitVec 32 := Scf.iv c0_i32_101 c1_i32_102 k1_t1
  let c16_i32_108 : BitVec 32 := 16#32
  let v309 : BitVec 32 := Scalar.muli arg31 c16_i32_108
  let v310 : Index := Scalar.indexCast v309
  ![v310.toNat]
def k1_off5 (i : grid1.Coords) (k1_t1 : Fin (k1_t1_loop i).trips) (c1568_i32_110 : BitVec 32) : Fin 1 → Nat :=
  let c0_i32_101 : BitVec 32 := 0#32
  let c1_i32_102 : BitVec 32 := 1#32
  let arg31 : BitVec 32 := Scf.iv c0_i32_101 c1_i32_102 k1_t1
  let c16_i32_109 : BitVec 32 := 16#32
  let v312 : BitVec 32 := Scalar.muli arg31 c16_i32_109
  let v313 : BitVec 32 := Scalar.addi c1568_i32_110 v312
  let v314 : Index := Scalar.indexCast v313
  ![v314.toNat]
def k1_off6 (i : grid1.Coords) (k1_t1 : Fin (k1_t1_loop i).trips) : Fin 1 → Nat :=
  let c0_i32_101 : BitVec 32 := 0#32
  let c1_i32_102 : BitVec 32 := 1#32
  let arg31 : BitVec 32 := Scf.iv c0_i32_101 c1_i32_102 k1_t1
  let c16_i32_107 : BitVec 32 := 16#32
  let v308 : BitVec 32 := Scalar.muli arg31 c16_i32_107
  let v467 : Index := Scalar.indexCast v308
  ![v467.toNat]
@[reducible] def k1_t2_loop (i : grid1.Coords) : Scf.Loop 32 :=
  let c0_i32_101 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v297 : BitVec 32 := Scalar.select v3 c87_i32 c98_i32
  let v298 : BitVec 32 := Scalar.subi v297 c0_i32_101
  let c1_i32 : BitVec 32 := 1#32
  let v300 : BitVec 32 := Scalar.divsi v298 c1_i32
  let v301 : BitVec 32 := Scalar.muli v300 c1_i32
  let v302 : BitVec 32 := Scalar.addi c0_i32_101 v301
  let v299 : BitVec 32 := Scalar.addi c0_i32_101 v298
  let c1_i32_103 : BitVec 32 := 1#32
  ⟨v302, v299, c1_i32_103⟩
def k1_off7 (i : grid1.Coords) (k1_t2 : Fin (k1_t2_loop i).trips) : Fin 1 → Nat :=
  let c0_i32_101 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v297 : BitVec 32 := Scalar.select v3 c87_i32 c98_i32
  let v298 : BitVec 32 := Scalar.subi v297 c0_i32_101
  let c1_i32 : BitVec 32 := 1#32
  let v300 : BitVec 32 := Scalar.divsi v298 c1_i32
  let v301 : BitVec 32 := Scalar.muli v300 c1_i32
  let v302 : BitVec 32 := Scalar.addi c0_i32_101 v301
  let c1_i32_103 : BitVec 32 := 1#32
  let arg31 : BitVec 32 := Scf.iv v302 c1_i32_103 k1_t2
  let c16_i32_108 : BitVec 32 := 16#32
  let v309 : BitVec 32 := Scalar.muli arg31 c16_i32_108
  let v310 : Index := Scalar.indexCast v309
  ![v310.toNat]
def k1_off8 (i : grid1.Coords) (k1_t2 : Fin (k1_t2_loop i).trips) (c1568_i32_110 : BitVec 32) : Fin 1 → Nat :=
  let c0_i32_101 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v297 : BitVec 32 := Scalar.select v3 c87_i32 c98_i32
  let v298 : BitVec 32 := Scalar.subi v297 c0_i32_101
  let c1_i32 : BitVec 32 := 1#32
  let v300 : BitVec 32 := Scalar.divsi v298 c1_i32
  let v301 : BitVec 32 := Scalar.muli v300 c1_i32
  let v302 : BitVec 32 := Scalar.addi c0_i32_101 v301
  let c1_i32_103 : BitVec 32 := 1#32
  let arg31 : BitVec 32 := Scf.iv v302 c1_i32_103 k1_t2
  let c16_i32_109 : BitVec 32 := 16#32
  let v312 : BitVec 32 := Scalar.muli arg31 c16_i32_109
  let v313 : BitVec 32 := Scalar.addi c1568_i32_110 v312
  let v314 : Index := Scalar.indexCast v313
  ![v314.toNat]
def k1_off9 (i : grid1.Coords) (k1_t2 : Fin (k1_t2_loop i).trips) : Fin 1 → Nat :=
  let c0_i32_101 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v297 : BitVec 32 := Scalar.select v3 c87_i32 c98_i32
  let v298 : BitVec 32 := Scalar.subi v297 c0_i32_101
  let c1_i32 : BitVec 32 := 1#32
  let v300 : BitVec 32 := Scalar.divsi v298 c1_i32
  let v301 : BitVec 32 := Scalar.muli v300 c1_i32
  let v302 : BitVec 32 := Scalar.addi c0_i32_101 v301
  let c1_i32_103 : BitVec 32 := 1#32
  let arg31 : BitVec 32 := Scf.iv v302 c1_i32_103 k1_t2
  let c16_i32_107 : BitVec 32 := 16#32
  let v308 : BitVec 32 := Scalar.muli arg31 c16_i32_107
  let v467 : Index := Scalar.indexCast v308
  ![v467.toNat]
def k1_cond3 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let v303 : BitVec 32 := Scalar.extui v3
  let c0_i32_104 : BitVec 32 := 0#32
  let v304 : BitVec 1 := Scalar.cmpi .ne v303 c0_i32_104
  v304

def k1_off10 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  ![v2.toNat]
def k1_cond4 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let true_105 : BitVec 1 := 1#1
  let v305 : BitVec 1 := Scalar.xori v3 true_105
  let v306 : BitVec 32 := Scalar.extui v305
  let c0_i32_106 : BitVec 32 := 0#32
  let v307 : BitVec 1 := Scalar.cmpi .ne v306 c0_i32_106
  v307

def k1_off11 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x50000 : Shape := ⟨2, ![1, 50000]⟩
abbrev S1600000 : Shape := ⟨1, ![1600000]⟩
abbrev S1600000x2 : Shape := ⟨2, ![1600000, 2]⟩
abbrev S512x5 : Shape := ⟨2, ![512, 5]⟩
abbrev S50000 : Shape := ⟨1, ![50000]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1x1600000 : Shape := ⟨2, ![1, 1600000]⟩
abbrev S1600000x5 : Shape := ⟨2, ![1600000, 5]⟩
abbrev S1x1600000x1 : Shape := ⟨3, ![1, 1600000, 1]⟩
abbrev S1x1600000x5 : Shape := ⟨3, ![1, 1600000, 5]⟩
abbrev S50000x5 : Shape := ⟨2, ![50000, 5]⟩
abbrev S1x50000x5 : Shape := ⟨3, ![1, 50000, 5]⟩

abbrev nBuf : Space → Nat
  | .hbm => 91
  | .vmem => 0
  | .smem => 0
  | _ => 0

abbrev bufTy : (tb : Table) → Fin (tcTables nBuf tb) → BufTy
  | .hbm, ⟨0, _⟩ => ⟨S1x50000, .f32⟩
  | .hbm, ⟨1, _⟩ => ⟨S1x50000, .f32⟩
  | .hbm, ⟨2, _⟩ => ⟨S1600000, .f32⟩
  | .hbm, ⟨3, _⟩ => ⟨S1600000, .i32⟩
  | .hbm, ⟨4, _⟩ => ⟨S1600000x2, .i32⟩
  | .hbm, ⟨5, _⟩ => ⟨S512x5, .f32⟩
  | .hbm, ⟨6, _⟩ => ⟨S50000, .f32⟩
  | .hbm, ⟨7, _⟩ => ⟨S50000, .f32⟩
  | .hbm, ⟨8, _⟩ => ⟨S50000, .f32⟩
  | .hbm, ⟨9, _⟩ => ⟨S50000, .f32⟩
  | .hbm, ⟨10, _⟩ => ⟨S1600000x1, .i32⟩
  | .hbm, ⟨11, _⟩ => ⟨S1600000, .i32⟩
  | .hbm, ⟨12, _⟩ => ⟨S1600000x1, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1x1600000, .f32⟩
  | .hbm, ⟨33, _⟩ => ⟨S1x1600000, .i1⟩
  | .hbm, ⟨34, _⟩ => ⟨S_, .f32⟩
  | .hbm, ⟨35, _⟩ => ⟨S1x1600000, .f32⟩
  | .hbm, ⟨36, _⟩ => ⟨S1x1600000, .f32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1, .i32⟩
  | .hbm, ⟨47, _⟩ => ⟨S_, .i32⟩
  | .hbm, ⟨48, _⟩ => ⟨S1600000x1, .i32⟩
  | .hbm, ⟨49, _⟩ => ⟨S1600000x1, .i1⟩
  | .hbm, ⟨50, _⟩ => ⟨S1x1, .i32⟩
  | .hbm, ⟨51, _⟩ => ⟨S1600000x1, .i32⟩
  | .hbm, ⟨52, _⟩ => ⟨S1600000x1, .i1⟩
  | .hbm, ⟨53, _⟩ => ⟨S1600000x1, .i1⟩
  | .hbm, ⟨54, _⟩ => ⟨S_, .i1⟩
  | .hbm, ⟨55, _⟩ => ⟨S1600000, .i1⟩
  | .hbm, ⟨56, _⟩ => ⟨S1600000x5, .f32⟩
  | .hbm, ⟨57, _⟩ => ⟨S1600000x5, .i1⟩
  | .hbm, ⟨58, _⟩ => ⟨S_, .f32⟩
  | .hbm, ⟨59, _⟩ => ⟨S1600000x5, .f32⟩
  | .hbm, ⟨60, _⟩ => ⟨S1600000x5, .f32⟩
  | .hbm, ⟨61, _⟩ => ⟨S1600000x5, .f32⟩
  | .hbm, ⟨62, _⟩ => ⟨S1600000x5, .f32⟩
  | .hbm, ⟨63, _⟩ => ⟨S1x1600000x1, .f32⟩
  | .hbm, ⟨64, _⟩ => ⟨S1x1600000x5, .f32⟩
  | .hbm, ⟨65, _⟩ => ⟨S1x1600000x5, .f32⟩
  | .hbm, ⟨66, _⟩ => ⟨S1x1600000x5, .f32⟩
  | .hbm, ⟨67, _⟩ => ⟨S_, .f32⟩
  | .hbm, ⟨68, _⟩ => ⟨S50000x5, .f32⟩
  | .hbm, ⟨69, _⟩ => ⟨S1600000x1, .i32⟩
  | .hbm, ⟨70, _⟩ => ⟨S1x50000x5, .f32⟩
  | .hbm, ⟨71, _⟩ => ⟨S1x50000x5, .f32⟩
  | .hbm, ⟨72, _⟩ => ⟨S_, .f32⟩
  | .hbm, ⟨73, _⟩ => ⟨S1x50000, .f32⟩
  | .hbm, ⟨74, _⟩ => ⟨S_, .f32⟩
  | .hbm, ⟨75, _⟩ => ⟨S1x50000, .f32⟩
  | .hbm, ⟨76, _⟩ => ⟨S1x50000, .f32⟩
  | .hbm, ⟨77, _⟩ => ⟨S1x50000, .f32⟩
  | .hbm, ⟨78, _⟩ => ⟨S1x50000, .f32⟩
  | .hbm, ⟨79, _⟩ => ⟨S1x50000, .f32⟩
  | .hbm, ⟨80, _⟩ => ⟨S1x50000, .f32⟩
  | .hbm, ⟨81, _⟩ => ⟨S1x50000, .f32⟩
  | .hbm, ⟨82, _⟩ => ⟨S1x50000, .f32⟩
  | .hbm, ⟨83, _⟩ => ⟨S1x50000, .f32⟩
  | .hbm, ⟨84, _⟩ => ⟨S1x50000, .f32⟩
  | .hbm, ⟨85, _⟩ => ⟨S1x50000, .f32⟩
  | .hbm, ⟨86, _⟩ => ⟨S1x50000, .f32⟩
  | .hbm, ⟨87, _⟩ => ⟨S_, .f32⟩
  | .hbm, ⟨88, _⟩ => ⟨S1x50000, .f32⟩
  | .hbm, ⟨89, _⟩ => ⟨S1x50000, .i1⟩
  | .hbm, ⟨90, _⟩ => ⟨S1x50000, .f32⟩
  | _, _ => ⟨S1x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_cst : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_0 : Ref sig .tc := ⟨.hbm, 72, rfl⟩
abbrev main_v17 : Ref sig .tc := ⟨.hbm, 73, rfl⟩
abbrev main_cst_1 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_cst_2 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩

abbrev nD : Nat := 1
abbrev τ : Topo := Topo.v7x

variable {F : FTy → Type} [FloatOps F]
-- ==== Proof.Setup.lean ====
/-
  The program as the launch theorem sees it: two SparseCore calls, each run by the thirty-two vector subcores; the
  ghost state is the handshakes' rounds beside the transfers' counters. Everything is stated over any float instance.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources the proof speaks of. -/
abbrev MM (F : FTy → Type) : Type := MT nD τ sig (HIx 2) (Elt F) ℕ UU ℕ

abbrev EH : Emb UH (MM F) := embL

end Cert.Proof

end
-- ==== Proof.Own.lean ====
/-
  What a thread holds of a memref, by the values it reads through it, and the rules of the operations in these terms:
  loads and stores through a rectangle, the gather and the scatter of the vector subcores, and copies counted on a
  semaphore in batches.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {sp sp' : Space} {s s' t : Shape} {e e' : EltTy} {α : Type}

/-- Thread `thr` holds the elements of `m` at share `q`, and reads `g` through it. -/
def own (thr : Thread nD τ) (m : Memref sig thr.2.kind sp s e) (q : PosShare TreeShare) (g : s.Idx → Elt F e) : sProp (MM F) :=
  iprop(∃ f : Buf (Elt F) (m.view.loc thr), ⌜m.view.read (Elt F) f = g⌝ ∗ m.view.loc thr ↦[m.view.set]{q} f)

instance (thr : Thread nD τ) (m : Memref sig thr.2.kind sp s e) (q : PosShare TreeShare) (g : s.Idx → Elt F e) :
    Storable (upEmb : UEmb _ (MM F)) (own thr m q g) := by unfold own; infer_instance

/-- What the thread has promised, its waits so far, and the evidence that it may wait on any semaphore. -/
def duty (thr : Thread nD τ) (O : CellTallies nD τ sig (HIx 2)) (W : Waits sig (HIx 2)) : sProp (MM F) :=
  iprop(Transfers.MayWaits thr (none : HIx 2) O ∗ ∃ W', ⌜∀ p ∈ W', p ∈ W ∨ p.2 = none⌝ ∗ owes thr O W')

section Rules

variable [FloatOps F] {thr : Thread nD τ}

/-- The weakest precondition of a task program of thread `thr`. -/
abbrev WP (thr : Thread nD τ) (p : Prog (TpuEff nD τ sig (Elt F) Λ₀ thr.2) α) (Q : α → sProp (MM F)) : sProp (MM F) :=
  wp frame (wpE (defs₀ (F := F)) 𝒱₀ thr none) Set.univ p Q

/-- A load through a rectangle reads the held values at the rectangle's places. -/
theorem wp_own_load {cs : CoreSpace} {m : Memref sig thr.2.kind cs s e} {r : Rect s} {hl : m.view.LoadsAt r.toLoadRect}
    {k : (r.shape.Idx → Elt F e) → Prog (TpuEff nD τ sig (Elt F) Λ₀ thr.2) α} {Q : α → sProp (MM F)} {q : PosShare TreeShare} {g : s.Idx → Elt F e} :
    own thr m q g ⊢ iprop((own thr m q g -∗ WP thr (k fun x => g (r.emb x)) Q)
      -∗ WP thr (Prog.lift (.load m r.toLoadRect hl) >>= k) Q) := by
  unfold own
  iintro ⟨%f, %hf, H⟩ Hk
  iapply (wp_load_rect (defs := defs₀ (F := F)) 𝒱₀ thr none Set.univ (Q := Q) (m := m) (r := r) (hl := hl) (k := k) (q := q) (f := f)
    (S := m.view.set) (View.set_slice_subset _ _)) $$ H
  iintro H
  rw [show (m.access r).read (Elt F) f = fun x => g (r.emb x) by subst hf; rfl]
  iapply Hk
  iexists f
  isplitr; · ipureintro; exact hf
  iexact H

/-- A store through a rectangle rewrites the held values at the rectangle's places. -/
theorem wp_own_store {cs : CoreSpace} {m : Memref sig thr.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ thr.2) α} {Q : α → sProp (MM F)} {g g' : s.Idx → Elt F e}
    (hin : ∀ x, g' (r.emb x) = w x) (hout : ∀ y, (∀ x, r.emb x ≠ y) → g' y = g y) :
    own thr m fullShare g ⊢ iprop((own thr m fullShare g' -∗ WP thr (k ⟨⟩) Q)
      -∗ WP thr (Prog.lift (.store m r w Finset.univ hx hm) >>= k) Q) := by
  unfold own
  iintro ⟨%f, %hf, H⟩ Hk
  iapply (wp_store (defs := defs₀ (F := F)) 𝒱₀ thr none Set.univ (Q := Q) (m := m) (r := r) (w := w) (Mk := Finset.univ) (hx := hx) (hm := hm) (k := k) (f := f)
    (S := m.view.set) (View.set_slice_subset _ _)) $$ H
  iintro H
  iapply Hk
  iexists _
  isplitr
  rotate_left
  · iexact H
  ipureintro
  funext y
  by_cases hy : ∃ x, r.emb x = y
  · obtain ⟨x, rfl⟩ := hy
    rw [hin]
    exact View.read_slice_write_emb (v := m.view) (Val := Elt F) r f w (Finset.mem_univ x)
  · push Not at hy
    rw [hout y hy, ← hf]
    refine View.read_slice_write_of_not_mem (v := m.view) (Val := Elt F) r f w Finset.univ fun h => ?_
    obtain ⟨x, -, hx'⟩ := Finset.mem_map.mp h
    exact hy x hx'

theorem access_whole_set {cs : CoreSpace} {κ : Kind} (m : Memref sig κ cs s e) : (m.access (.whole s)).set = m.view.set := by
  show (m.view.slice (.whole s)).set = _
  rw [View.set_slice, show (Rect.whole s).set = Finset.univ from ?_]; · rfl
  exact Rect.set_whole s

/-- A gather of the vector subcores. -/
theorem wp_own_gather {m : Memref sig thr.2.kind .vmem s e} {idxs : Fin s.rank → IVec t 32}
    {h : ∀ a x, (idxs a x).toNat < s.size a} {hl : m.view.Loads} {k : Vec F t e → Prog (TpuEff nD τ sig (Elt F) Λ₀ thr.2) α}
    {Q : α → sProp (MM F)} {q : PosShare TreeShare} {g : s.Idx → Elt F e} :
    own thr m q g ⊢ iprop((own thr m q g -∗ WP thr (k (loadIdx g idxs h)) Q)
      -∗ WP thr (SparseCore.vectorLoadIdx m idxs h hl >>= k) Q) := by
  unfold own
  iintro ⟨%f, %hf, H⟩ Hk
  iapply (SparseCore.wp_vectorLoadIdx (defs := defs₀ (F := F)) 𝒱₀ thr none Set.univ (Q := Q) (base := m) (idxs := idxs) (h := h) (hl := hl) (k := k) (q := q) (f := f)
    (S := m.view.set) (View.set_slice_subset _ _)) $$ H
  iintro H
  rw [show (m.access (.whole s)).read (Elt F) f = g by
    subst hf; funext x; exact congrArg (m.view.read (Elt F) f) (Rect.emb_whole_apply s x)]
  iapply Hk
  iexists f
  isplitr; · ipureintro; exact hf
  iexact H

/-- A scatter of the vector subcores. -/
theorem wp_own_scatter {d : Fin 1 → Nat} {m : Memref sig thr.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ₀ thr.2) α} {Q : α → sProp (MM F)} {g : s.Idx → Elt F e} :
    own thr m fullShare g ⊢ iprop((own thr m fullShare (storeIdx g idxs v mask add h) -∗ WP thr (k ⟨⟩) Q)
      -∗ WP thr (SparseCore.vectorStoreIdx m idxs v mask add h hs >>= k) Q) := by
  unfold own
  iintro ⟨%f, %hf, H⟩ Hk
  rw [← access_whole_set m]
  iapply (SparseCore.wp_vectorStoreIdx (defs := defs₀ (F := F)) 𝒱₀ thr none Set.univ (Q := Q) (base := m) (idxs := idxs) (v := v) (mask := mask) (add := add) (h := h) (hs := hs) (k := k) (f := f)) $$ H
  iintro H
  rw [show (m.access (.whole s)).read (Elt F) f = g by
    subst hf; funext x; exact congrArg (m.view.read (Elt F) f) (Rect.emb_whole_apply s x)]
  iapply Hk
  iexists _
  isplitr
  rotate_left
  · iexact H
  ipureintro
  funext y
  have := View.read_slice_write_emb (v := m.view) (Val := Elt F) (Rect.whole s) f (storeIdx g idxs v mask add h) (Finset.mem_univ y)
  rwa [Rect.emb_whole_apply] at this

/-- A check that holds passes. -/
theorem wp_own_assume {P : Prop} {hd : Decidable P} (h : P) {k : PLift P → Prog (TpuEff nD τ sig (Elt F) Λ₀ thr.2) α} {Q : α → sProp (MM F)} :
    WP thr (k ⟨h⟩) Q ⊢ WP thr (Prog.lift (TpuEff.assume P hd) >>= k) Q :=
  wp_assume (defs := defs₀ (F := F)) 𝒱₀ thr none Set.univ h

/-- The next copy of a batch. -/
theorem wp_own_copy {src : Memref sig thr.2.kind sp s e} {dst : Memref sig thr.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ thr.2) α} {Q : α → sProp (MM F)} {q : PosShare TreeShare} {g g₀ : s.Idx → Elt F e}
    {n : ℕ} {D : Fin n → sProp (MM F)} {j u N : ℕ} (hN : dst.view.amount sm = N) (hj : j < n) (hu : u ≤ j * N)
    (hD : iprop(own thr dst fullShare g ∗ own thr src q g) ⊢ D ⟨j, hj⟩) :
    iprop(own thr src q g ∗ own thr dst fullShare g₀ ∗ Transfers.Batch countersEmb thr sm (none : HIx 2) N D j u)
      ⊢ iprop((Transfers.Batch countersEmb thr sm (none : HIx 2) N D (j + 1) u -∗ WP thr (k ⟨⟩) Q)
        -∗ WP thr (Prog.lift (.enqueueDma src (.here dst) sm hsrc hdst hsem) >>= k) Q) := by
  unfold own at hD ⊢
  iintro ⟨⟨%fs, %hs, Hs⟩, ⟨%fd, %hd, Hd⟩, HB⟩ Hk
  iapply (Transfers.wp_dmaBatch (defs := defs₀ (F := F)) countersEmb 𝒱₀ thr none (Q := Q) (src := src) (dst := dst) (via := .same) (sm := sm)
    (hsrc := hsrc) (hdst := hdst) (hsem := hsem) (k := k) (q := q) (fs := fs) (Sd := dst.view.set) (fd := fd) (D := D) (j := j) (u := u) none N hN
    subset_rfl hj hu ?_) $$ [Hs Hd HB]
  · refine BIBase.Entails.trans ?_ hD
    iintro ⟨Hd, Hs⟩
    isplitl [Hd]
    · iexists _
      isplitr
      rotate_left
      · iexact Hd
      ipureintro
      rw [View.read_write_univ]; exact hs
    · iexists fs
      isplitr; · ipureintro; exact hs
      iexact Hs
  · isplitl [Hs]; · iexact Hs
    isplitl [Hd]; · iexact Hd
    iexact HB
  iexact Hk

variable {O : CellTallies nD τ sig (HIx 2)} {W : Waits sig (HIx 2)}

/-- A wait for one copy of a batch that is not known to drain it. -/
theorem wp_own_wait {κ' : Kind} {sem : DmaSem sig} {srcw : Memref sig thr.2.kind sp' s' e'} {dstw : Memref sig κ' sp s e}
    {hsrc : srcw.view.WordExact} {hdst : dstw.view.WordExact}
    {k : PUnit → Prog (TpuEff nD τ sig (Elt F) Λ₀ thr.2) α} {Q : α → sProp (MM F)} {n : ℕ} {D : Fin n → sProp (MM F)} {j u N : ℕ}
    (hN : dstw.view.dmaCredit = N) (hu : u + N ≤ N * j) :
    iprop(Transfers.Batch countersEmb thr (.dma sem) (none : HIx 2) N D j u ∗ duty thr O W)
      ⊢ iprop((iprop(Transfers.Batch countersEmb thr (.dma sem) (none : HIx 2) N D j (u + N) ∗ duty thr O W) -∗ WP thr (k ⟨⟩) Q)
        -∗ WP thr (Prog.lift (.waitDma2 sem srcw dstw hsrc hdst) >>= k) Q) := by
  unfold duty
  iintro ⟨HB, #Hmw, ⟨%W', %hW, HO⟩⟩ Hk
  iapply (Transfers.wp_waitBatchMulO (defs := defs₀ (F := F)) countersEmb 𝒱₀ thr none (Q := Q) (srcw := srcw) (dstw := dstw) (hsrc := hsrc) (hdst := hdst)
    (k := k) none 1 (hN.trans (Nat.one_mul N).symm) (D := D) (j := j) (u := u) (by omega) (O := O) (W := W')) $$ [HB HO]
  · isplitl [HB]; · iexact HB
    isplitl [HO]; · iexact HO
    iapply (Transfers.MayWaits.elim (SemLoc.dma sem)) $$ Hmw
  rw [Nat.one_mul]
  iintro ⟨HB, HO⟩
  iapply Hk
  isplitl [HB]; · iexact HB
  isplitr; · iexact Hmw
  iexists _
  isplitr
  rotate_left
  · iexact HO
  ipureintro
  intro p hp
  rcases Finset.mem_insert.mp hp with rfl | hp
  · exact Or.inr rfl
  · exact hW p hp

/-- The wait that drains a batch: every delivery back, and the semaphore at zero. -/
theorem wp_own_drain {κ' : Kind} {sem : DmaSem sig} {srcw : Memref sig thr.2.kind sp' s' e'} {dstw : Memref sig κ' sp s e}
    {hsrc : srcw.view.WordExact} {hdst : dstw.view.WordExact}
    {k : PUnit → Prog (TpuEff nD τ sig (Elt F) Λ₀ thr.2) α} {Q : α → sProp (MM F)} {n : ℕ} {D : Fin n → sProp (MM F)} {u N : ℕ}
    (hN : dstw.view.dmaCredit = N) (hN0 : 0 < N) (hu : u + N = N * n) :
    iprop(Transfers.Batch countersEmb thr (.dma sem) (none : HIx 2) N D n u ∗ duty thr O W)
      ⊢ iprop((iprop(bigSep Finset.univ D ∗ semVal (thr, .dma sem) 0 ∗ duty thr O W) -∗ WP thr (k ⟨⟩) Q)
        -∗ WP thr (Prog.lift (.waitDma2 sem srcw dstw hsrc hdst) >>= k) Q) := by
  unfold duty
  iintro ⟨HB, #Hmw, ⟨%W', %hW, HO⟩⟩ Hk
  iapply (Transfers.wp_waitBatchLastO (defs := defs₀ (F := F)) countersEmb 𝒱₀ thr none (Q := Q) (srcw := srcw) (dstw := dstw) (hsrc := hsrc) (hdst := hdst)
    (k := k) none hN hN0 (D := D) (u := u) hu (O := O) (W := W')) $$ [HB HO]
  · isplitl [HB]; · iexact HB
    isplitl [HO]; · iexact HO
    iapply (Transfers.MayWaits.elim (SemLoc.dma sem)) $$ Hmw
  iintro ⟨HD, Hv, HO⟩
  iapply Hk
  isplitl [HD]; · iexact HD
  isplitl [Hv]; · iexact Hv
  isplitr; · iexact Hmw
  iexists _
  isplitr
  rotate_left
  · iexact HO
  ipureintro
  intro p hp
  rcases Finset.mem_insert.mp hp with rfl | hp
  · exact Or.inr rfl
  · exact hW p hp

end Rules

section Shapes

variable {thr : Thread nD τ}

/-- The part of a held memref under a rectangle, and the promise to take it back. -/
theorem own_slice (m : Memref sig thr.2.kind sp s e) (q : PosShare TreeShare) (g : s.Idx → Elt F e) (r : Rect s) (hr : ∀ a, r.stride a = 1) :
    own thr m q g ⊢ iprop(own thr (m.slice r hr) q (fun x => g (r.emb x)) ∗ (own thr (m.slice r hr) q (fun x => g (r.emb x)) -∗ own thr m q g)) := by
  unfold own
  iintro ⟨%f, %hf, H⟩
  have hsub : (m.slice r hr).view.set ⊆ m.view.set := View.set_slice_subset _ _
  ihave H' := (pointsTo_split_subset (q := q) (f := f) hsub).1 $$ H
  icases H' with ⟨H1, H2⟩
  isplitl [H1]
  · iexists f
    isplitr; · ipureintro; subst hf; rfl
    iexact H1
  iintro ⟨%f', %hf', H1⟩
  iexists f
  isplitr; · ipureintro; exact hf
  have he : ∀ i ∈ (m.slice r hr).view.set, f' i = f i := by
    intro i hi
    obtain ⟨x, -, rfl⟩ := Finset.mem_map.mp hi
    have h1 := congrFun hf' x
    subst hf
    exact (cast_bijective _).1 h1
  iapply (pointsTo_split_subset (q := q) (f := f) hsub).2
  isplitl [H1]
  · iapply (Entails.of_eq (pointsTo_congr he)) $$ H1
  · iexact H2

/-- A held memref at the two halves of its share. -/
theorem own_halve (m : Memref sig thr.2.kind sp s e) (q : PosShare TreeShare) (g : s.Idx → Elt F e) :
    own thr m q g ⊢ iprop(own thr m q.left g ∗ own thr m q.right g) := by
  unfold own
  iintro ⟨%f, %hf, H⟩
  ihave H' := (pointsTo_share (PosShare.mem_left_op_right q)).1 $$ H
  icases H' with ⟨H1, H2⟩
  isplitl [H1]
  · iexists f
    isplitr; · ipureintro; exact hf
    iexact H1
  · iexists f
    isplitr; · ipureintro; exact hf
    iexact H2

/-- The two halves of a share together. -/
theorem own_rejoin (m : Memref sig thr.2.kind sp s e) (q : PosShare TreeShare) (g : s.Idx → Elt F e) :
    iprop(own thr m q.left g ∗ own thr m q.right g) ⊢ own thr m q g := by
  unfold own
  iintro ⟨⟨%f, %hf, H1⟩, ⟨%f', %hf', H2⟩⟩
  have he : ∀ i ∈ m.view.set, f' i = f i := by
    intro i hi
    obtain ⟨x, -, rfl⟩ := Finset.mem_map.mp hi
    have h1 := congrFun (hf'.trans hf.symm) x
    exact (cast_bijective _).1 h1
  iexists f
  isplitr; · ipureintro; exact hf
  iapply (pointsTo_share (PosShare.mem_left_op_right q)).2
  isplitl [H1]; · iexact H1
  iapply (Entails.of_eq (pointsTo_congr he)) $$ H2

end Shapes

end Cert.Proof

end
-- ==== Proof.SynProg.lean ====
/-
  The synapse kernel's program in a compact form: one step handles sixteen synapses, a trip of a chunk's loop five
  steps, and the chunk loops of the two buffers and of the last chunk are one program at three sets of buffers.
-/
module

public import proofs.«01_k».proof.Proof.Own

@[expose] public section

noncomputable section

namespace Cert.Proof

open Cert.KernelIdeal Cert.KernelIdeal.Gen

open Idealize.ShloMosaic
open Idealize.SL.Sem

variable {F : FTy → Type} [FloatOps F]
variable {c : Fin τ.nSC} {j : Fin τ.nSub}

/-- A program of vector subcore `j` of SparseCore `c`. -/
abbrev TileProg (F : FTy → Type) (c : Fin τ.nSC) (j : Fin τ.nSub) (α : Type) : Type 1 :=
  Prog (TpuEff nD τ sig (Elt F) Λ₀ (.scVector c j)) α

/-- One buffer's set of scratch: the chunk's spike places, target places, basis places and weights. -/
structure Chunk where
  pre : Memref sig .scVector .vmem S2000 .i32
  post : Memref sig .scVector .vmem S2000 .i32
  sid : Memref sig .scVector .vmem S2000 .i32
  w : Memref sig .scVector .vmem S2000 .f32

/-- The scratch a tile keeps throughout: the spikes, the basis rows' sums and the accumulator. -/
structure Tables where
  spk : Memref sig .scVector .vmem S50000 .f32
  bsum : Memref sig .scVector .vmem S512 .f32
  acc : Memref sig .scVector .vmem S50176 .f32

/-- The synapses' arrays. -/
structure Synapses where
  pre : Memref sig .scVector .hbm S1600000 .i32
  post : Memref sig .scVector .hbm S1600000 .i32
  sid : Memref sig .scVector .hbm S1600000 .i32
  w : Memref sig .scVector .hbm S1600000 .f32

/-- Sixteen synapses: their places and weights read, the spikes and the basis sums gathered, the products added into the
    accumulator where the spike is positive. -/
def synStep (t : Tables) (b : Chunk) (off : Fin 1 → ℕ) (inb : ∀ a, off a + S16.size a ≤ S2000.size a) : TileProg F c j PUnit := do
  let p : Vec F S16 .i32 ← Prog.lift (.load b.pre (Rect.unit (s := S2000) off S16.size inb).toLoadRect (View.loadsAt_vmem h_S16))
  have hp : k0_chk6 p := (← Prog.lift (TpuEff.assume (k0_chk6 p) (k0_chk6.dec p))).down
  let o : Vec F S16 .i32 ← Prog.lift (.load b.post (Rect.unit (s := S2000) off S16.size inb).toLoadRect (View.loadsAt_vmem h_S16))
  have ho : k0_chk8 o := (← Prog.lift (TpuEff.assume (k0_chk8 o) (k0_chk8.dec o))).down
  let i : Vec F S16 .i32 ← Prog.lift (.load b.sid (Rect.unit (s := S2000) off S16.size inb).toLoadRect (View.loadsAt_vmem h_S16))
  have hi : k0_chk7 i := (← Prog.lift (TpuEff.assume (k0_chk7 i) (k0_chk7.dec i))).down
  let w : Vec F S16 .f32 ← Prog.lift (.load b.w (Rect.unit (s := S2000) off S16.size inb).toLoadRect (View.loadsAt_vmem h_S16))
  let z : Vec F S16 .f32 ← SparseCore.vectorLoadIdx t.spk ![p] (k0_idx6_inb p hp) (View.loads_vmem h_S50000)
  let y : Vec F S16 .f32 ← SparseCore.vectorLoadIdx t.bsum ![i] (k0_idx7_inb i hi) (View.loads_vmem h_S512)
  SparseCore.vectorStoreIdx t.acc ![o] (k0_pay5 w z y) (k0_pay6 z) true (k0_idx8_inb o ho) (View.stores_vmem_bits_univ h_S50176 rfl)

/-- A trip of a chunk's loop. -/
def synTrip (t : Tables) (b : Chunk) (o₀ o₁ o₂ o₃ o₄ : Fin 1 → ℕ) (h₀ : ∀ a, o₀ a + S16.size a ≤ S2000.size a)
    (h₁ : ∀ a, o₁ a + S16.size a ≤ S2000.size a) (h₂ : ∀ a, o₂ a + S16.size a ≤ S2000.size a)
    (h₃ : ∀ a, o₃ a + S16.size a ≤ S2000.size a) (h₄ : ∀ a, o₄ a + S16.size a ≤ S2000.size a) : TileProg F c j Unit := do
  synStep t b o₀ h₀
  synStep t b o₁ h₁
  synStep t b o₂ h₂
  synStep t b o₃ h₃
  synStep t b o₄ h₄
  pure ⟨⟩

/-- The four copies that bring a chunk of the synapses into one buffer. -/
def issue4 (g : Synapses) (b : Chunk) (sem : DmaSems sig S_) (off : Fin 1 → ℕ) (inb : ∀ a, off a + S2000.size a ≤ S1600000.size a) : TileProg F c j PUnit := do
  Prog.lift (.enqueueDma (g.pre.slice (Rect.unit (s := S1600000) off S2000.size inb) (fun _ => rfl)) (.here b.pre) (.dma sem.sem) (View.wordExact_bits rfl) (View.wordExact_bits rfl) ⟨Or.inl rfl, trivial⟩)
  Prog.lift (.enqueueDma (g.post.slice (Rect.unit (s := S1600000) off S2000.size inb) (fun _ => rfl)) (.here b.post) (.dma sem.sem) (View.wordExact_bits rfl) (View.wordExact_bits rfl) ⟨Or.inl rfl, trivial⟩)
  Prog.lift (.enqueueDma (g.sid.slice (Rect.unit (s := S1600000) off S2000.size inb) (fun _ => rfl)) (.here b.sid) (.dma sem.sem) (View.wordExact_bits rfl) (View.wordExact_bits rfl) ⟨Or.inl rfl, trivial⟩)
  Prog.lift (.enqueueDma (g.w.slice (Rect.unit (s := S1600000) off S2000.size inb) (fun _ => rfl)) (.here b.w) (.dma sem.sem) (View.wordExact_bits rfl) (View.wordExact_bits rfl) ⟨Or.inl rfl, trivial⟩)

/-- The four waits for them. -/
def drain4 (g : Synapses) (b : Chunk) (sem : DmaSems sig S_) : TileProg F c j PUnit := do
  Prog.lift (.waitDma2 sem.sem (g.pre.slice (Rect.unit (s := S1600000) ![0] S2000.size inb_S1600000_S2000_0) (fun _ => rfl)) b.pre (View.wordExact_bits rfl) (View.wordExact_bits rfl))
  Prog.lift (.waitDma2 sem.sem (g.post.slice (Rect.unit (s := S1600000) ![0] S2000.size inb_S1600000_S2000_0) (fun _ => rfl)) b.post (View.wordExact_bits rfl) (View.wordExact_bits rfl))
  Prog.lift (.waitDma2 sem.sem (g.sid.slice (Rect.unit (s := S1600000) ![0] S2000.size inb_S1600000_S2000_0) (fun _ => rfl)) b.sid (View.wordExact_bits rfl) (View.wordExact_bits rfl))
  Prog.lift (.waitDma2 sem.sem (g.w.slice (Rect.unit (s := S1600000) ![0] S2000.size inb_S1600000_S2000_0) (fun _ => rfl)) b.w (View.wordExact_bits rfl) (View.wordExact_bits rfl))

section

variable (i : grid0.Coords) (arg2 : Memref sig .scVector .hbm S1600000 .i32) (harg2 : arg2.IsWhole) (arg3 : Memref sig .scVector .hbm S1600000 .i32) (harg3 : arg3.IsWhole)
  (arg4 : Memref sig .scVector .hbm S1600000 .i32) (harg4 : arg4.IsWhole) (arg5 : Memref sig .scVector .hbm S1600000 .f32) (harg5 : arg5.IsWhole)
  (arg6 : Memref sig .scVector .hbm S50000 .f32) (harg6 : arg6.IsWhole) (arg7 : Memref sig .scVector .hbm S2560 .f32) (harg7 : arg7.IsWhole)
  (arg8 : Memref sig .scVector .hbm S1605632 .f32) (harg8 : arg8.IsWhole) (arg9 : Memref sig .scVector .vmem S50000 .f32) (harg9 : arg9.IsWhole)
  (arg10 : Memref sig .scVector .vmem S2560 .f32) (harg10 : arg10.IsWhole) (arg11 : Memref sig .scVector .vmem S512 .f32) (harg11 : arg11.IsWhole)
  (arg12 : Memref sig .scVector .vmem S50176 .f32) (harg12 : arg12.IsWhole) (arg13 : Memref sig .scVector .vmem S2000 .i32) (harg13 : arg13.IsWhole)
  (arg14 : Memref sig .scVector .vmem S2000 .i32) (harg14 : arg14.IsWhole) (arg15 : Memref sig .scVector .vmem S2000 .i32) (harg15 : arg15.IsWhole)
  (arg16 : Memref sig .scVector .vmem S2000 .i32) (harg16 : arg16.IsWhole) (arg17 : Memref sig .scVector .vmem S2000 .i32) (harg17 : arg17.IsWhole)
  (arg18 : Memref sig .scVector .vmem S2000 .i32) (harg18 : arg18.IsWhole) (arg19 : Memref sig .scVector .vmem S2000 .f32) (harg19 : arg19.IsWhole)
  (arg20 : Memref sig .scVector .vmem S2000 .f32) (harg20 : arg20.IsWhole)
  (arg21 arg22 arg23 arg24 v27_r0 : DmaSems sig S_)

theorem t4_body_eq (v2 : BitVec 32) (k3 : Fin k0_t3_loop.trips) (k : Fin k0_t4_loop.trips) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 v2 0#32 1#32 k3 k ⟨⟩
      = synTrip ⟨arg9, arg11, arg12⟩ ⟨arg13, arg15, arg17, arg19⟩ (k0_off5 k) (k0_off6 k) (k0_off7 k) (k0_off8 k) (k0_off9 k)
          (k0_off5_inb k) (k0_off6_inb k) (k0_off7_inb k) (k0_off8_inb k) (k0_off9_inb k) := by
  unfold k0_t4_body
  rw [k0_part1_eq_skeleton, k0_part2_eq_skeleton]
  unfold k0_part1_skel k0_part2_skel synTrip synStep
  simp only [bind_assoc, pure_bind]
  rfl

theorem t5_body_eq (k : Fin k0_t5_loop.trips) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 k ⟨⟩
      = synTrip ⟨arg9, arg11, arg12⟩ ⟨arg14, arg16, arg18, arg20⟩ (k0_off10 k) (k0_off11 k) (k0_off12 k) (k0_off13 k) (k0_off14 k)
          (k0_off10_inb k) (k0_off11_inb k) (k0_off12_inb k) (k0_off13_inb k) (k0_off14_inb k) := by
  unfold k0_t5_body
  rw [k0_part3_eq_skeleton, k0_part4_eq_skeleton]
  unfold k0_part3_skel k0_part4_skel synTrip synStep
  simp only [bind_assoc, pure_bind]
  rfl

theorem t6_body_eq (k : Fin k0_t6_loop.trips) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 k ⟨⟩
      = synTrip ⟨arg9, arg11, arg12⟩ ⟨arg13, arg15, arg17, arg19⟩ (k0_off15 k) (k0_off16 k) (k0_off17 k) (k0_off18 k) (k0_off19 k)
          (k0_off15_inb k) (k0_off16_inb k) (k0_off17_inb k) (k0_off18_inb k) (k0_off19_inb k) := by
  unfold k0_t6_body
  rw [k0_part6_eq_skeleton, k0_part7_eq_skeleton]
  unfold k0_part6_skel k0_part7_skel synTrip synStep
  simp only [bind_assoc, pure_bind]
  rfl

theorem t3_body_eq (v2 : BitVec 32) (k : Fin k0_t3_loop.trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 v2 k ⟨⟩
      = (do
        issue4 ⟨arg2, arg3, arg4, arg5⟩ ⟨arg14, arg16, arg18, arg20⟩ arg22 (k0_off4 i k 1#32) (k0_off4_inb i k 0)
        drain4 ⟨arg2, arg3, arg4, arg5⟩ ⟨arg13, arg15, arg17, arg19⟩ arg21
        Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 v2 0#32 1#32 k)
        issue4 ⟨arg2, arg3, arg4, arg5⟩ ⟨arg13, arg15, arg17, arg19⟩ arg21 (k0_off4 i k 2#32) (k0_off4_inb i k 1)
        drain4 ⟨arg2, arg3, arg4, arg5⟩ ⟨arg14, arg16, arg18, arg20⟩ arg22
        Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0)
        pure ⟨⟩) := by
  unfold k0_t3_body
  rw [k0_part5_eq_skeleton]
  unfold k0_part5_skel issue4 drain4
  simp only [bind_assoc, pure_bind]

/-- The second word of tile `i`'s first synapse's place, as the kernel computes it. -/
abbrev tileBase (i : grid0.Coords) : BitVec 32 :=
  Scalar.muli (Scalar.addi (Scalar.muli (BitVec.ofNat 32 (i 0).val) 16#32) (BitVec.ofNat 32 (i 1).val)) 50000#32

theorem syn_kernel_eq :
    cc0__sc_synapse_kernel (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0
      = (do
        Prog.lift (.enqueueDma arg6 (.here arg9) (.dma arg23.sem) harg6.wordExact harg9.wordExact ⟨Or.inl rfl, trivial⟩)
        Prog.lift (.enqueueDma arg7 (.here arg10) (.dma arg24.sem) harg7.wordExact harg10.wordExact ⟨Or.inl rfl, trivial⟩)
        issue4 ⟨arg2, arg3, arg4, arg5⟩ ⟨arg13, arg15, arg17, arg19⟩ arg21 (k0_off1 i) (k0_off1_inb i)
        Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0)
        Prog.lift (.waitDma2 arg24.sem arg7 arg10 harg7.wordExact harg10.wordExact)
        Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0)
        Prog.lift (.waitDma2 arg23.sem arg6 arg9 harg6.wordExact harg9.wordExact)
        Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 (tileBase i))
        drain4 ⟨arg2, arg3, arg4, arg5⟩ ⟨arg13, arg15, arg17, arg19⟩ arg21
        Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0)
        Prog.lift (.enqueueDma arg12 (.here (arg8.slice (Rect.unit (s := S1605632) (k0_off20 i) S50176.size (k0_off20_inb i)) (fun _ => rfl))) (.dma v27_r0.sem) harg12.wordExact (View.wordExact_bits rfl) ⟨Or.inl rfl, trivial⟩)
        Prog.lift (.waitDma2 v27_r0.sem arg12 (arg8.slice (Rect.unit (s := S1605632) (k0_off20 i) S50176.size (k0_off20_inb i)) (fun _ => rfl)) harg12.wordExact (View.wordExact_bits rfl))
        pure ⟨⟩) := by
  rw [cc0__sc_synapse_kernel_eq_skeleton]
  unfold cc0__sc_synapse_kernel_skel
  rw [k0_part8_eq_skeleton]
  unfold k0_part8_skel issue4 drain4
  simp only [bind_assoc, pure_bind]
  rfl

end

end Cert.Proof

end
-- ==== Proof.MemProg.lean ====
/-
  The membrane kernel's program in a compact form: thirty-two copies started and awaited by number, the six neuron
  arrays staged at either of two sizes, and a trip that adds the thirty-two partial sums of sixteen neurons.
-/
module

public import proofs.«01_k».proof.Proof.SynProg

@[expose] public section

noncomputable section

namespace Cert.Proof

open Cert.KernelIdeal Cert.KernelIdeal.Gen

open Idealize.ShloMosaic
open Idealize.SL.Sem

variable {F : FTy → Type} [FloatOps F]
variable {c : Fin τ.nSC} {j : Fin τ.nSub}

/-- The place of part `r` in the buffer of parts. -/
theorem part_inb {r : ℕ} (h : r < 32) : ∀ a, (![1568 * r] : Fin 1 → ℕ) a + S1568.size a ≤ S50176.size a := by
  intro a
  match a with
  | 0 => show 1568 * r + 1568 ≤ 50176; omega

/-- The copy of part `r` into the buffer of parts. -/
def partCopy (i : grid1.Coords) (src : Memref sig .scVector .hbm S1605632 .f32) (dst : Memref sig .scVector .vmem S50176 .f32) (sem : DmaSems sig S_)
    (r : ℕ) (h : r < 32) : TileProg F c j PUnit :=
  Prog.lift (.enqueueDma (src.slice (Rect.unit (s := S1605632) (k1_off1 i (BitVec.ofNat 32 (50176 * r))) S1568.size (k1_off1_inb i ⟨r, h⟩)) (fun _ => rfl))
    (.here (dst.slice (Rect.unit (s := S50176) ![1568 * r] S1568.size (part_inb h)) (fun _ => rfl))) (.dma sem.sem) (View.wordExact_bits rfl) (View.wordExact_bits rfl) ⟨Or.inl rfl, trivial⟩)

/-- The wait for part `r`. -/
def partWait (i : grid1.Coords) (src : Memref sig .scVector .hbm S1605632 .f32) (dst : Memref sig .scVector .vmem S50176 .f32) (sem : DmaSems sig S_)
    (r : ℕ) (h : r < 32) : TileProg F c j PUnit :=
  Prog.lift (.waitDma2 sem.sem (src.slice (Rect.unit (s := S1605632) (k1_off1 i (BitVec.ofNat 32 (50176 * r))) S1568.size (k1_off1_inb i ⟨r, h⟩)) (fun _ => rfl))
    (dst.slice (Rect.unit (s := S50176) ![1568 * r] S1568.size (part_inb h)) (fun _ => rfl)) (View.wordExact_bits rfl) (View.wordExact_bits rfl))

/-- The copies of parts `r`, `r + 1`, …, `n` of them. -/
def partCopies (i : grid1.Coords) (src : Memref sig .scVector .hbm S1605632 .f32) (dst : Memref sig .scVector .vmem S50176 .f32) (sem : DmaSems sig S_) :
    (n r : ℕ) → n + r ≤ 32 → TileProg F c j PUnit
  | 0, _, _ => pure ⟨⟩
  | n + 1, r, h => do
    partCopy i src dst sem r (by omega)
    partCopies i src dst sem n (r + 1) (by omega)

/-- The waits for parts `r`, `r + 1`, …, `n` of them. -/
def partWaits (i : grid1.Coords) (src : Memref sig .scVector .hbm S1605632 .f32) (dst : Memref sig .scVector .vmem S50176 .f32) (sem : DmaSems sig S_) :
    (n r : ℕ) → n + r ≤ 32 → TileProg F c j PUnit
  | 0, _, _ => pure ⟨⟩
  | n + 1, r, h => do
    partWait i src dst sem r (by omega)
    partWaits i src dst sem n (r + 1) (by omega)

/-- The neurons' arrays. -/
structure Neurons where
  v : Memref sig .scVector .hbm S50000 .f32
  sp : Memref sig .scVector .hbm S50000 .f32
  dec : Memref sig .scVector .hbm S50000 .f32
  cf : Memref sig .scVector .hbm S50000 .f32
  vth : Memref sig .scVector .hbm S50000 .f32
  nrm : Memref sig .scVector .hbm S50000 .f32

/-- A tile's stretch of them. -/
structure Stretch where
  v : Memref sig .scVector .vmem S1568 .f32
  sp : Memref sig .scVector .vmem S1568 .f32
  dec : Memref sig .scVector .vmem S1568 .f32
  cf : Memref sig .scVector .vmem S1568 .f32
  vth : Memref sig .scVector .vmem S1568 .f32
  nrm : Memref sig .scVector .vmem S1568 .f32

/-- The semaphores of the six arrays' copies. -/
structure Sems6 where
  v : DmaSems sig S_
  sp : DmaSems sig S_
  dec : DmaSems sig S_
  cf : DmaSems sig S_
  vth : DmaSems sig S_
  nrm : DmaSems sig S_

/-- One array's stretch of `n` neurons, copied. -/
def stretchCopy (n : ℕ) (src : Memref sig .scVector .hbm S50000 .f32) (dst : Memref sig .scVector .vmem S1568 .f32) (sem : DmaSems sig S_)
    (off : Fin 1 → ℕ) (inb : ∀ a, off a + (⟨1, ![n]⟩ : Shape).size a ≤ S50000.size a) (hn : ∀ a, (![0] : Fin 1 → ℕ) a + (⟨1, ![n]⟩ : Shape).size a ≤ S1568.size a) :
    TileProg F c j PUnit :=
  Prog.lift (.enqueueDma (src.slice (Rect.unit (s := S50000) off (⟨1, ![n]⟩ : Shape).size inb) (fun _ => rfl))
    (.here (dst.slice (Rect.unit (s := S1568) ![0] (⟨1, ![n]⟩ : Shape).size hn) (fun _ => rfl))) (.dma sem.sem) (View.wordExact_bits rfl) (View.wordExact_bits rfl) ⟨Or.inl rfl, trivial⟩)

/-- Its wait. -/
def stretchWait (n : ℕ) (src : Memref sig .scVector .hbm S50000 .f32) (dst : Memref sig .scVector .vmem S1568 .f32) (sem : DmaSems sig S_)
    (off : Fin 1 → ℕ) (inb : ∀ a, off a + (⟨1, ![n]⟩ : Shape).size a ≤ S50000.size a) (hn : ∀ a, (![0] : Fin 1 → ℕ) a + (⟨1, ![n]⟩ : Shape).size a ≤ S1568.size a) :
    TileProg F c j PUnit :=
  Prog.lift (.waitDma2 sem.sem (src.slice (Rect.unit (s := S50000) off (⟨1, ![n]⟩ : Shape).size inb) (fun _ => rfl))
    (dst.slice (Rect.unit (s := S1568) ![0] (⟨1, ![n]⟩ : Shape).size hn) (fun _ => rfl)) (View.wordExact_bits rfl) (View.wordExact_bits rfl))

/-- The six arrays' stretches of `n` neurons, copied and awaited. -/
def stage (n : ℕ) (g : Neurons) (b : Stretch) (sm : Sems6)
    (off : Fin 1 → ℕ) (inb : ∀ a, off a + (⟨1, ![n]⟩ : Shape).size a ≤ S50000.size a) (hn : ∀ a, (![0] : Fin 1 → ℕ) a + (⟨1, ![n]⟩ : Shape).size a ≤ S1568.size a) :
    TileProg F c j PUnit := do
  stretchCopy n g.v b.v sm.v off inb hn
  stretchCopy n g.sp b.sp sm.sp off inb hn
  stretchCopy n g.dec b.dec sm.dec off inb hn
  stretchCopy n g.cf b.cf sm.cf off inb hn
  stretchCopy n g.vth b.vth sm.vth off inb hn
  stretchCopy n g.nrm b.nrm sm.nrm off inb hn
  stretchWait n g.v b.v sm.v off inb hn
  stretchWait n g.sp b.sp sm.sp off inb hn
  stretchWait n g.dec b.dec sm.dec off inb hn
  stretchWait n g.cf b.cf sm.cf off inb hn
  stretchWait n g.vth b.vth sm.vth off inb hn
  stretchWait n g.nrm b.nrm sm.nrm off inb hn

/-- The sum of sixteen neurons' parts, from part `r + 1` on, `n` of them, added to `a`. -/
def partSum (m : Memref sig .scVector .vmem S50176 .f32) (off : BitVec 32 → Fin 1 → ℕ)
    (inb : ∀ r : Fin 31, ∀ a, off (BitVec.ofNat 32 (1568 + 1568 * r.val)) a + S16.size a ≤ S50176.size a) :
    (n r : ℕ) → n + r ≤ 31 → FVec F S16 .f32 → TileProg F c j (FVec F S16 .f32)
  | 0, _, _, a => pure a
  | n + 1, r, h, a => do
    let x : Vec F S16 .f32 ← Prog.lift (.load m (Rect.unit (s := S50176) (off (BitVec.ofNat 32 (1568 + 1568 * r))) S16.size (inb ⟨r, by omega⟩)).toLoadRect (View.loadsAt_vmem h_S16))
    partSum m off inb n (r + 1) (by omega) (addf a x)

/-- The new potentials of sixteen neurons, scaled and compared: one where the neuron fires, zero elsewhere. -/
def fire (rec sp v dec cf vth nrm : FVec F S16 .f32) : FVec F S16 .f32 :=
  k1_pay1 (addf (mulf dec (mulf v (subf (broadcast S16 (Scalar.ofBits .f32 0x3F800000#32)) sp))) (mulf cf rec)) vth nrm

/-- A trip of the membrane loop: sixteen neurons. -/
def memTrip (m : Memref sig .scVector .vmem S50176 .f32) (b : Stretch) (out : Memref sig .scVector .vmem S1568 .f32)
    (off₀ : Fin 1 → ℕ) (h₀ : ∀ a, off₀ a + S16.size a ≤ S50176.size a) (off : BitVec 32 → Fin 1 → ℕ)
    (inb : ∀ r : Fin 31, ∀ a, off (BitVec.ofNat 32 (1568 + 1568 * r.val)) a + S16.size a ≤ S50176.size a)
    (o : Fin 1 → ℕ) (ho : ∀ a, o a + S16.size a ≤ S1568.size a) : TileProg F c j Unit := do
  let x : Vec F S16 .f32 ← Prog.lift (.load m (Rect.unit (s := S50176) off₀ S16.size h₀).toLoadRect (View.loadsAt_vmem h_S16))
  let rec ← partSum m off inb 31 0 (by omega) x
  let sp : Vec F S16 .f32 ← Prog.lift (.load b.sp (Rect.unit (s := S1568) o S16.size ho).toLoadRect (View.loadsAt_vmem h_S16))
  let v : Vec F S16 .f32 ← Prog.lift (.load b.v (Rect.unit (s := S1568) o S16.size ho).toLoadRect (View.loadsAt_vmem h_S16))
  let dec : Vec F S16 .f32 ← Prog.lift (.load b.dec (Rect.unit (s := S1568) o S16.size ho).toLoadRect (View.loadsAt_vmem h_S16))
  let cf : Vec F S16 .f32 ← Prog.lift (.load b.cf (Rect.unit (s := S1568) o S16.size ho).toLoadRect (View.loadsAt_vmem h_S16))
  let vth : Vec F S16 .f32 ← Prog.lift (.load b.vth (Rect.unit (s := S1568) o S16.size ho).toLoadRect (View.loadsAt_vmem h_S16))
  let nrm : Vec F S16 .f32 ← Prog.lift (.load b.nrm (Rect.unit (s := S1568) o S16.size ho).toLoadRect (View.loadsAt_vmem h_S16))
  let _ : Vec F S16 .f32 ← Prog.lift (.load out (Rect.unit (s := S1568) o S16.size ho).toLoadRect (View.loadsAt_vmem h_S16))
  Prog.lift (.store out (Rect.unit (s := S1568) o S16.size ho) (fire rec sp v dec cf vth nrm) Finset.univ (View.stores_vmem_bits_univ h_S16 rfl) (.inl rfl))
  pure ⟨⟩

section

variable (i : grid1.Coords)
  (arg2 : Memref sig .scVector .hbm S1605632 .f32) (harg2 : arg2.IsWhole)
  (arg3 : Memref sig .scVector .hbm S50000 .f32) (harg3 : arg3.IsWhole)
  (arg4 : Memref sig .scVector .hbm S50000 .f32) (harg4 : arg4.IsWhole)
  (arg5 : Memref sig .scVector .hbm S50000 .f32) (harg5 : arg5.IsWhole)
  (arg6 : Memref sig .scVector .hbm S50000 .f32) (harg6 : arg6.IsWhole)
  (arg7 : Memref sig .scVector .hbm S50000 .f32) (harg7 : arg7.IsWhole)
  (arg8 : Memref sig .scVector .hbm S50000 .f32) (harg8 : arg8.IsWhole)
  (arg9 : Memref sig .scVector .hbm S50176 .f32) (harg9 : arg9.IsWhole)
  (arg10 : Memref sig .scVector .vmem S50176 .f32) (harg10 : arg10.IsWhole)
  (arg11 : Memref sig .scVector .vmem S1568 .f32) (harg11 : arg11.IsWhole)
  (arg12 : Memref sig .scVector .vmem S1568 .f32) (harg12 : arg12.IsWhole)
  (arg13 : Memref sig .scVector .vmem S1568 .f32) (harg13 : arg13.IsWhole)
  (arg14 : Memref sig .scVector .vmem S1568 .f32) (harg14 : arg14.IsWhole)
  (arg15 : Memref sig .scVector .vmem S1568 .f32) (harg15 : arg15.IsWhole)
  (arg16 : Memref sig .scVector .vmem S1568 .f32) (harg16 : arg16.IsWhole)
  (arg17 : Memref sig .scVector .vmem S1568 .f32) (harg17 : arg17.IsWhole)
  (arg18 arg19 arg20 arg21 arg22 arg23 arg24 arg25 arg26 arg27 arg28 arg29 arg30 v308_r0 v308_r1 : DmaSems sig S_)

set_option maxHeartbeats 4000000 in
set_option maxRecDepth 65536 in
theorem m1_body_eq (k : Fin (k1_t1_loop i).trips) :
    k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 0#32 k ⟨⟩
      = memTrip arg10 ⟨arg11, arg12, arg13, arg14, arg15, arg16⟩ arg17 (k1_off4 i k) (k1_off4_inb i k) (k1_off5 i k) (k1_off5_inb i k) (k1_off6 i k) (k1_off6_inb i k) := by
  unfold k1_t1_body
  rw [k1_part3_eq_skeleton, k1_part4_eq_skeleton, k1_part5_eq_skeleton, k1_part6_eq_skeleton]
  unfold k1_part3_skel k1_part4_skel k1_part5_skel k1_part6_skel memTrip
  simp only [partSum, bind_assoc, pure_bind]
  rfl

set_option maxRecDepth 65536 in
theorem part11_eq :
    k1_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1
      = (do partCopies i arg2 arg10 arg18 5 0 (by omega); pure ⟨Scalar.muli (Scalar.addi (Scalar.muli (BitVec.ofNat 32 (i 0).val) 16#32) (BitVec.ofNat 32 (i 1).val)) 1568#32, Scalar.cmpi .eq (Scalar.addi (Scalar.muli (BitVec.ofNat 32 (i 0).val) 16#32) (BitVec.ofNat 32 (i 1).val)) 31#32⟩) := by
  rw [k1_part11_eq_skeleton]; unfold k1_part11_skel
  simp only [partCopies, partWaits, partCopy, partWait, bind_assoc, pure_bind]

set_option maxRecDepth 65536 in
theorem part12_eq (v2 : BitVec 32) :
    k1_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 v2
      = (do partCopies i arg2 arg10 arg18 7 5 (by omega); pure ⟨⟩) := by
  rw [k1_part12_eq_skeleton]; unfold k1_part12_skel
  simp only [partCopies, partWaits, partCopy, partWait, bind_assoc, pure_bind]

set_option maxRecDepth 65536 in
theorem part13_eq (v2 : BitVec 32) :
    k1_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 v2
      = (do partCopies i arg2 arg10 arg18 7 12 (by omega); pure ⟨⟩) := by
  rw [k1_part13_eq_skeleton]; unfold k1_part13_skel
  simp only [partCopies, partWaits, partCopy, partWait, bind_assoc, pure_bind]

set_option maxRecDepth 65536 in
theorem part14_eq (v2 : BitVec 32) :
    k1_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 v2
      = (do partCopies i arg2 arg10 arg18 6 19 (by omega); pure ⟨⟩) := by
  rw [k1_part14_eq_skeleton]; unfold k1_part14_skel
  simp only [partCopies, partWaits, partCopy, partWait, bind_assoc, pure_bind]

set_option maxRecDepth 65536 in
theorem part15_eq (v2 : BitVec 32) (v3 : BitVec 1) :
    k1_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 v2 v3
      = (do partCopies i arg2 arg10 arg18 7 25 (by omega); pure ⟨⟩) := by
  rw [k1_part15_eq_skeleton]; unfold k1_part15_skel
  simp only [partCopies, partWaits, partCopy, partWait, bind_assoc, pure_bind]

set_option maxRecDepth 65536 in
theorem part17_eq :
    k1_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1
      = (do partWaits i arg2 arg10 arg18 9 7 (by omega); pure ⟨⟩) := by
  rw [k1_part17_eq_skeleton]; unfold k1_part17_skel
  simp only [partCopies, partWaits, partCopy, partWait, bind_assoc, pure_bind]
  rfl

set_option maxRecDepth 65536 in
theorem part18_eq :
    k1_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1
      = (do partWaits i arg2 arg10 arg18 8 16 (by omega); pure ⟨⟩) := by
  rw [k1_part18_eq_skeleton]; unfold k1_part18_skel
  simp only [partCopies, partWaits, partCopy, partWait, bind_assoc, pure_bind]
  rfl

set_option maxRecDepth 65536 in
theorem part19_eq (v3 : BitVec 1) :
    k1_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 v3
      = (do partWaits i arg2 arg10 arg18 8 24 (by omega); pure ⟨0#32, 1#32, Scalar.divsi (Scalar.subi (Scalar.select v3 87#32 98#32) 0#32) 1#32⟩) := by
  rw [k1_part19_eq_skeleton]; unfold k1_part19_skel
  simp only [partCopies, partWaits, partCopy, partWait, bind_assoc, pure_bind]
  rfl

set_option maxRecDepth 65536 in
theorem part16_eq (v3 : BitVec 1) :
    k1_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 v3
      = (do
        (if h : k1_cond1 i = 1#1 then stage 1392 ⟨arg3, arg4, arg5, arg6, arg7, arg8⟩ ⟨arg11, arg12, arg13, arg14, arg15, arg16⟩ ⟨arg25, arg26, arg27, arg28, arg29, arg30⟩ (k1_off2 i) (k1_off2_inb i h) inb_S1568_S1392_0 else pure ⟨⟩)
        (if h : k1_cond2 i = 1#1 then stage 1568 ⟨arg3, arg4, arg5, arg6, arg7, arg8⟩ ⟨arg11, arg12, arg13, arg14, arg15, arg16⟩ ⟨arg19, arg20, arg21, arg22, arg23, arg24⟩ (k1_off3 i) (k1_off3_inb i h) inb_S1568_S1568_0 else pure ⟨⟩)
        partWaits i arg2 arg10 arg18 7 0 (by omega)) := by
  rw [k1_part16_eq_skeleton]; unfold k1_part16_skel
  rw [k1_part1_eq_skeleton, k1_part2_eq_skeleton]
  unfold k1_part1_skel k1_part2_skel stage
  by_cases h1 : k1_cond1 i = 1#1 <;> by_cases h2 : k1_cond2 i = 1#1
  · simp only [dif_pos h1, dif_pos h2, partWaits, partWait, stretchCopy, stretchWait, bind_assoc, pure_bind]; rfl
  · simp only [dif_pos h1, dif_neg h2, partWaits, partWait, stretchCopy, stretchWait, bind_assoc, pure_bind]; rfl
  · simp only [dif_neg h1, dif_pos h2, partWaits, partWait, stretchCopy, stretchWait, bind_assoc, pure_bind]; rfl
  · simp only [dif_neg h1, dif_neg h2, partWaits, partWait, stretchCopy, stretchWait, bind_assoc, pure_bind]; rfl

set_option maxHeartbeats 4000000 in
set_option maxRecDepth 65536 in
theorem mem_kernel_eq :
    cc1__sc_membrane_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1
      = (do
        partCopies i arg2 arg10 arg18 32 0 (by omega)
        (if h : k1_cond1 i = 1#1 then stage 1392 ⟨arg3, arg4, arg5, arg6, arg7, arg8⟩ ⟨arg11, arg12, arg13, arg14, arg15, arg16⟩ ⟨arg25, arg26, arg27, arg28, arg29, arg30⟩ (k1_off2 i) (k1_off2_inb i h) inb_S1568_S1392_0 else pure ⟨⟩)
        (if h : k1_cond2 i = 1#1 then stage 1568 ⟨arg3, arg4, arg5, arg6, arg7, arg8⟩ ⟨arg11, arg12, arg13, arg14, arg15, arg16⟩ ⟨arg19, arg20, arg21, arg22, arg23, arg24⟩ (k1_off3 i) (k1_off3_inb i h) inb_S1568_S1568_0 else pure ⟨⟩)
        partWaits i arg2 arg10 arg18 32 0 (by omega)
        Scf.Loop.for (k1_t1_loop i) (k1_t1_ok i) ⟨⟩ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 0#32)
        Scf.Loop.for (k1_t2_loop i) (k1_t2_ok i) ⟨⟩ (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1
          (Scalar.addi 0#32 (Scalar.muli (Scalar.divsi (Scalar.subi (Scalar.select (Scalar.cmpi .eq (Scalar.addi (Scalar.muli (BitVec.ofNat 32 (i 0).val) 16#32) (BitVec.ofNat 32 (i 1).val)) 31#32) 87#32 98#32) 0#32) 1#32) 1#32)))
        (if h : k1_cond3 i = 1#1 then do
          Prog.lift (.enqueueDma (arg17.slice (Rect.unit (s := S1568) ![0] S1392.size inb_S1568_S1392_0) (fun _ => rfl)) (.here (arg9.slice (Rect.unit (s := S50176) (k1_off10 i) S1392.size (k1_off10_inb i h)) (fun _ => rfl))) (.dma v308_r0.sem) (View.wordExact_bits rfl) (View.wordExact_bits rfl) ⟨Or.inl rfl, trivial⟩)
          Prog.lift (.waitDma2 v308_r0.sem (arg17.slice (Rect.unit (s := S1568) ![0] S1392.size inb_S1568_S1392_0) (fun _ => rfl)) (arg9.slice (Rect.unit (s := S50176) (k1_off10 i) S1392.size (k1_off10_inb i h)) (fun _ => rfl)) (View.wordExact_bits rfl) (View.wordExact_bits rfl))
          else pure ⟨⟩)
        (if h : k1_cond4 i = 1#1 then do
          Prog.lift (.enqueueDma arg17 (.here (arg9.slice (Rect.unit (s := S50176) (k1_off11 i) S1568.size (k1_off11_inb i h)) (fun _ => rfl))) (.dma v308_r1.sem) harg17.wordExact (View.wordExact_bits rfl) ⟨Or.inl rfl, trivial⟩)
          Prog.lift (.waitDma2 v308_r1.sem arg17 (arg9.slice (Rect.unit (s := S50176) (k1_off11 i) S1568.size (k1_off11_inb i h)) (fun _ => rfl)) harg17.wordExact (View.wordExact_bits rfl))
          else pure ⟨⟩)
        pure ⟨⟩) := by
  rw [cc1__sc_membrane_kernel_eq_skeleton]
  unfold cc1__sc_membrane_kernel_skel
  by_cases h3 : k1_cond3 i = 1#1 <;> by_cases h4 : k1_cond4 i = 1#1
  · simp only [part11_eq, part12_eq, part13_eq, part14_eq, part15_eq, part16_eq, part17_eq, part18_eq, part19_eq, dif_pos h3, dif_pos h4, partCopies, partWaits, bind_assoc, pure_bind]; rfl
  · simp only [part11_eq, part12_eq, part13_eq, part14_eq, part15_eq, part16_eq, part17_eq, part18_eq, part19_eq, dif_pos h3, dif_neg h4, partCopies, partWaits, bind_assoc, pure_bind]; rfl
  · simp only [part11_eq, part12_eq, part13_eq, part14_eq, part15_eq, part16_eq, part17_eq, part18_eq, part19_eq, dif_neg h3, dif_pos h4, partCopies, partWaits, bind_assoc, pure_bind]; rfl
  · simp only [part11_eq, part12_eq, part13_eq, part14_eq, part15_eq, part16_eq, part17_eq, part18_eq, part19_eq, dif_neg h3, dif_neg h4, partCopies, partWaits, bind_assoc, pure_bind]

end

end Cert.Proof

end
-- ==== Proof.Vals.lean ====
/-
  The values the two kernels compute, as functions of the places in the arrays: the accumulation of the synapses' products
  in the order they are taken, and the new firing of a neuron from the thirty-two tiles' partial sums.
-/
module

public import proofs.«01_k».proof.Proof.MemProg

@[expose] public section

noncomputable section

namespace Cert.Proof

open Cert.KernelIdeal Cert.KernelIdeal.Gen

open Idealize.ShloMosaic

variable {F : FTy → Type} [FloatOps F]

/-- An array of one axis read by its place. -/
def at1 {α : Type} (n : ℕ) (f : ℕ → α) : (⟨1, ![n]⟩ : Shape).Idx → α := fun x => f (x 0).val

/-- The arrays of the problem, by place. -/
structure Data (F : FTy → Type) where
  pre : ℕ → BitVec 32
  post : ℕ → BitVec 32
  sid : ℕ → BitVec 32
  w : ℕ → F .f32
  spk : ℕ → F .f32
  basis : ℕ → F .f32

/-- Every place named by a synapse is inside the array it is looked up in. -/
structure Data.InRange (d : Data F) : Prop where
  pre : ∀ s, s < 1600000 → (d.pre s).toNat < 50000
  post : ∀ s, s < 1600000 → (d.post s).toNat < 50000
  sid : ∀ s, s < 1600000 → (d.sid s).toNat < 512

/-- The sum of a row of the basis. -/
def Data.rowSum (d : Data F) (n : ℕ) : F .f32 :=
  FloatOps.addf (FloatOps.addf (FloatOps.addf (FloatOps.addf (d.basis (5 * n)) (d.basis (5 * n + 1))) (d.basis (5 * n + 2))) (d.basis (5 * n + 3))) (d.basis (5 * n + 4))

/-- What synapse `s` adds. -/
def Data.term (d : Data F) (s : ℕ) : F .f32 :=
  FloatOps.mulf (FloatOps.mulf (d.spk (d.pre s).toNat) (d.w s)) (d.rowSum (d.sid s).toNat)

/-- The synapse's spike is positive. -/
def Data.fires (d : Data F) (s : ℕ) : Prop :=
  FloatOps.cmpf .ogt (d.spk (d.pre s).toNat) (Scalar.ofBits .f32 0x00000000#32) = 1#1

open Classical in
/-- The accumulator after synapse `s`. -/
def Data.hit (d : Data F) (s : ℕ) (a : ℕ → F .f32) : ℕ → F .f32 := fun j =>
  if d.fires s ∧ j = (d.post s).toNat then FloatOps.idxAddf (a j) (d.term s) else a j

/-- The accumulator after the `n` synapses from `lo` on. -/
def Data.accum (d : Data F) (lo : ℕ) : ℕ → ℕ → F .f32
  | 0 => fun _ => Scalar.ofBits .f32 0x00000000#32
  | n + 1 => d.hit (lo + n) (d.accum lo n)

/-- A fold over the lanes in order, by what it has reached before each. -/
theorem foldl_lanes {α : Type} (A : ℕ → α) : ∀ (m : ℕ) (step : α → Fin m → α), (∀ k : Fin m, step (A k.val) k = A (k.val + 1)) →
    (List.finRange m).foldl step (A 0) = A m
  | 0, _, _ => rfl
  | m + 1, step, h => by
    rw [List.finRange_succ_last, List.foldl_append, List.foldl_map]
    rw [foldl_lanes A m (fun a k => step a k.castSucc) (fun k => h k.castSucc)]
    exact h (Fin.last m)

/-- Sixteen synapses' masked scatter is sixteen steps of the accumulation. -/
theorem scatter_accum (d : Data F) (lo n s : ℕ) (hs : lo + n = s) (o : IVec S16 32) (v : FVec F S16 .f32) (mask : IVec S16 1)
    (ho : ∀ a x, ((![o] : Fin 1 → IVec S16 32) a x).toNat < S50176.size a)
    (eo : ∀ x : S16.Idx, o x = d.post (s + (x 0).val)) (ev : ∀ x : S16.Idx, v x = d.term (s + (x 0).val))
    (em : ∀ x : S16.Idx, mask x = 1#1 ↔ d.fires (s + (x 0).val)) :
    storeIdx (s := S50176) (F := F) (e := .f32) (at1 50176 (d.accum lo n)) ![o] v mask true ho = at1 50176 (d.accum lo (n + 16)) := by
  unfold storeIdx
  refine foldl_lanes (fun k => (at1 50176 (d.accum lo (n + k)) : S50176.Idx → F .f32)) 16 _ fun k => ?_
  have hx : ((Shape.ofLane (d := ![16]) k : S16.Idx) 0).val = k.val := rfl
  have e : d.accum lo (n + (k.val + 1)) = d.hit (s + k.val) (d.accum lo (n + k.val)) := by
    subst hs; rw [show lo + n + k.val = lo + (n + k.val) by omega]; rfl
  rw [e]
  by_cases hm : mask (Shape.ofLane (d := ![16]) k) = 1
  · have hf : d.fires (s + k.val) := by have := (em _).1 hm; rwa [hx] at this
    simp only [hm, if_true]
    funext j
    show (if _ then _ else _) = d.hit (s + k.val) (d.accum lo (n + k.val)) (j 0).val
    have eo' := eo (Shape.ofLane (d := ![16]) k)
    rw [hx] at eo'
    have ev' := ev (Shape.ofLane (d := ![16]) k)
    rw [hx] at ev'
    unfold Data.hit
    have hiff : (∀ a, (j a).val = (idxAt (![o] : Fin 1 → IVec S16 32) ho (Shape.ofLane (d := ![16]) k) a).val) ↔ (j 0).val = (d.post (s + k.val)).toNat := by
      constructor
      · intro h; rw [← eo']; exact h 0
      · intro h a
        match a with
        | 0 => rw [← eo'] at h; exact h
    by_cases hj : (j 0).val = (d.post (s + k.val)).toNat
    · rw [if_pos (hiff.2 hj), if_pos ⟨hf, hj⟩, ev', Elt.idxAdd_f32]
      congr 1
      show d.accum lo (n + k.val) _ = _
      rw [hj, ← eo']; rfl
    · rw [if_neg (fun h => hj (hiff.1 h)), if_neg (fun h => hj h.2)]; rfl
  · have hf : ¬ d.fires (s + k.val) := fun h => hm ((em _).2 (by rwa [hx]))
    simp only [hm, if_false]
    funext j
    show d.accum lo (n + k.val) (j 0).val = d.hit (s + k.val) (d.accum lo (n + k.val)) (j 0).val
    unfold Data.hit
    rw [if_neg (fun h => hf h.1)]

/-- The partial sums of a neuron, over the thirty-two tiles, in order. -/
def sumParts (p : ℕ → F .f32) : ℕ → F .f32
  | 0 => p 0
  | n + 1 => FloatOps.addf (sumParts p n) (p (n + 1))

/-- The firing of a neuron from its summed current and its own numbers. -/
def fire1 (rec sp v dec cf vth nrm : F .f32) : F .f32 :=
  Scalar.select (FloatOps.cmpf .ogt (FloatOps.divf (FloatOps.subf
      (FloatOps.addf (FloatOps.mulf dec (FloatOps.mulf v (FloatOps.subf (Scalar.ofBits .f32 0x3F800000#32) sp))) (FloatOps.mulf cf rec)) vth) nrm)
      (Scalar.ofBits .f32 0x00000000#32))
    (Scalar.ofBits .f32 0x3F800000#32) (Scalar.ofBits .f32 0x00000000#32)

theorem fire_apply (rec sp v dec cf vth nrm : FVec F S16 .f32) (x : S16.Idx) :
    fire rec sp v dec cf vth nrm x = fire1 (rec x) (sp x) (v x) (dec x) (cf x) (vth x) (nrm x) := rfl

/-- A rectangle of unit stride on one axis moves a place by its offset. -/
theorem at1_unit {α : Type} {n m : ℕ} (f : ℕ → α) (o : ℕ) (inb : ∀ a, (![o] : Fin 1 → ℕ) a + (⟨1, ![m]⟩ : Shape).size a ≤ (⟨1, ![n]⟩ : Shape).size a)
    (x : (⟨1, ![m]⟩ : Shape).Idx) :
    at1 n f ((Rect.unit (s := ⟨1, ![n]⟩) ![o] (⟨1, ![m]⟩ : Shape).size inb).emb x) = f (o + (x 0).val) := by
  show f _ = _
  congr 1
  show o + 1 * (x 0).val = _
  omega

end Cert.Proof

end
-- ==== Proof.SynStep.lean ====
/-
  The synapse kernel's steps run: sixteen synapses move the accumulator sixteen steps of the accumulation, a trip five
  times that, a chunk's loop two thousand.
-/
module

public import proofs.«01_k».proof.Proof.Vals

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}
variable {dv : Dev nD} {c : Fin τ.nSC} {j : Fin τ.nSub}

/-- A loop by an invariant over its trips. -/
theorem wp_own_for {thr : Thread nD τ} (L : Scf.Loop 32) (hok : L.OK) (body : Fin L.trips → Unit → Prog (TpuEff nD τ sig (Elt F) Λ₀ thr.2) Unit)
    (I : ℕ → sProp (MM F)) (hb : ∀ k : Fin L.trips, I k.val ⊢ WP thr (body k ⟨⟩) fun _ => I (k.val + 1))
    {k : Unit → Prog (TpuEff nD τ sig (Elt F) Λ₀ thr.2) α} {Q : α → sProp (MM F)} :
    I 0 ⊢ iprop((I L.trips -∗ WP thr (k ⟨⟩) Q) -∗ WP thr (Scf.Loop.for L hok ⟨⟩ body >>= k) Q) := by
  have h := Scf.wp_for_bind (σ := Unit) frame (wpE (defs₀ (F := F)) 𝒱₀ thr none) Set.univ L.lb L.ub L.st hok ⟨⟩ body (fun n _ => I n) (fun k _ => hb k) (kk := k) (Q := Q)
  iintro HI Hk
  iapply h $$ HI
  iintro %_ HI
  iapply Hk $$ HI

/-- A program that has ended. -/
theorem wp_own_pure {thr : Thread nD τ} {a : α} {Q : α → sProp (MM F)} : Q a ⊢ WP thr (pure a) Q := by
  show _ ⊢ wp _ _ _ _ _
  rw [wp_pure]
  exact fupd_intro

/-- A chunk of two thousand synapses from `base` on, in one set of buffers. -/
def chunkOwn (dv : Dev nD) (c : Fin τ.nSC) (j : Fin τ.nSub) (b : Chunk) (d : Data F) (base : ℕ) : sProp (MM F) :=
  iprop(own (V dv c j) b.pre fullShare (at1 2000 fun m => d.pre (base + m)) ∗ own (V dv c j) b.post fullShare (at1 2000 fun m => d.post (base + m))
    ∗ own (V dv c j) b.sid fullShare (at1 2000 fun m => d.sid (base + m)) ∗ own (V dv c j) b.w fullShare (at1 2000 fun m => d.w (base + m)))

/-- The tables, the accumulator being `n` synapses past `lo`. -/
def tabOwn (dv : Dev nD) (c : Fin τ.nSC) (j : Fin τ.nSub) (t : Tables) (d : Data F) (lo n : ℕ) : sProp (MM F) :=
  iprop(own (V dv c j) t.spk fullShare (at1 50000 d.spk) ∗ own (V dv c j) t.bsum fullShare (at1 512 d.rowSum)
    ∗ own (V dv c j) t.acc fullShare (at1 50176 (d.accum lo n)))

theorem wp_synStep {t : Tables} {b : Chunk} {d : Data F} (hd : d.InRange) {lo n base o : ℕ} {inb : ∀ a, (![o] : Fin 1 → ℕ) a + S16.size a ≤ S2000.size a}
    (hs : lo + n = base + o) (hb : base + 2000 ≤ 1600000)
    {k : PUnit → TileProg F c j α} {Q : α → sProp (MM F)} :
    iprop(tabOwn dv c j t d lo n ∗ chunkOwn dv c j b d base)
      ⊢ iprop((iprop(tabOwn dv c j t d lo (n + 16) ∗ chunkOwn dv c j b d base) -∗ WP (V dv c j) (k ⟨⟩) Q)
        -∗ WP (V dv c j) (synStep t b ![o] inb >>= k) Q) := by
  have ho : o + 16 ≤ 2000 := inb 0
  have hin : ∀ x : S16.Idx, base + (o + (x 0).val) < 1600000 := fun x => by
    have : (x 0).val < 16 := (x 0).isLt
    omega
  unfold tabOwn chunkOwn synStep
  simp only [bind_assoc]
  iintro ⟨⟨Hz, Hy, Ha⟩, ⟨Hp, Ho, Hi, Hw⟩⟩ Hk
  iapply wp_own_load $$ Hp
  iintro Hp
  iapply wp_own_assume (h := show k0_chk6 _ from fun a x => by
    match a with
    | 0 => exact (congrArg BitVec.toNat (at1_unit (fun m => d.pre (base + m)) o inb x)).trans_lt (hd.pre _ (hin x)))
  iapply wp_own_load $$ Ho
  iintro Ho
  iapply wp_own_assume (h := show k0_chk8 _ from fun a x => by
    match a with
    | 0 => exact (congrArg BitVec.toNat (at1_unit (fun m => d.post (base + m)) o inb x)).trans_lt ((hd.post _ (hin x)).trans (by show 50000 < 50176; omega)))
  iapply wp_own_load $$ Hi
  iintro Hi
  iapply wp_own_assume (h := show k0_chk7 _ from fun a x => by
    match a with
    | 0 => exact (congrArg BitVec.toNat (at1_unit (fun m => d.sid (base + m)) o inb x)).trans_lt (hd.sid _ (hin x)))
  iapply wp_own_load $$ Hw
  iintro Hw
  iapply wp_own_gather $$ Hz
  iintro Hz
  iapply wp_own_gather $$ Hy
  iintro Hy
  iapply wp_own_scatter $$ Ha
  iintro Ha
  rw [scatter_accum d lo n (base + o) hs]
  · iapply Hk
    isplitl [Hz Hy Ha]
    · isplitl [Hz]; · iexact Hz
      isplitl [Hy]; · iexact Hy
      iexact Ha
    isplitl [Hp]; · iexact Hp
    isplitl [Ho]; · iexact Ho
    isplitl [Hi]; · iexact Hi
    iexact Hw
  · intro x
    exact (at1_unit (fun m => d.post (base + m)) o inb x).trans (by rw [Nat.add_assoc])
  · intro x
    have e1 := at1_unit (fun m => d.pre (base + m)) o inb x
    have e2 := at1_unit (fun m => d.sid (base + m)) o inb x
    have e3 := at1_unit (fun m => d.w (base + m)) o inb x
    rw [Data.term, Nat.add_assoc, ← e1, ← e2, ← e3]; rfl
  · intro x
    have e1 := at1_unit (fun m => d.pre (base + m)) o inb x
    rw [Data.fires, Nat.add_assoc, ← e1]; rfl

theorem wp_synTrip {t : Tables} {b : Chunk} {d : Data F} (hd : d.InRange) {lo n base o : ℕ} (o₀ o₁ o₂ o₃ o₄ : Fin 1 → ℕ) {h₀ h₁ h₂ h₃ h₄}
    (e₀ : o₀ = ![o]) (e₁ : o₁ = ![o + 16]) (e₂ : o₂ = ![o + 32]) (e₃ : o₃ = ![o + 48]) (e₄ : o₄ = ![o + 64])
    (hs : lo + n = base + o) (hb : base + 2000 ≤ 1600000) :
    iprop(tabOwn dv c j t d lo n ∗ chunkOwn dv c j b d base)
      ⊢ WP (V dv c j) (synTrip t b o₀ o₁ o₂ o₃ o₄ h₀ h₁ h₂ h₃ h₄) fun _ => iprop(tabOwn dv c j t d lo (n + 80) ∗ chunkOwn dv c j b d base) := by
  subst e₀ e₁ e₂ e₃ e₄
  unfold synTrip
  iintro H
  iapply (wp_synStep hd (by omega) hb) $$ H
  iintro H
  iapply (wp_synStep hd (by omega) hb) $$ H
  iintro H
  iapply (wp_synStep hd (by omega) hb) $$ H
  iintro H
  iapply (wp_synStep hd (by omega) hb) $$ H
  iintro H
  iapply (wp_synStep hd (by omega) hb) $$ H
  iintro H
  iapply wp_own_pure
  iexact H

/-- A chunk's loop. -/
theorem wp_chunk {t : Tables} {b : Chunk} {d : Data F} (hd : d.InRange) {lo n base : ℕ} (hs : lo + n = base) (hb : base + 2000 ≤ 1600000)
    (L : Scf.Loop 32) (hok : L.OK) (hL : L.trips = 25) (body : Fin L.trips → Unit → TileProg F c j Unit)
    (o₀ o₁ o₂ o₃ o₄ : Fin L.trips → Fin 1 → ℕ)
    {h₀ : ∀ k a, o₀ k a + S16.size a ≤ S2000.size a} {h₁ : ∀ k a, o₁ k a + S16.size a ≤ S2000.size a} {h₂ : ∀ k a, o₂ k a + S16.size a ≤ S2000.size a} {h₃ : ∀ k a, o₃ k a + S16.size a ≤ S2000.size a} {h₄ : ∀ k a, o₄ k a + S16.size a ≤ S2000.size a}
    (e₀ : ∀ k, o₀ k = ![80 * k.val]) (e₁ : ∀ k, o₁ k = ![80 * k.val + 16]) (e₂ : ∀ k, o₂ k = ![80 * k.val + 32])
    (e₃ : ∀ k, o₃ k = ![80 * k.val + 48]) (e₄ : ∀ k, o₄ k = ![80 * k.val + 64])
    (he : ∀ k, body k ⟨⟩ = synTrip t b (o₀ k) (o₁ k) (o₂ k) (o₃ k) (o₄ k) (h₀ k) (h₁ k) (h₂ k) (h₃ k) (h₄ k))
    {k : Unit → TileProg F c j α} {Q : α → sProp (MM F)} :
    iprop(tabOwn dv c j t d lo n ∗ chunkOwn dv c j b d base)
      ⊢ iprop((iprop(tabOwn dv c j t d lo (n + 2000) ∗ chunkOwn dv c j b d base) -∗ WP (V dv c j) (k ⟨⟩) Q)
        -∗ WP (V dv c j) (Scf.Loop.for L hok ⟨⟩ body >>= k) Q) := by
  have h := wp_own_for (thr := V dv c j) L hok body (fun m => iprop(tabOwn dv c j t d lo (n + 80 * m) ∗ chunkOwn dv c j b d base)) (fun m => by
    rw [he]
    refine (wp_synTrip hd (o := 80 * m.val) _ _ _ _ _ (e₀ m) (e₁ m) (e₂ m) (e₃ m) (e₄ m) (by omega) hb).trans (wp_mono _ _ _ fun _ => ?_)
    rw [show n + 80 * m.val + 80 = n + 80 * (m.val + 1) by omega]) (k := k) (Q := Q)
  rw [hL] at h
  exact h

end Cert.Proof

end
-- ==== Proof.Flight.lean ====
/-
  Copies in flight: one alone on its semaphore, and the four that bring a chunk of the synapses.
-/
module

public import proofs.«01_k».proof.Proof.SynStep

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {α : Type}

/-- Thread `thr` holds all of `m`, whatever it reads through it. -/
def any {sp : Space} {s : Shape} {e : EltTy} (thr : Thread nD τ) (m : Memref sig thr.2.kind sp s e) : sProp (MM F) :=
  iprop(∃ g, own thr m fullShare g)

theorem any_open {sp : Space} {s : Shape} {e : EltTy} {thr : Thread nD τ} {m : Memref sig thr.2.kind sp s e} :
    any thr m ⊢ iprop(∃ g, own (F := F) thr m fullShare g) := .rfl

theorem any_of {sp : Space} {s : Shape} {e : EltTy} {thr : Thread nD τ} {m : Memref sig thr.2.kind sp s e} (g : s.Idx → Elt F e) :
    own thr m fullShare g ⊢ any thr m := by
  unfold any
  iintro H
  iexists g
  iexact H

section One

variable {sp sp' : Space} {s : Shape} {e : EltTy} {thr : Thread nD τ}

/-- A copy on its own semaphore, under way: `g` from `src` to `dst`. -/
def fly (thr : Thread nD τ) (src : Memref sig thr.2.kind sp s e) (dst : Memref sig thr.2.kind sp' s e) (sem : DmaSem sig) (q : PosShare TreeShare)
    (g : s.Idx → Elt F e) : sProp (MM F) :=
  Transfers.Batch countersEmb thr (.dma sem) (none : HIx 2) dst.view.dmaCredit
    (fun _ : Fin 1 => iprop(own thr dst fullShare g ∗ own thr src q g)) 1 0

variable [FloatOps F]

theorem wp_own_start {src : Memref sig thr.2.kind sp s e} {dst : Memref sig thr.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ₀ thr.2) α} {Q : α → sProp (MM F)} {q : PosShare TreeShare} {g : s.Idx → Elt F e} :
    iprop(own thr src q g ∗ any thr dst ∗ semVal (thr, .dma sem) 0)
      ⊢ iprop((fly thr src dst sem q g -∗ WP thr (k ⟨⟩) Q) -∗ WP thr (Prog.lift (.enqueueDma src (.here dst) (.dma sem) hsrc hdst hsem) >>= k) Q) := by
  unfold any fly
  iintro ⟨Hs, ⟨%g₀, Hd⟩, Hv⟩ Hk
  imod (Transfers.batch_alloc' countersEmb (c := thr) (none : HIx 2) dst.view.dmaCredit (fun _ : Fin 1 => iprop(own thr dst fullShare g ∗ own thr src q g)) (sm := .dma sem) (E := Set.univ)) $$ Hv with HB
  iapply (wp_own_copy (sm := .dma sem) (dst := dst) (n := 1) (j := 0) (u := 0) (N := dst.view.dmaCredit) (D := fun _ => iprop(own thr dst fullShare g ∗ own thr src q g)) rfl (by omega) (by omega) .rfl) $$ [Hs Hd HB]
  · isplitl [Hs]; · iexact Hs
    isplitl [Hd]; · iexact Hd
    iexact HB
  iexact Hk

variable {O : CellTallies nD τ sig (HIx 2)} {W : Waits sig (HIx 2)}

theorem wp_own_finish {src : Memref sig thr.2.kind sp s e} {dst : Memref sig thr.2.kind sp' s e} {sem : DmaSem sig} (h0 : 0 < s.numel)
    {hsrc : src.view.WordExact} {hdst : dst.view.WordExact}
    {k : PUnit → Prog (TpuEff nD τ sig (Elt F) Λ₀ thr.2) α} {Q : α → sProp (MM F)} {q : PosShare TreeShare} {g : s.Idx → Elt F e} :
    iprop(fly thr src dst sem q g ∗ duty thr O W)
      ⊢ iprop((iprop(own thr dst fullShare g ∗ own thr src q g ∗ semVal (thr, .dma sem) 0 ∗ duty thr O W) -∗ WP thr (k ⟨⟩) Q)
        -∗ WP thr (Prog.lift (.waitDma2 sem src dst hsrc hdst) >>= k) Q) := by
  unfold fly
  iintro H Hk
  iapply (wp_own_drain (O := O) (W := W) rfl (View.dmaCredit_pos _ h0) (by omega)) $$ H
  iintro ⟨HD, Hv, HO⟩
  ihave HD' := (Entails.of_eq (bigSep_univ_of_subsingleton (0 : Fin 1))) $$ HD
  icases HD' with ⟨Hd, Hs⟩
  iapply Hk
  isplitl [Hd]; · iexact Hd
  isplitl [Hs]; · iexact Hs
  isplitl [Hv]; · iexact Hv
  iexact HO

end One

/-- Four resources, one by one. -/
theorem bigSep_four (Φ : Fin 4 → sProp (MM F)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

section Four

variable {dv : Dev nD} {c : Fin τ.nSC} {j : Fin τ.nSub}

/-- Read shares of the synapses' arrays. -/
def srcOwn (dv : Dev nD) (c : Fin τ.nSC) (j : Fin τ.nSub) (g : Synapses) (q : PosShare TreeShare) (d : Data F) : sProp (MM F) :=
  iprop(own (V dv c j) g.pre q (at1 1600000 d.pre) ∗ own (V dv c j) g.post q (at1 1600000 d.post)
    ∗ own (V dv c j) g.sid q (at1 1600000 d.sid) ∗ own (V dv c j) g.w q (at1 1600000 d.w))

/-- The four pieces a chunk is copied from. -/
def pieceOwn (dv : Dev nD) (c : Fin τ.nSC) (j : Fin τ.nSub) (g : Synapses) (q : PosShare TreeShare) (d : Data F) (base : ℕ)
    (inb : ∀ a, (![base] : Fin 1 → ℕ) a + S2000.size a ≤ S1600000.size a) (t : Fin 4) : sProp (MM F) :=
  match t with
  | 0 => own (V dv c j) (g.pre.slice (Rect.unit (s := S1600000) ![base] S2000.size inb) (fun _ => rfl)) q (at1 2000 fun m => d.pre (base + m))
  | 1 => own (V dv c j) (g.post.slice (Rect.unit (s := S1600000) ![base] S2000.size inb) (fun _ => rfl)) q (at1 2000 fun m => d.post (base + m))
  | 2 => own (V dv c j) (g.sid.slice (Rect.unit (s := S1600000) ![base] S2000.size inb) (fun _ => rfl)) q (at1 2000 fun m => d.sid (base + m))
  | 3 => own (V dv c j) (g.w.slice (Rect.unit (s := S1600000) ![base] S2000.size inb) (fun _ => rfl)) q (at1 2000 fun m => d.w (base + m))

/-- The four buffers, filled. -/
def fillOwn (dv : Dev nD) (c : Fin τ.nSC) (j : Fin τ.nSub) (b : Chunk) (d : Data F) (base : ℕ) (t : Fin 4) : sProp (MM F) :=
  match t with
  | 0 => own (V dv c j) b.pre fullShare (at1 2000 fun m => d.pre (base + m))
  | 1 => own (V dv c j) b.post fullShare (at1 2000 fun m => d.post (base + m))
  | 2 => own (V dv c j) b.sid fullShare (at1 2000 fun m => d.sid (base + m))
  | 3 => own (V dv c j) b.w fullShare (at1 2000 fun m => d.w (base + m))

/-- The four buffers, whatever they hold. -/
def chunkAny (dv : Dev nD) (c : Fin τ.nSC) (j : Fin τ.nSub) (b : Chunk) : sProp (MM F) :=
  iprop(any (V dv c j) b.pre ∗ any (V dv c j) b.post ∗ any (V dv c j) b.sid ∗ any (V dv c j) b.w)

theorem chunkAny_of (b : Chunk) (d : Data F) (base : ℕ) : chunkOwn dv c j b d base ⊢ chunkAny (F := F) dv c j b := by
  unfold chunkOwn chunkAny any
  iintro ⟨Hp, Ho, Hi, Hw⟩
  isplitl [Hp]; · iexists _; iexact Hp
  isplitl [Ho]; · iexists _; iexact Ho
  isplitl [Hi]; · iexists _; iexact Hi
  iexists _; iexact Hw

/-- What one of a chunk's four copies hands over. -/
def legOwn (dv : Dev nD) (c : Fin τ.nSC) (j : Fin τ.nSub) (g : Synapses) (b : Chunk) (q : PosShare TreeShare) (d : Data F) (base : ℕ)
    (inb : ∀ a, (![base] : Fin 1 → ℕ) a + S2000.size a ≤ S1600000.size a) (t : Fin 4) : sProp (MM F) :=
  iprop(fillOwn dv c j b d base t ∗ pieceOwn dv c j g q d base inb t)

instance (g : Synapses) (b : Chunk) (q : PosShare TreeShare) (d : Data F) (base : ℕ) (inb) (t : Fin 4) :
    Storable (upEmb : UEmb _ (MM F)) (legOwn dv c j g b q d base inb t) := by
  match t with
  | 0 => unfold legOwn fillOwn pieceOwn own; infer_instance
  | 1 => unfold legOwn fillOwn pieceOwn own; infer_instance
  | 2 => unfold legOwn fillOwn pieceOwn own; infer_instance
  | 3 => unfold legOwn fillOwn pieceOwn own; infer_instance

theorem legs_open (g : Synapses) (b : Chunk) (q : PosShare TreeShare) (d : Data F) (base : ℕ) (inb) :
    bigSep Finset.univ (legOwn dv c j g b q d base inb)
      ⊢ iprop(chunkOwn dv c j b d base
        ∗ (pieceOwn dv c j g q d base inb 0 ∗ pieceOwn dv c j g q d base inb 1 ∗ pieceOwn dv c j g q d base inb 2 ∗ pieceOwn dv c j g q d base inb 3)) := by
  rw [bigSep_four]
  unfold legOwn fillOwn chunkOwn
  iintro ⟨⟨Hb0, Hp⟩, ⟨Hb1, Ho⟩, ⟨Hb2, Hi⟩, ⟨Hb3, Hw⟩⟩
  isplitl [Hb0 Hb1 Hb2 Hb3]
  · isplitl [Hb0]; · iexact Hb0
    isplitl [Hb1]; · iexact Hb1
    isplitl [Hb2]; · iexact Hb2
    iexact Hb3
  isplitl [Hp]; · iexact Hp
  isplitl [Ho]; · iexact Ho
  isplitl [Hi]; · iexact Hi
  iexact Hw

/-- The four buffers take the same credit. -/
structure Chunk.Even (b : Chunk) (N : ℕ) : Prop where
  pos : 0 < N
  pre : b.pre.view.dmaCredit = N
  post : b.post.view.dmaCredit = N
  sid : b.sid.view.dmaCredit = N
  w : b.w.view.dmaCredit = N

/-- A chunk's four copies under way, and the promise that the pieces give the arrays back. -/
def fly4 (dv : Dev nD) (c : Fin τ.nSC) (j : Fin τ.nSub) (g : Synapses) (b : Chunk) (sem : DmaSems sig S_) (N : ℕ) (q : PosShare TreeShare) (d : Data F) (base : ℕ) : sProp (MM F) :=
  iprop(∃ inb : ∀ a, (![base] : Fin 1 → ℕ) a + S2000.size a ≤ S1600000.size a,
    Transfers.Batch countersEmb (V dv c j) (.dma sem.sem) (none : HIx 2) N (legOwn dv c j g b q d base inb) 4 0
    ∗ ((pieceOwn dv c j g q d base inb 0 ∗ pieceOwn dv c j g q d base inb 1 ∗ pieceOwn dv c j g q d base inb 2 ∗ pieceOwn dv c j g q d base inb 3) -∗ srcOwn dv c j g q d))

theorem at1_piece {β : Type} (f : ℕ → β) (base : ℕ) (inb : ∀ a, (![base] : Fin 1 → ℕ) a + S2000.size a ≤ S1600000.size a) :
    (fun x => at1 1600000 f ((Rect.unit (s := S1600000) ![base] S2000.size inb).emb x)) = at1 2000 fun m => f (base + m) := by
  funext x; exact at1_unit f base inb x

/-- The four pieces of the arrays, and the promise that they give the arrays back. -/
theorem srcOwn_pieces (g : Synapses) (q : PosShare TreeShare) (d : Data F) (base : ℕ) (inb : ∀ a, (![base] : Fin 1 → ℕ) a + S2000.size a ≤ S1600000.size a) :
    srcOwn dv c j g q d ⊢ iprop((pieceOwn dv c j g q d base inb 0 ∗ pieceOwn dv c j g q d base inb 1 ∗ pieceOwn dv c j g q d base inb 2 ∗ pieceOwn dv c j g q d base inb 3)
      ∗ ((pieceOwn dv c j g q d base inb 0 ∗ pieceOwn dv c j g q d base inb 1 ∗ pieceOwn dv c j g q d base inb 2 ∗ pieceOwn dv c j g q d base inb 3) -∗ srcOwn dv c j g q d)) := by
  unfold srcOwn pieceOwn
  have h0 := own_slice (thr := V dv c j) g.pre q (at1 1600000 d.pre : _ → Elt F .i32) (Rect.unit (s := S1600000) ![base] S2000.size inb) (fun _ => rfl)
  have h1 := own_slice (thr := V dv c j) g.post q (at1 1600000 d.post : _ → Elt F .i32) (Rect.unit (s := S1600000) ![base] S2000.size inb) (fun _ => rfl)
  have h2 := own_slice (thr := V dv c j) g.sid q (at1 1600000 d.sid : _ → Elt F .i32) (Rect.unit (s := S1600000) ![base] S2000.size inb) (fun _ => rfl)
  have h3 := own_slice (thr := V dv c j) g.w q (at1 1600000 d.w : _ → Elt F .f32) (Rect.unit (s := S1600000) ![base] S2000.size inb) (fun _ => rfl)
  rw [at1_piece] at h0 h1 h2 h3
  iintro ⟨Hp, Ho, Hi, Hw⟩
  ihave Hp := h0 $$ Hp
  ihave Ho := h1 $$ Ho
  ihave Hi := h2 $$ Hi
  ihave Hw := h3 $$ Hw
  icases Hp with ⟨Hp, Kp⟩
  icases Ho with ⟨Ho, Ko⟩
  icases Hi with ⟨Hi, Ki⟩
  icases Hw with ⟨Hw, Kw⟩
  isplitl [Hp Ho Hi Hw]
  · isplitl [Hp]; · iexact Hp
    isplitl [Ho]; · iexact Ho
    isplitl [Hi]; · iexact Hi
    iexact Hw
  iintro ⟨Hp, Ho, Hi, Hw⟩
  isplitl [Hp Kp]; · iapply Kp $$ Hp
  isplitl [Ho Ko]; · iapply Ko $$ Ho
  isplitl [Hi Ki]; · iapply Ki $$ Hi
  iapply Kw $$ Hw

variable [FloatOps F]

/-- Starting a chunk. -/
theorem wp_issue4 {g : Synapses} {b : Chunk} {sem : DmaSems sig S_} {N : ℕ} (hN : b.Even N) {q : PosShare TreeShare} {d : Data F} {base : ℕ}
    {off : Fin 1 → ℕ} {inb : ∀ a, off a + S2000.size a ≤ S1600000.size a} (ho : off = ![base])
    {k : PUnit → TileProg F c j α} {Q : α → sProp (MM F)} :
    iprop(srcOwn dv c j g q d ∗ chunkAny dv c j b ∗ semVal (V dv c j, .dma sem.sem) 0)
      ⊢ iprop((fly4 dv c j g b sem N q d base -∗ WP (V dv c j) (k ⟨⟩) Q) -∗ WP (V dv c j) (issue4 g b sem off inb >>= k) Q) := by
  subst ho
  have hsrc := srcOwn_pieces (dv := dv) (c := c) (j := j) g q d base inb
  unfold chunkAny any issue4 fly4
  unfold pieceOwn at hsrc ⊢
  simp only [bind_assoc]
  iintro ⟨Hsrc, ⟨⟨%g0, Hb0⟩, ⟨%g1, Hb1⟩, ⟨%g2, Hb2⟩, ⟨%g3, Hb3⟩⟩, Hv⟩ Hk
  ihave Hsrc := hsrc $$ Hsrc
  icases Hsrc with ⟨⟨Hp, Ho, Hi, Hw⟩, Hback⟩
  imod (Transfers.batch_alloc' countersEmb (c := V dv c j) (none : HIx 2) N (legOwn dv c j g b q d base inb) (sm := .dma sem.sem) (E := Set.univ)) $$ Hv with HB
  iapply (wp_own_copy (thr := V dv c j) (n := 4) (sm := .dma sem.sem) (dst := b.pre) (j := 0) (u := 0) (N := N) (D := legOwn dv c j g b q d base inb) (g := at1 2000 fun m => d.pre (base + m)) hN.pre (by omega) (by omega) (by exact .rfl)) $$ [Hp Hb0 HB]
  · isplitl [Hp]; · iexact Hp
    isplitl [Hb0]; · iexact Hb0
    iexact HB
  iintro HB
  iapply (wp_own_copy (thr := V dv c j) (n := 4) (sm := .dma sem.sem) (dst := b.post) (j := 1) (u := 0) (N := N) (D := legOwn dv c j g b q d base inb) (g := at1 2000 fun m => d.post (base + m)) hN.post (by omega) (by omega) (by exact .rfl)) $$ [Ho Hb1 HB]
  · isplitl [Ho]; · iexact Ho
    isplitl [Hb1]; · iexact Hb1
    iexact HB
  iintro HB
  iapply (wp_own_copy (thr := V dv c j) (n := 4) (sm := .dma sem.sem) (dst := b.sid) (j := 2) (u := 0) (N := N) (D := legOwn dv c j g b q d base inb) (g := at1 2000 fun m => d.sid (base + m)) hN.sid (by omega) (by omega) (by exact .rfl)) $$ [Hi Hb2 HB]
  · isplitl [Hi]; · iexact Hi
    isplitl [Hb2]; · iexact Hb2
    iexact HB
  iintro HB
  iapply (wp_own_copy (thr := V dv c j) (n := 4) (sm := .dma sem.sem) (dst := b.w) (j := 3) (u := 0) (N := N) (D := legOwn dv c j g b q d base inb) (g := at1 2000 fun m => d.w (base + m)) hN.w (by omega) (by omega) (by exact .rfl)) $$ [Hw Hb3 HB]
  · isplitl [Hw]; · iexact Hw
    isplitl [Hb3]; · iexact Hb3
    iexact HB
  iintro HB
  iapply Hk
  iexists inb
  isplitl [HB]; · iexact HB
  iexact Hback

variable {O : CellTallies nD τ sig (HIx 2)} {W : Waits sig (HIx 2)}

/-- Awaiting a chunk. -/
theorem wp_drain4 {g : Synapses} {b : Chunk} {sem : DmaSems sig S_} {N : ℕ} (hN : b.Even N) {q : PosShare TreeShare} {d : Data F} {base : ℕ}
    {k : PUnit → TileProg F c j α} {Q : α → sProp (MM F)} :
    iprop(fly4 dv c j g b sem N q d base ∗ duty (V dv c j) O W)
      ⊢ iprop((iprop(chunkOwn dv c j b d base ∗ srcOwn dv c j g q d ∗ semVal (V dv c j, .dma sem.sem) 0 ∗ duty (V dv c j) O W) -∗ WP (V dv c j) (k ⟨⟩) Q)
        -∗ WP (V dv c j) (drain4 g b sem >>= k) Q) := by
  unfold drain4 fly4
  simp only [bind_assoc]
  iintro ⟨⟨%inb, HB, Hback⟩, HO⟩ Hk
  have hpos := hN.pos
  iapply (wp_own_wait (j := 4) (u := 0) (O := O) (W := W) (D := legOwn dv c j g b q d base inb) hN.pre (by rw [Nat.mul_comm]; omega)) $$ [HB HO]
  · isplitl [HB]; · iexact HB
    iexact HO
  iintro H
  iapply (wp_own_wait (O := O) (W := W) (D := legOwn dv c j g b q d base inb) hN.post (by omega)) $$ H
  iintro H
  iapply (wp_own_wait (O := O) (W := W) (D := legOwn dv c j g b q d base inb) hN.sid (by omega)) $$ H
  iintro H
  iapply (wp_own_drain (n := 4) (O := O) (W := W) (D := legOwn dv c j g b q d base inb) (u := 0 + N + N + N) hN.w hpos (by omega)) $$ H
  iintro ⟨HD, Hv, HO⟩
  ihave HD := (legs_open g b q d base inb) $$ HD
  icases HD with ⟨Hb, HD⟩
  iapply Hk
  isplitl [Hb]; · iexact Hb
  isplitl [HD Hback]; · iapply Hback $$ HD
  isplitl [Hv]; · iexact Hv
  iexact HO

end Four

end Cert.Proof

end
-- ==== Proof.Tables.lean ====
/-
  The two short loops before the synapses: the accumulator is cleared, the basis' rows are summed.
-/
module

public import proofs.«01_k».proof.Proof.Flight

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}
variable {dv : Dev nD} {c : Fin τ.nSC} {j : Fin τ.nSub}

/-- An array whose first `n` places hold `f`, the rest what they held. -/
def filled {β : Type} {N : ℕ} (f : ℕ → β) (n : ℕ) (g : (⟨1, ![N]⟩ : Shape).Idx → β) : (⟨1, ![N]⟩ : Shape).Idx → β :=
  fun y => if (y 0).val < n then f (y 0).val else g y

theorem filled_zero {β : Type} {N : ℕ} (f : ℕ → β) (g : (⟨1, ![N]⟩ : Shape).Idx → β) : filled f 0 g = g := by
  funext y; exact if_neg (Nat.not_lt_zero _)

theorem filled_all {β : Type} {N n : ℕ} (f : ℕ → β) (g : (⟨1, ![N]⟩ : Shape).Idx → β) (h : N ≤ n) : filled f n g = at1 N f := by
  funext y
  have : (y 0).val < N := (y 0).isLt
  exact if_pos (by omega)

/-- Sixteen more places filled. -/
theorem wp_own_fill {thr : Thread nD τ} {cs : CoreSpace} {e : EltTy} {N : ℕ} {m : Memref sig thr.2.kind cs ⟨1, ![N]⟩ e} {off : Fin 1 → ℕ} {o : ℕ} (ho : off = ![o])
    {inb : ∀ a, off a + S16.size a ≤ (⟨1, ![N]⟩ : Shape).size a}
    {w : S16.Idx → Elt F e} {hx : (m.access (Rect.unit (s := ⟨1, ![N]⟩) off S16.size inb)).Stores Finset.univ}
    {hm : (Finset.univ : Finset (Rect.unit (s := ⟨1, ![N]⟩) off S16.size inb).shape.Idx) = Finset.univ ∨ ∀ a, (Rect.unit (s := ⟨1, ![N]⟩) off S16.size inb).stride a = 1}
    {k : PUnit → Prog (TpuEff nD τ sig (Elt F) Λ₀ thr.2) α} {Q : α → sProp (MM F)} {f : ℕ → Elt F e} {g : (⟨1, ![N]⟩ : Shape).Idx → Elt F e}
    (hw : ∀ x : S16.Idx, w x = f (o + (x 0).val)) :
    own thr m fullShare (filled f o g)
      ⊢ iprop((own thr m fullShare (filled f (o + 16) g) -∗ WP thr (k ⟨⟩) Q)
        -∗ WP thr (Prog.lift (.store m (Rect.unit (s := ⟨1, ![N]⟩) off S16.size inb) w Finset.univ hx hm) >>= k) Q) := by
  subst ho
  have he : ∀ x : S16.Idx, ((Rect.unit (s := ⟨1, ![N]⟩) ![o] S16.size inb).emb x 0).val = o + (x 0).val := fun x => by
    show o + 1 * (x 0).val = _; omega
  refine wp_own_store (fun x => ?_) (fun y hy => ?_)
  · show (if _ then _ else _) = _
    rw [he, hw x, if_pos (by have : (x 0).val < 16 := (x 0).isLt; omega)]
  · show (if _ then _ else _) = (if _ then _ else _)
    by_cases h : (y 0).val < o
    · rw [if_pos h, if_pos (by omega)]
    · rw [if_neg h, if_neg]
      intro h'
      refine hy (fun a => match a with | 0 => ⟨(y 0).val - o, by show _ < 16; omega⟩) (funext fun a => ?_)
      match a with
      | 0 => exact Fin.ext (by show o + 1 * ((y 0).val - o) = _; omega)

/-- The thread of a tile. -/
abbrev tileThr (dv : Dev nD) (i : grid0.Coords) : Thread nD τ := V dv ((i 0).castLE hcore0) ((i 1).castLE hsub0)

section

/-- The lanes' first indices into the basis. -/
theorem pay31_toNat (k : Fin k0_t2_loop.trips) (x : S16.Idx) : (k0_pay31 k x).toNat = 5 * (16 * k.val + (x 0).val) := by
  have hk : k.val < 32 := Nat.lt_of_lt_of_le k.isLt k0_t2_abs.2.1
  have hx : (x 0).val < 16 := (x 0).isLt
  have e : k0_pay31 k x = (iota .scVector S16 32 [0] iota_S16_d0_w32_scVector x + (Scf.iv 0#32 1#32 k) * 16#32) * 5#32 := rfl
  have e' : iota .scVector S16 32 [0] iota_S16_d0_w32_scVector x = BitVec.ofNat 32 (0 * 16 + (x 0).val) := rfl
  rw [e, e']
  simp only [Scf.iv, BitVec.toNat_mul, BitVec.toNat_add, BitVec.toNat_ofNat]
  omega

/-- The lanes' `r`-th indices. -/
theorem payAt_toNat (k : Fin k0_t2_loop.trips) (x : S16.Idx) (r : ℕ) (hr : r < 5) :
    (k0_pay31 k x + BitVec.ofNat 32 r).toNat = 5 * (16 * k.val + (x 0).val) + r := by
  have hk : k.val < 32 := Nat.lt_of_lt_of_le k.isLt k0_t2_abs.2.1
  have hx : (x 0).val < 16 := (x 0).isLt
  rw [BitVec.toNat_add, pay31_toNat, BitVec.toNat_ofNat]
  omega

theorem payAt_lt (k : Fin k0_t2_loop.trips) (x : S16.Idx) (r : ℕ) (hr : r < 5) : (k0_pay31 k x + BitVec.ofNat 32 r).toNat < 2560 := by
  have hk : k.val < 32 := Nat.lt_of_lt_of_le k.isLt k0_t2_abs.2.1
  have hx : (x 0).val < 16 := (x 0).isLt
  rw [payAt_toNat k x r hr]
  omega

end

section

variable (i : grid0.Coords) (arg2 : Memref sig .scVector .hbm S1600000 .i32) (harg2 : arg2.IsWhole) (arg3 : Memref sig .scVector .hbm S1600000 .i32) (harg3 : arg3.IsWhole)
  (arg4 : Memref sig .scVector .hbm S1600000 .i32) (harg4 : arg4.IsWhole) (arg5 : Memref sig .scVector .hbm S1600000 .f32) (harg5 : arg5.IsWhole)
  (arg6 : Memref sig .scVector .hbm S50000 .f32) (harg6 : arg6.IsWhole) (arg7 : Memref sig .scVector .hbm S2560 .f32) (harg7 : arg7.IsWhole)
  (arg8 : Memref sig .scVector .hbm S1605632 .f32) (harg8 : arg8.IsWhole) (arg9 : Memref sig .scVector .vmem S50000 .f32) (harg9 : arg9.IsWhole)
  (arg10 : Memref sig .scVector .vmem S2560 .f32) (harg10 : arg10.IsWhole) (arg11 : Memref sig .scVector .vmem S512 .f32) (harg11 : arg11.IsWhole)
  (arg12 : Memref sig .scVector .vmem S50176 .f32) (harg12 : arg12.IsWhole) (arg13 : Memref sig .scVector .vmem S2000 .i32) (harg13 : arg13.IsWhole)
  (arg14 : Memref sig .scVector .vmem S2000 .i32) (harg14 : arg14.IsWhole) (arg15 : Memref sig .scVector .vmem S2000 .i32) (harg15 : arg15.IsWhole)
  (arg16 : Memref sig .scVector .vmem S2000 .i32) (harg16 : arg16.IsWhole) (arg17 : Memref sig .scVector .vmem S2000 .i32) (harg17 : arg17.IsWhole)
  (arg18 : Memref sig .scVector .vmem S2000 .i32) (harg18 : arg18.IsWhole) (arg19 : Memref sig .scVector .vmem S2000 .f32) (harg19 : arg19.IsWhole)
  (arg20 : Memref sig .scVector .vmem S2000 .f32) (harg20 : arg20.IsWhole)
  (arg21 arg22 arg23 arg24 v27_r0 : DmaSems sig S_)

/-- One trip of the clearing. -/
theorem wp_clear (k : Fin k0_t1_loop.trips) (g : S50176.Idx → F .f32) :
    own (tileThr dv i) arg12 fullShare (filled (fun _ => (Scalar.ofBits .f32 0x00000000#32 : F .f32)) (64 * k.val) g)
      ⊢ WP (tileThr dv i) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 k ⟨⟩)
        fun _ => own (tileThr dv i) arg12 fullShare (filled (fun _ => (Scalar.ofBits .f32 0x00000000#32 : F .f32)) (64 * (k.val + 1)) g) := by
  unfold k0_t1_body
  iintro H
  iapply wp_own_load $$ H
  iintro H
  iapply (wp_own_fill (k0_off2_eq k 0) (fun _ => rfl)) $$ H
  iintro H
  iapply wp_own_load $$ H
  iintro H
  iapply (wp_own_fill (k0_off2_eq k 1) (fun _ => rfl)) $$ H
  iintro H
  iapply wp_own_load $$ H
  iintro H
  iapply (wp_own_fill (k0_off2_eq k 2) (fun _ => rfl)) $$ H
  iintro H
  iapply wp_own_load $$ H
  iintro H
  iapply (wp_own_fill (k0_off2_eq k 3) (fun _ => rfl)) $$ H
  iintro H
  iapply wp_own_pure
  iexact H

/-- One trip of the rows' sums. -/
theorem wp_rows (k : Fin k0_t2_loop.trips) (d : Data F) (g : S512.Idx → F .f32) :
    iprop(own (tileThr dv i) arg10 fullShare (at1 2560 d.basis) ∗ own (tileThr dv i) arg11 fullShare (filled d.rowSum (16 * k.val) g))
      ⊢ WP (tileThr dv i) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 k ⟨⟩)
        fun _ => iprop(own (tileThr dv i) arg10 fullShare (at1 2560 d.basis) ∗ own (tileThr dv i) arg11 fullShare (filled d.rowSum (16 * (k.val + 1)) g)) := by
  unfold k0_t2_body
  iintro ⟨Hb, Hs⟩
  iapply wp_own_assume (h := show k0_chk1 _ from fun a x => by
    match a with
    | 0 => exact (congrArg BitVec.toNat (BitVec.add_zero _).symm).trans_lt (payAt_lt k x 0 (by omega)))
  iapply wp_own_gather $$ Hb
  iintro Hb
  iapply wp_own_assume (h := show k0_chk2 _ from fun a x => by
    match a with
    | 0 => exact payAt_lt k x 1 (by omega))
  iapply wp_own_gather $$ Hb
  iintro Hb
  iapply wp_own_assume (h := show k0_chk3 _ from fun a x => by
    match a with
    | 0 => exact payAt_lt k x 2 (by omega))
  iapply wp_own_gather $$ Hb
  iintro Hb
  iapply wp_own_assume (h := show k0_chk4 _ from fun a x => by
    match a with
    | 0 => exact payAt_lt k x 3 (by omega))
  iapply wp_own_gather $$ Hb
  iintro Hb
  iapply wp_own_assume (h := show k0_chk5 _ from fun a x => by
    match a with
    | 0 => exact payAt_lt k x 4 (by omega))
  iapply wp_own_gather $$ Hb
  iintro Hb
  iapply wp_own_load $$ Hs
  iintro Hs
  iapply (wp_own_fill (k0_off3_eq k) (fun x => ?_)) $$ Hs
  · have e0 := (congrArg BitVec.toNat (BitVec.add_zero (k0_pay31 k x)).symm).trans (payAt_toNat k x 0 (by omega))
    have e1 := payAt_toNat k x 1 (by omega)
    have e2 := payAt_toNat k x 2 (by omega)
    have e3 := payAt_toNat k x 3 (by omega)
    have e4 := payAt_toNat k x 4 (by omega)
    unfold Data.rowSum
    rw [← e1, ← e2, ← e3, ← e4, show 5 * (16 * k.val + (x 0).val) = 5 * (16 * k.val + (x 0).val) + 0 from rfl, ← e0]
    rfl
  iintro Hs
  iapply wp_own_pure
  isplitl [Hb]; · iexact Hb
  iexact Hs

end

end Cert.Proof

end
-- ==== Proof.SynBody.lean ====
/-
  The synapse kernel's whole body at one tile: it owns its buffers, read shares of the arrays and its row of the output, and
  leaves its row holding the accumulation of its fifty thousand synapses.
-/
module

public import proofs.«01_k».proof.Proof.Tables

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}
variable {dv : Dev nD}

/-- A tile's SparseCore and its place there. -/
abbrev tileC (i : grid0.Coords) : Fin τ.nSC := (i 0).castLE hcore0
abbrev tileJ (i : grid0.Coords) : Fin τ.nSub := (i 1).castLE hsub0

/-- The first synapse of a tile. -/
def tileLo (i : grid0.Coords) : ℕ := 800000 * (i 0).val + 50000 * (i 1).val

theorem tileLo_le (i : grid0.Coords) : tileLo i + 50000 ≤ 1600000 := by
  have h0 : (i 0).val < 2 := (i 0).isLt
  have h1 : (i 1).val < 16 := (i 1).isLt
  unfold tileLo
  omega

section

variable (i : grid0.Coords) (arg2 : Memref sig .scVector .hbm S1600000 .i32) (harg2 : arg2.IsWhole) (arg3 : Memref sig .scVector .hbm S1600000 .i32) (harg3 : arg3.IsWhole)
  (arg4 : Memref sig .scVector .hbm S1600000 .i32) (harg4 : arg4.IsWhole) (arg5 : Memref sig .scVector .hbm S1600000 .f32) (harg5 : arg5.IsWhole)
  (arg6 : Memref sig .scVector .hbm S50000 .f32) (harg6 : arg6.IsWhole) (arg7 : Memref sig .scVector .hbm S2560 .f32) (harg7 : arg7.IsWhole)
  (arg8 : Memref sig .scVector .hbm S1605632 .f32) (harg8 : arg8.IsWhole) (arg9 : Memref sig .scVector .vmem S50000 .f32) (harg9 : arg9.IsWhole)
  (arg10 : Memref sig .scVector .vmem S2560 .f32) (harg10 : arg10.IsWhole) (arg11 : Memref sig .scVector .vmem S512 .f32) (harg11 : arg11.IsWhole)
  (arg12 : Memref sig .scVector .vmem S50176 .f32) (harg12 : arg12.IsWhole) (arg13 : Memref sig .scVector .vmem S2000 .i32) (harg13 : arg13.IsWhole)
  (arg14 : Memref sig .scVector .vmem S2000 .i32) (harg14 : arg14.IsWhole) (arg15 : Memref sig .scVector .vmem S2000 .i32) (harg15 : arg15.IsWhole)
  (arg16 : Memref sig .scVector .vmem S2000 .i32) (harg16 : arg16.IsWhole) (arg17 : Memref sig .scVector .vmem S2000 .i32) (harg17 : arg17.IsWhole)
  (arg18 : Memref sig .scVector .vmem S2000 .i32) (harg18 : arg18.IsWhole) (arg19 : Memref sig .scVector .vmem S2000 .f32) (harg19 : arg19.IsWhole)
  (arg20 : Memref sig .scVector .vmem S2000 .f32) (harg20 : arg20.IsWhole)
  (arg21 arg22 arg23 arg24 v27_r0 : DmaSems sig S_)

/-- A chunk's loop in the first set of buffers, inside a trip. -/
theorem wp_even {d : Data F} (hd : d.InRange) (v2 : BitVec 32) (k3 : Fin k0_t3_loop.trips) {n : ℕ} (hn : n + 2000 ≤ 50000)
    {k : Unit → Prog (TpuEff nD τ sig (Elt F) Λ₀ (tileThr dv i).2) α} {Q : α → sProp (MM F)} :
    iprop(tabOwn dv (tileC i) (tileJ i) ⟨arg9, arg11, arg12⟩ d (tileLo i) n ∗ chunkOwn dv (tileC i) (tileJ i) ⟨arg13, arg15, arg17, arg19⟩ d (tileLo i + n))
      ⊢ iprop((iprop(tabOwn dv (tileC i) (tileJ i) ⟨arg9, arg11, arg12⟩ d (tileLo i) (n + 2000) ∗ chunkOwn dv (tileC i) (tileJ i) ⟨arg13, arg15, arg17, arg19⟩ d (tileLo i + n)) -∗ WP (tileThr dv i) (k ⟨⟩) Q)
        -∗ WP (tileThr dv i) (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 v2 0#32 1#32 k3) >>= k) Q) :=
  wp_chunk hd rfl (by have := tileLo_le i; omega) _ _ rfl _ _ _ _ _ _ k0_off5_eq k0_off6_eq k0_off7_eq k0_off8_eq k0_off9_eq
    (fun m => t4_body_eq i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 v2 k3 m)

/-- A chunk's loop in the second set of buffers. -/
theorem wp_odd {d : Data F} (hd : d.InRange) {n : ℕ} (hn : n + 2000 ≤ 50000)
    {k : Unit → Prog (TpuEff nD τ sig (Elt F) Λ₀ (tileThr dv i).2) α} {Q : α → sProp (MM F)} :
    iprop(tabOwn dv (tileC i) (tileJ i) ⟨arg9, arg11, arg12⟩ d (tileLo i) n ∗ chunkOwn dv (tileC i) (tileJ i) ⟨arg14, arg16, arg18, arg20⟩ d (tileLo i + n))
      ⊢ iprop((iprop(tabOwn dv (tileC i) (tileJ i) ⟨arg9, arg11, arg12⟩ d (tileLo i) (n + 2000) ∗ chunkOwn dv (tileC i) (tileJ i) ⟨arg14, arg16, arg18, arg20⟩ d (tileLo i + n)) -∗ WP (tileThr dv i) (k ⟨⟩) Q)
        -∗ WP (tileThr dv i) (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0) >>= k) Q) :=
  wp_chunk hd rfl (by have := tileLo_le i; omega) _ _ rfl _ _ _ _ _ _ k0_off10_eq k0_off11_eq k0_off12_eq k0_off13_eq k0_off14_eq
    (fun m => t5_body_eq i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 m)

/-- The last chunk's loop. -/
theorem wp_last {d : Data F} (hd : d.InRange) {n : ℕ} (hn : n + 2000 ≤ 50000)
    {k : Unit → Prog (TpuEff nD τ sig (Elt F) Λ₀ (tileThr dv i).2) α} {Q : α → sProp (MM F)} :
    iprop(tabOwn dv (tileC i) (tileJ i) ⟨arg9, arg11, arg12⟩ d (tileLo i) n ∗ chunkOwn dv (tileC i) (tileJ i) ⟨arg13, arg15, arg17, arg19⟩ d (tileLo i + n))
      ⊢ iprop((iprop(tabOwn dv (tileC i) (tileJ i) ⟨arg9, arg11, arg12⟩ d (tileLo i) (n + 2000) ∗ chunkOwn dv (tileC i) (tileJ i) ⟨arg13, arg15, arg17, arg19⟩ d (tileLo i + n)) -∗ WP (tileThr dv i) (k ⟨⟩) Q)
        -∗ WP (tileThr dv i) (Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0) >>= k) Q) :=
  wp_chunk hd rfl (by have := tileLo_le i; omega) _ _ rfl _ _ _ _ _ _ k0_off15_eq k0_off16_eq k0_off17_eq k0_off18_eq k0_off19_eq
    (fun m => t6_body_eq i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 m)

/-- Before trip `k` of the chunks' loop: the accumulator has `2k` chunks, chunk `2k` is under way into the first set of buffers, the
    second set is idle. -/
def tripOwn (O : CellTallies nD τ sig (HIx 2)) (W : Waits sig (HIx 2)) (N : ℕ) (q : PosShare TreeShare) (d : Data F) (k : ℕ) : sProp (MM F) :=
  iprop(tabOwn dv (tileC i) (tileJ i) ⟨arg9, arg11, arg12⟩ d (tileLo i) (4000 * k)
    ∗ fly4 dv (tileC i) (tileJ i) ⟨arg2, arg3, arg4, arg5⟩ ⟨arg13, arg15, arg17, arg19⟩ arg21 N q.left d (tileLo i + 4000 * k)
    ∗ chunkAny dv (tileC i) (tileJ i) ⟨arg14, arg16, arg18, arg20⟩
    ∗ srcOwn dv (tileC i) (tileJ i) ⟨arg2, arg3, arg4, arg5⟩ q.right d
    ∗ semVal (tileThr dv i, .dma arg22.sem) 0
    ∗ duty (tileThr dv i) O W)

theorem wp_trip {O : CellTallies nD τ sig (HIx 2)} {W : Waits sig (HIx 2)} {N : ℕ} {q : PosShare TreeShare} {d : Data F} (hd : d.InRange)
    (hN0 : Chunk.Even ⟨arg13, arg15, arg17, arg19⟩ N) (hN1 : Chunk.Even ⟨arg14, arg16, arg18, arg20⟩ N) (v2 : BitVec 32) (k : Fin k0_t3_loop.trips) :
    tripOwn (dv := dv) i arg2 arg3 arg4 arg5 arg9 arg11 arg12 arg13 arg14 arg15 arg16 arg17 arg18 arg19 arg20 arg21 arg22 O W N q d k.val
      ⊢ WP (tileThr dv i) (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 v2 k ⟨⟩)
        fun _ => tripOwn (dv := dv) i arg2 arg3 arg4 arg5 arg9 arg11 arg12 arg13 arg14 arg15 arg16 arg17 arg18 arg19 arg20 arg21 arg22 O W N q d (k.val + 1) := by
  have hk : k.val < 12 := Nat.lt_of_lt_of_le k.isLt k0_t3_abs.2.1
  have o1 : k0_off4 i k 1#32 = ![tileLo i + (4000 * k.val + 2000)] := (k0_off4_eq i k 0).trans (congrArg (fun n : ℕ => (![n] : Fin 1 → ℕ)) (show _ + 2000 * 0 + 2000 = _ by unfold tileLo; omega))
  have o2 : k0_off4 i k 2#32 = ![tileLo i + 4000 * (k.val + 1)] := (k0_off4_eq i k 1).trans (congrArg (fun n : ℕ => (![n] : Fin 1 → ℕ)) (show _ + 2000 * 1 + 2000 = _ by unfold tileLo; omega))
  rw [t3_body_eq]
  unfold tripOwn
  iintro ⟨Ht, Hf, Hc, Hs, Hv, HO⟩
  iapply (wp_issue4 hN1 o1) $$ [Hs Hc Hv]
  · isplitl [Hs]; · iexact Hs
    isplitl [Hc]; · iexact Hc
    iexact Hv
  iintro Hg
  iapply (wp_drain4 hN0) $$ [Hf HO]
  · isplitl [Hf]; · iexact Hf
    iexact HO
  iintro ⟨Hc, Hs, Hv, HO⟩
  iapply (wp_even i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 hd v2 k (n := 4000 * k.val) (by omega)) $$ [Ht Hc]
  · isplitl [Ht]; · iexact Ht
    iexact Hc
  iintro ⟨Ht, Hc⟩
  ihave Hc := (chunkAny_of _ _ _) $$ Hc
  iapply (wp_issue4 hN0 o2) $$ [Hs Hc Hv]
  · isplitl [Hs]; · iexact Hs
    isplitl [Hc]; · iexact Hc
    iexact Hv
  iintro Hf
  iapply (wp_drain4 hN1) $$ [Hg HO]
  · isplitl [Hg]; · iexact Hg
    iexact HO
  iintro ⟨Hc, Hs, Hv, HO⟩
  iapply (wp_odd (n := 4000 * k.val + 2000) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 hd (by omega)) $$ [Ht Hc]
  · isplitl [Ht]; · iexact Ht
    iexact Hc
  iintro ⟨Ht, Hc⟩
  ihave Hc := (chunkAny_of _ _ _) $$ Hc
  iapply wp_own_pure
  isplitl [Ht]; · iexact Ht
  isplitl [Hf]; · iexact Hf
  isplitl [Hc]; · iexact Hc
  isplitl [Hs]; · iexact Hs
  isplitl [Hv]; · iexact Hv
  iexact HO

/-- The tile's row of the output. -/
abbrev synRow : Memref sig .scVector .hbm S50176 .f32 :=
  arg8.slice (Rect.unit (s := S1605632) (k0_off20 i) S50176.size (k0_off20_inb i)) (fun _ => rfl)

/-- What the tile reads: shares of the synapses, the spikes, the basis. -/
def synIn (q : PosShare TreeShare) (d : Data F) : sProp (MM F) :=
  iprop(srcOwn dv (tileC i) (tileJ i) ⟨arg2, arg3, arg4, arg5⟩ q d
    ∗ own (tileThr dv i) arg6 q (at1 50000 d.spk) ∗ own (tileThr dv i) arg7 q (at1 2560 d.basis))

/-- What the tile works in, and its semaphores at rest. -/
def synWork : sProp (MM F) :=
  iprop((any (tileThr dv i) arg9 ∗ any (tileThr dv i) arg10 ∗ any (tileThr dv i) arg11 ∗ any (tileThr dv i) arg12)
    ∗ (chunkAny dv (tileC i) (tileJ i) ⟨arg13, arg15, arg17, arg19⟩ ∗ chunkAny dv (tileC i) (tileJ i) ⟨arg14, arg16, arg18, arg20⟩)
    ∗ semVal (tileThr dv i, .dma arg21.sem) 0 ∗ semVal (tileThr dv i, .dma arg22.sem) 0 ∗ semVal (tileThr dv i, .dma arg23.sem) 0
    ∗ semVal (tileThr dv i, .dma arg24.sem) 0 ∗ semVal (tileThr dv i, .dma v27_r0.sem) 0)

theorem srcOwn_halve {c : Fin τ.nSC} {j : Fin τ.nSub} (g : Synapses) (q : PosShare TreeShare) (d : Data F) :
    srcOwn dv c j g q d ⊢ iprop(srcOwn dv c j g q.left d ∗ srcOwn dv c j g q.right d) := by
  unfold srcOwn
  iintro ⟨Hp, Ho, Hi, Hw⟩
  ihave Hp := (own_halve _ _ _) $$ Hp
  ihave Ho := (own_halve _ _ _) $$ Ho
  ihave Hi := (own_halve _ _ _) $$ Hi
  ihave Hw := (own_halve _ _ _) $$ Hw
  icases Hp with ⟨Hp, Hp'⟩
  icases Ho with ⟨Ho, Ho'⟩
  icases Hi with ⟨Hi, Hi'⟩
  icases Hw with ⟨Hw, Hw'⟩
  isplitl [Hp Ho Hi Hw]
  · isplitl [Hp]; · iexact Hp
    isplitl [Ho]; · iexact Ho
    isplitl [Hi]; · iexact Hi
    iexact Hw
  isplitl [Hp']; · iexact Hp'
  isplitl [Ho']; · iexact Ho'
  isplitl [Hi']; · iexact Hi'
  iexact Hw'

theorem srcOwn_rejoin {c : Fin τ.nSC} {j : Fin τ.nSub} (g : Synapses) (q : PosShare TreeShare) (d : Data F) :
    iprop(srcOwn dv c j g q.left d ∗ srcOwn dv c j g q.right d) ⊢ srcOwn dv c j g q d := by
  unfold srcOwn
  iintro ⟨⟨Hp, Ho, Hi, Hw⟩, ⟨Hp', Ho', Hi', Hw'⟩⟩
  isplitl [Hp Hp']
  · iapply (own_rejoin _ _ _)
    isplitl [Hp] <;> iassumption
  isplitl [Ho Ho']
  · iapply (own_rejoin _ _ _)
    isplitl [Ho] <;> iassumption
  isplitl [Hi Hi']
  · iapply (own_rejoin _ _ _)
    isplitl [Hi] <;> iassumption
  iapply (own_rejoin _ _ _)
  isplitl [Hw] <;> iassumption

/-- The whole body. -/
theorem syn_body {O : CellTallies nD τ sig (HIx 2)} {W : Waits sig (HIx 2)} {N : ℕ} {q : PosShare TreeShare} {d : Data F} (hd : d.InRange)
    (hN0 : Chunk.Even ⟨arg13, arg15, arg17, arg19⟩ N) (hN1 : Chunk.Even ⟨arg14, arg16, arg18, arg20⟩ N) :
    iprop(synIn (dv := dv) i arg2 arg3 arg4 arg5 arg6 arg7 q d ∗ any (tileThr dv i) (synRow i arg8)
        ∗ synWork (F := F) (dv := dv) i arg9 arg10 arg11 arg12 arg13 arg14 arg15 arg16 arg17 arg18 arg19 arg20 arg21 arg22 arg23 arg24 v27_r0 ∗ duty (tileThr dv i) O W)
      ⊢ WP (tileThr dv i) (cc0__sc_synapse_kernel (F := F) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0)
        fun _ => iprop(synIn (dv := dv) i arg2 arg3 arg4 arg5 arg6 arg7 q d
          ∗ own (tileThr dv i) (synRow i arg8) fullShare (at1 50176 (d.accum (tileLo i) 50000))
          ∗ synWork (F := F) (dv := dv) i arg9 arg10 arg11 arg12 arg13 arg14 arg15 arg16 arg17 arg18 arg19 arg20 arg21 arg22 arg23 arg24 v27_r0
          ∗ duty (tileThr dv i) O W) := by
  rw [syn_kernel_eq]
  unfold synIn synWork
  iintro ⟨⟨Hsrc, Hspk, Hbas⟩, Hrow, ⟨⟨H9, H10, H11, H12⟩, ⟨Hc0, Hc1⟩, Hv21, Hv22, Hv23, Hv24, Hvr⟩, HO⟩
  ihave Hsrc := (srcOwn_halve _ _ _) $$ Hsrc
  icases Hsrc with ⟨Hsl, Hsr⟩
  iapply wp_own_start $$ [Hspk H9 Hv23]
  · isplitl [Hspk]; · iexact Hspk
    isplitl [H9]; · iexact H9
    iexact Hv23
  iintro Hf9
  iapply wp_own_start $$ [Hbas H10 Hv24]
  · isplitl [Hbas]; · iexact Hbas
    isplitl [H10]; · iexact H10
    iexact Hv24
  iintro Hf10
  iapply (wp_issue4 hN0 (show k0_off1 i = ![tileLo i + 4000 * 0] from (k0_off1_eq i).trans (by unfold tileLo; rfl))) $$ [Hsl Hc0 Hv21]
  · isplitl [Hsl]; · iexact Hsl
    isplitl [Hc0]; · iexact Hc0
    iexact Hv21
  iintro Hf
  ihave H12 := any_open $$ H12
  icases H12 with ⟨%g12, H12⟩
  iapply (wp_own_for k0_t1_loop k0_t1_ok _
    (fun k => own (tileThr dv i) arg12 fullShare (filled (fun _ => (Scalar.ofBits .f32 0x00000000#32 : F .f32)) (64 * k) g12))
    (fun k => wp_clear i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 k g12)) $$ [H12]
  · rw [Nat.mul_zero, filled_zero]; iexact H12
  iintro H12
  iapply (wp_own_finish (O := O) (W := W) (by decide)) $$ [Hf10 HO]
  · isplitl [Hf10]; · iexact Hf10
    iexact HO
  iintro ⟨H10, Hbas, Hv24, HO⟩
  ihave H11 := any_open $$ H11
  icases H11 with ⟨%g11, H11⟩
  iapply (wp_own_for k0_t2_loop k0_t2_ok _
    (fun k => iprop(own (tileThr dv i) arg10 fullShare (at1 2560 d.basis) ∗ own (tileThr dv i) arg11 fullShare (filled d.rowSum (16 * k) g11)))
    (fun k => wp_rows i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 k d g11)) $$ [H10 H11]
  · rw [Nat.mul_zero, filled_zero]
    isplitl [H10]; · iexact H10
    iexact H11
  iintro ⟨H10, H11⟩
  iapply (wp_own_finish (O := O) (W := W) (by decide)) $$ [Hf9 HO]
  · isplitl [Hf9]; · iexact Hf9
    iexact HO
  iintro ⟨H9, Hspk, Hv23, HO⟩
  rw [show filled (fun _ => (Scalar.ofBits .f32 0x00000000#32 : F .f32)) (64 * k0_t1_loop.trips) g12 = at1 50176 (d.accum (tileLo i) 0) from
    filled_all _ _ (by decide +kernel), show filled d.rowSum (16 * k0_t2_loop.trips) g11 = at1 512 d.rowSum from filled_all _ _ (by decide +kernel)]
  iapply (wp_own_for k0_t3_loop k0_t3_ok _
    (fun k => tripOwn (dv := dv) i arg2 arg3 arg4 arg5 arg9 arg11 arg12 arg13 arg14 arg15 arg16 arg17 arg18 arg19 arg20 arg21 arg22 O W N q d k)
    (fun k => wp_trip i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 hd hN0 hN1 (tileBase i) k)) $$ [H9 H11 H12 Hf Hc1 Hsr Hv22 HO]
  · unfold tripOwn tabOwn
    isplitl [H9 H11 H12]
    · isplitl [H9]; · iexact H9
      isplitl [H11]; · iexact H11
      iexact H12
    isplitl [Hf]; · iexact Hf
    isplitl [Hc1]; · iexact Hc1
    isplitl [Hsr]; · iexact Hsr
    isplitl [Hv22]; · iexact Hv22
    iexact HO
  iintro H
  rw [show k0_t3_loop.trips = 12 by decide +kernel]
  unfold tripOwn
  icases H with ⟨Ht, Hf, Hc1, Hsr, Hv22, HO⟩
  iapply (wp_drain4 hN0) $$ [Hf HO]
  · isplitl [Hf]; · iexact Hf
    iexact HO
  iintro ⟨Hc0, Hsl, Hv21, HO⟩
  iapply (wp_last (n := 4000 * 12) i arg2 harg2 arg3 harg3 arg4 harg4 arg5 harg5 arg6 harg6 arg7 harg7 arg8 harg8 arg9 harg9 arg10 harg10 arg11 harg11 arg12 harg12 arg13 harg13 arg14 harg14 arg15 harg15
        arg16 harg16 arg17 harg17 arg18 harg18 arg19 harg19 arg20 harg20 arg21 arg22 arg23 arg24 v27_r0 hd (by omega)) $$ [Ht Hc0]
  · isplitl [Ht]; · iexact Ht
    iexact Hc0
  iintro ⟨Ht, Hc0⟩
  ihave Hc0 := (chunkAny_of _ _ _) $$ Hc0
  unfold tabOwn
  icases Ht with ⟨H9, H11, H12⟩
  iapply wp_own_start $$ [H12 Hrow Hvr]
  · isplitl [H12]; · iexact H12
    isplitl [Hrow]; · iexact Hrow
    iexact Hvr
  iintro Hfr
  iapply (wp_own_finish (O := O) (W := W) (by decide)) $$ [Hfr HO]
  · isplitl [Hfr]; · iexact Hfr
    iexact HO
  iintro ⟨Hrow, H12, Hvr, HO⟩
  iapply wp_own_pure
  isplitl [Hsl Hsr Hspk Hbas]
  · isplitl [Hsl Hsr]
    · iapply (srcOwn_rejoin _ _ _)
      isplitl [Hsl] <;> iassumption
    isplitl [Hspk] <;> iassumption
  isplitl [Hrow]; · iexact Hrow
  isplitr [HO]
  · isplitl [H9 H10 H11 H12]
    · isplitl [H9]; · iapply (any_of _) $$ H9
      isplitl [H10]; · iapply (any_of _) $$ H10
      isplitl [H11]; · iapply (any_of _) $$ H11
      iapply (any_of _) $$ H12
    isplitl [Hc0 Hc1]
    · isplitl [Hc0] <;> iassumption
    isplitl [Hv21]; · iexact Hv21
    isplitl [Hv22]; · iexact Hv22
    isplitl [Hv23]; · iexact Hv23
    isplitl [Hv24]; · iexact Hv24
    iexact Hvr
  iexact HO

end

end Cert.Proof

end
-- ==== Proof.Split.lean ====
/-
  A held array taken apart into separate rectangles, and put together again with new contents.
-/
module

public import proofs.«01_k».proof.Proof.Flight

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section

variable {sp : Space} {s : Shape} {e : EltTy} {thr : Thread nD τ}

/-- What is held at a set of places a view reads, by what is read there. -/
theorem held_congr (v : View sig thr.2.kind sp s e) {f f' : v.ty.Contents (Elt F)} {x : s.Idx} (h : v.read (Elt F) f x = v.read (Elt F) f' x) :
    f (v.emb x) = f' (v.emb x) :=
  (cast_bijective _).1 h

/-- An array in parts under separate rectangles, and the promise to put it together from parts holding any `h`, as a `g'` that agrees
    with `h` on the rectangles and is unchanged off them. -/
theorem own_split_any {n : ℕ} (m : Memref sig thr.2.kind sp s e) (q : PosShare TreeShare) (g : s.Idx → Elt F e) (R : Fin n → Rect s) (hR : ∀ t a, (R t).stride a = 1)
    (hdis : ∀ t t', t ≠ t' → ∀ x y, (R t).emb x ≠ (R t').emb y) :
    own thr m q g ⊢ iprop(bigSep Finset.univ (fun t => own thr (m.slice (R t) (hR t)) q (fun x => g ((R t).emb x)))
      ∗ (∀ h : ∀ t, (R t).shape.Idx → Elt F e, ∀ g' : s.Idx → Elt F e, ⌜(∀ t x, g' ((R t).emb x) = h t x) ∧ ∀ y, (∀ t x, (R t).emb x ≠ y) → g' y = g y⌝
        -∗ bigSep Finset.univ (fun t => own thr (m.slice (R t) (hR t)) q (h t)) -∗ own thr m q g')) := by
  classical
  have hown : ∀ g, own thr m q g = iprop(∃ f, ⌜m.view.read (Elt F) f = g⌝ ∗ (View.loc thr m.view ↦[m.view.set]{q} f)) := fun _ => rfl
  rw [hown g]
  iintro ⟨%f, %hf, H⟩
  have hsub : Finset.univ.biUnion (fun t => (m.slice (R t) (hR t)).view.set) ⊆ m.view.set :=
    Finset.biUnion_subset.mpr fun t _ => View.set_slice_subset _ _
  have hK : ∀ t ∈ (Finset.univ : Finset (Fin n)), ∀ t' ∈ (Finset.univ : Finset (Fin n)), t ≠ t' →
      Disjoint (m.slice (R t) (hR t)).view.set (m.slice (R t') (hR t')).view.set := by
    intro t _ t' _ htt
    refine Finset.disjoint_left.mpr fun i hi hi' => ?_
    obtain ⟨x, -, rfl⟩ := Finset.mem_map.mp hi
    obtain ⟨y, -, hy⟩ := Finset.mem_map.mp hi'
    exact hdis t t' htt x y (m.view.emb.injective hy).symm
  have eU : ∀ f : Buf (Elt F) (View.loc thr m.view), (View.loc thr m.view ↦[Finset.univ.biUnion (fun t => (m.slice (R t) (hR t)).view.set)]{q} f : sProp (MM F))
      = bigSep Finset.univ fun t => (View.loc thr m.view ↦[(m.slice (R t) (hR t)).view.set]{q} f) := fun f => pointsTo_biUnion _ _ hK
  have hopen : bigSep Finset.univ (fun t => (View.loc thr m.view ↦[(m.slice (R t) (hR t)).view.set]{q} f : sProp (MM F)))
      ⊢ bigSep Finset.univ fun t => own thr (m.slice (R t) (hR t)) q (fun x => g ((R t).emb x)) := bigSep_mono fun t _ => by
    show iprop((View.loc thr m.view ↦[(m.slice (R t) (hR t)).view.set]{q} f : sProp (MM F))) ⊢ own thr (m.slice (R t) (hR t)) q (fun x => g ((R t).emb x))
    unfold own
    iintro H
    iexists f
    isplitr; · ipureintro; subst hf; rfl
    iexact H
  ihave H' := (pointsTo_split_subset (q := q) (f := f) hsub).1 $$ H
  icases H' with ⟨H1, H2⟩
  ihave H1 := (Entails.of_eq (eU f)) $$ H1
  isplitl [H1]
  · iapply hopen $$ H1
  iintro %h %g' %hg HP
  obtain ⟨hin, hout⟩ := hg
  obtain ⟨f', hf'⟩ : ∃ f', f' = m.view.write (Elt F) f g' Finset.univ := ⟨_, rfl⟩
  have hr' : m.view.read (Elt F) f' = g' := by rw [hf']; exact View.read_write_univ (v := m.view) (Val := Elt F) f g'
  have hshut : bigSep Finset.univ (fun t => own thr (m.slice (R t) (hR t)) q (h t))
      ⊢ bigSep Finset.univ fun t => (View.loc thr m.view ↦[(m.slice (R t) (hR t)).view.set]{q} f' : sProp (MM F)) := bigSep_mono fun t _ => by
    show own thr (m.slice (R t) (hR t)) q (h t) ⊢ iprop((View.loc thr m.view ↦[(m.slice (R t) (hR t)).view.set]{q} f' : sProp (MM F)))
    unfold own
    iintro ⟨%ft, %hft, H⟩
    have he : ∀ i ∈ (m.slice (R t) (hR t)).view.set, ft i = f' i := by
      intro i hi
      obtain ⟨x, -, rfl⟩ := Finset.mem_map.mp hi
      refine held_congr (m.slice (R t) (hR t)).view (f := ft) (f' := f') ?_
      rw [congrFun hft x, ← hin t x]
      exact (congrFun hr' _).symm
    iapply (Entails.of_eq (pointsTo_congr he)) $$ H
  have he : ∀ i ∈ m.view.set \ Finset.univ.biUnion (fun t => (m.slice (R t) (hR t)).view.set), f i = f' i := by
    intro i hi
    obtain ⟨hi1, hi2⟩ := Finset.mem_sdiff.mp hi
    obtain ⟨y, -, rfl⟩ := Finset.mem_map.mp hi1
    refine held_congr m.view (f := f) (f' := f') ?_
    rw [hf, hr', hout y]
    intro t x hx
    refine hi2 (Finset.mem_biUnion.mpr ⟨t, Finset.mem_univ t, ?_⟩)
    exact Finset.mem_map.mpr ⟨x, Finset.mem_univ _, by rw [← hx]; rfl⟩
  rw [hown g']
  iexists f'
  isplitr; · ipureintro; exact hr'
  iapply (pointsTo_split_subset (q := q) (f := f') hsub).2
  isplitl [HP]
  · iapply (Entails.of_eq (eU f').symm)
    iapply hshut $$ HP
  iapply (Entails.of_eq (pointsTo_congr he)) $$ H2

/-- The same with what the parts come back holding known at the start. -/
theorem own_split {n : ℕ} (m : Memref sig thr.2.kind sp s e) (q : PosShare TreeShare) (g g' : s.Idx → Elt F e) (R : Fin n → Rect s) (hR : ∀ t a, (R t).stride a = 1)
    (hdis : ∀ t t', t ≠ t' → ∀ x y, (R t).emb x ≠ (R t').emb y) (h : ∀ t, (R t).shape.Idx → Elt F e)
    (hin : ∀ t x, g' ((R t).emb x) = h t x) (hout : ∀ y, (∀ t x, (R t).emb x ≠ y) → g' y = g y) :
    own thr m q g ⊢ iprop(bigSep Finset.univ (fun t => own thr (m.slice (R t) (hR t)) q (fun x => g ((R t).emb x)))
      ∗ (bigSep Finset.univ (fun t => own thr (m.slice (R t) (hR t)) q (h t)) -∗ own thr m q g')) := by
  iintro H
  ihave H := (own_split_any m q g R hR hdis) $$ H
  icases H with ⟨Ha, Hk⟩
  isplitl [Ha]; · iexact Ha
  iintro Hp
  iapply Hk $$ %h %g' %⟨hin, hout⟩ Hp

/-- One rectangle of a held array out, and back with other contents. -/
theorem own_put (m : Memref sig thr.2.kind sp s e) (q : PosShare TreeShare) (g g' : s.Idx → Elt F e) (r : Rect s) (hr : ∀ a, r.stride a = 1)
    (h : r.shape.Idx → Elt F e) (hin : ∀ x, g' (r.emb x) = h x) (hout : ∀ y, (∀ x, r.emb x ≠ y) → g' y = g y) :
    own thr m q g ⊢ iprop(own thr (m.slice r hr) q (fun x => g (r.emb x)) ∗ (own thr (m.slice r hr) q h -∗ own thr m q g')) := by
  have H := own_split (n := 1) m q g g' (fun _ => r) (fun _ => hr) (fun t t' ht => absurd (Subsingleton.elim t t') ht) (fun _ => h) (fun _ => hin)
    (fun y hy => hout y (hy 0))
  rwa [bigSep_univ_of_subsingleton (0 : Fin 1), bigSep_univ_of_subsingleton (0 : Fin 1)] at H

end

end Cert.Proof

end
-- ==== Proof.MemCopy.lean ====
/-
  The membrane kernel's copies: the thirty-two parts all under way on one semaphore, and the six neuron arrays' stretches.
-/
module

public import proofs.«01_k».proof.Proof.Split
public import proofs.«01_k».proof.Proof.Tables

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {α : Type}
variable {dv : Dev nD} {c : Fin τ.nSC} {j : Fin τ.nSub}

/-- The first neuron of a tile. -/
def memLo (i : grid1.Coords) : ℕ := 25088 * (i 0).val + 1568 * (i 1).val

theorem memLo_eq (i : grid1.Coords) : memLo i = 1568 * (16 * (i 0).val + (i 1).val) := by unfold memLo; omega

theorem memTile_lt (i : grid1.Coords) : 16 * (i 0).val + (i 1).val < 32 := by
  have h0 : (i 0).val < 2 := (i 0).isLt
  have h1 : (i 1).val < 16 := (i 1).isLt
  omega

section Parts

variable (i : grid1.Coords) (src : Memref sig .scVector .hbm S1605632 .f32) (dst : Memref sig .scVector .vmem S50176 .f32) (q : PosShare TreeShare) (part : ℕ → F .f32)

abbrev partFrom (r : Fin 32) : Rect S1605632 := Rect.unit (s := S1605632) (k1_off1 i (BitVec.ofNat 32 (50176 * r.val))) S1568.size (k1_off1_inb i r)
abbrev partTo (r : Fin 32) : Rect S50176 := Rect.unit (s := S50176) ![1568 * r.val] S1568.size (part_inb r.isLt)

theorem partFrom_emb (r : Fin 32) (x : S1568.Idx) : ((partFrom i r).emb x 0).val = 50176 * r.val + memLo i + (x 0).val := by
  show k1_off1 i (BitVec.ofNat 32 (50176 * r.val)) 0 + 1 * (x 0).val = _
  rw [k1_off1_eq]
  show 50176 * r.val + 25088 * (i 0).val + 1568 * (i 1).val + 1 * (x 0).val = _
  unfold memLo
  omega

theorem partTo_emb (r : Fin 32) (x : S1568.Idx) : ((partTo r).emb x 0).val = 1568 * r.val + (x 0).val := by
  show 1568 * r.val + 1 * (x 0).val = _
  omega

/-- The buffer of parts, filled. -/
def partBuf (lo : ℕ) (y : ℕ) : F .f32 := part (50176 * (y / 1568) + lo + y % 1568)

theorem partBuf_at (lo r m : ℕ) (hm : m < 1568) : partBuf part lo (1568 * r + m) = part (50176 * r + lo + m) := by
  unfold partBuf
  congr 1
  omega

/-- A part's copy, over. -/
def partLeg (dv : Dev nD) (c : Fin τ.nSC) (j : Fin τ.nSub) (r : Fin 32) : sProp (MM F) :=
  iprop(own (V dv c j) (dst.slice (partTo r) (fun _ => rfl)) fullShare (at1 1568 fun m => part (50176 * r.val + memLo i + m))
    ∗ own (V dv c j) (src.slice (partFrom i r) (fun _ => rfl)) q (at1 1568 fun m => part (50176 * r.val + memLo i + m)))

instance (r : Fin 32) : Storable (upEmb : UEmb _ (MM F)) (partLeg i src dst q part dv c j r) := by
  unfold partLeg own; infer_instance

/-- A part's copy, to come. -/
def partAhead (dv : Dev nD) (c : Fin τ.nSC) (j : Fin τ.nSub) (r : Fin 32) : sProp (MM F) :=
  iprop(own (V dv c j) (src.slice (partFrom i r) (fun _ => rfl)) q (at1 1568 fun m => part (50176 * r.val + memLo i + m))
    ∗ any (V dv c j) (dst.slice (partTo r) (fun _ => rfl)))

/-- The credit of a part. -/
abbrev partN : ℕ := (dst.slice (partTo 0) (fun _ => rfl)).view.dmaCredit

def partsAhead (dv : Dev nD) (c : Fin τ.nSC) (j : Fin τ.nSub) (r : ℕ) : sProp (MM F) :=
  bigSep (Finset.univ.filter fun t : Fin 32 => r ≤ t.val) (partAhead i src dst q part dv c j)

theorem partsAhead_step (r : ℕ) (hr : r < 32) :
    partsAhead i src dst q part dv c j r = iprop(partAhead i src dst q part dv c j ⟨r, hr⟩ ∗ partsAhead i src dst q part dv c j (r + 1)) := by
  unfold partsAhead
  rw [show (Finset.univ.filter fun t : Fin 32 => r ≤ t.val) = insert ⟨r, hr⟩ (Finset.univ.filter fun t : Fin 32 => r + 1 ≤ t.val) by
    ext t
    simp only [Finset.mem_filter, Finset.mem_univ, true_and, Finset.mem_insert, Fin.ext_iff]
    omega]
  exact bigSep_insert (by simp)

/-- The parts' batch, `n` copies started and `u` credit taken. -/
abbrev partsBatch (dv : Dev nD) (c : Fin τ.nSC) (j : Fin τ.nSub) (sem : DmaSems sig S_) (n u : ℕ) : sProp (MM F) :=
  Transfers.Batch countersEmb (V dv c j) (.dma sem.sem) (none : HIx 2) (partN dst) (partLeg i src dst q part dv c j) n u

variable [FloatOps F]

theorem wp_partCopies {sem : DmaSems sig S_} {Q : α → sProp (MM F)} {k : PUnit → TileProg F c j α} :
    ∀ (n r : ℕ) (h : n + r ≤ 32) (_ : n + r = 32),
      iprop(partsAhead i src dst q part dv c j r ∗ partsBatch i src dst q part dv c j sem r 0)
        ⊢ iprop((partsBatch i src dst q part dv c j sem 32 0 -∗ WP (V dv c j) (k ⟨⟩) Q) -∗ WP (V dv c j) (partCopies i src dst sem n r h >>= k) Q)
  | 0, r, h, e => by
    obtain rfl : r = 32 := by omega
    rw [partCopies, pure_bind]
    iintro ⟨_, HB⟩ Hk
    iapply Hk $$ HB
  | n + 1, r, h, e => by
    have ih := wp_partCopies (sem := sem) (Q := Q) (k := k) n (r + 1) (by omega) (by omega)
    rw [partCopies, bind_assoc, partsAhead_step i src dst q part r (by omega)]
    unfold partAhead any partCopy
    iintro ⟨⟨⟨Hs, ⟨%g₀, Hd⟩⟩, HA⟩, HB⟩ Hk
    iapply (wp_own_copy (thr := V dv c j) (n := 32) (sm := .dma sem.sem) (j := r) (u := 0) (N := partN dst) (D := partLeg i src dst q part dv c j)
      (dst := dst.slice (partTo ⟨r, by omega⟩) (fun _ => rfl)) (g := at1 1568 fun m => part (50176 * r + memLo i + m)) rfl (by omega) (by omega) (by exact .rfl)) $$ [Hs Hd HB]
    · isplitl [Hs]; · iexact Hs
      isplitl [Hd]; · iexact Hd
      iexact HB
    iintro HB
    iapply ih $$ [HA HB]
    · isplitl [HA]; · iexact HA
      iexact HB
    iexact Hk

variable {O : CellTallies nD τ sig (HIx 2)} {W : Waits sig (HIx 2)}

theorem wp_partWaits {sem : DmaSems sig S_} {Q : α → sProp (MM F)} {k : PUnit → TileProg F c j α} :
    ∀ (n r : ℕ) (h : n + 1 + r ≤ 32) (_ : n + 1 + r = 32),
      iprop(partsBatch i src dst q part dv c j sem 32 (partN dst * r) ∗ duty (V dv c j) O W)
        ⊢ iprop((iprop(bigSep Finset.univ (partLeg i src dst q part dv c j) ∗ semVal (V dv c j, .dma sem.sem) 0 ∗ duty (V dv c j) O W) -∗ WP (V dv c j) (k ⟨⟩) Q)
          -∗ WP (V dv c j) (partWaits i src dst sem (n + 1) r h >>= k) Q)
  | 0, r, h, e => by
    obtain rfl : r = 31 := by omega
    rw [partWaits, partWaits, bind_assoc]
    unfold partWait
    iintro H Hk
    iapply (wp_own_drain (thr := V dv c j) (n := 32) (O := O) (W := W) (D := partLeg i src dst q part dv c j) (N := partN dst) (u := partN dst * 31)
      (srcw := src.slice (partFrom i ⟨31, by omega⟩) (fun _ => rfl)) (dstw := dst.slice (partTo ⟨31, by omega⟩) (fun _ => rfl)) (hsrc := View.wordExact_bits rfl) (hdst := View.wordExact_bits rfl) rfl
      (View.dmaCredit_pos _ (by decide)) (by omega)) $$ H
    rw [pure_bind]
    iexact Hk
  | n + 1, r, h, e => by
    have ih := wp_partWaits (sem := sem) (Q := Q) (k := k) n (r + 1) (by omega) (by omega)
    rw [partWaits, bind_assoc]
    unfold partWait
    iintro H Hk
    iapply (wp_own_wait (thr := V dv c j) (n := 32) (j := 32) (O := O) (W := W) (D := partLeg i src dst q part dv c j) (N := partN dst) (u := partN dst * r)
      (srcw := src.slice (partFrom i ⟨r, by omega⟩) (fun _ => rfl)) (dstw := dst.slice (partTo ⟨r, by omega⟩) (fun _ => rfl)) (hsrc := View.wordExact_bits rfl) (hdst := View.wordExact_bits rfl) rfl (by
      have := Nat.mul_le_mul_left (partN dst) (show r + 1 ≤ 32 by omega)
      rw [Nat.mul_add, Nat.mul_one] at this
      exact this)) $$ H
    rw [show partN dst * r + partN dst = partN dst * (r + 1) by rw [Nat.mul_add, Nat.mul_one]]
    iintro H
    iapply ih $$ H
    iexact Hk

omit [FloatOps F] in
/-- The two arrays taken apart for the parts. -/
theorem parts_open (g₀ : S50176.Idx → F .f32) :
    iprop(own (V dv c j) src q (at1 1605632 part) ∗ own (V dv c j) dst fullShare g₀)
      ⊢ iprop(partsAhead i src dst q part dv c j 0
        ∗ (bigSep Finset.univ (partLeg i src dst q part dv c j)
          -∗ iprop(own (V dv c j) src q (at1 1605632 part) ∗ own (V dv c j) dst fullShare (at1 50176 (partBuf part (memLo i)))))) := by
  have hlo : memLo i + 1568 ≤ 50176 := by have := memTile_lt i; rw [memLo_eq]; omega
  have h1 := own_split (thr := V dv c j) src q (at1 1605632 part) (at1 1605632 part) (partFrom i) (fun _ _ => rfl)
    (fun t t' ht x y he => ht (Fin.ext (by
      have e := congrArg Fin.val (congrFun he 0)
      rw [partFrom_emb, partFrom_emb] at e
      have hx : (x 0).val < 1568 := (x 0).isLt
      have hy : (y 0).val < 1568 := (y 0).isLt
      omega))) (fun r => at1 1568 fun m => part (50176 * r.val + memLo i + m))
    (fun t x => by show part _ = part _; rw [partFrom_emb]) (fun _ _ => rfl)
  have h2 := own_split (thr := V dv c j) dst fullShare g₀ (at1 50176 (partBuf part (memLo i))) partTo (fun _ _ => rfl)
    (fun t t' ht x y he => ht (Fin.ext (by
      have e := congrArg Fin.val (congrFun he 0)
      rw [partTo_emb, partTo_emb] at e
      have hx : (x 0).val < 1568 := (x 0).isLt
      have hy : (y 0).val < 1568 := (y 0).isLt
      omega))) (fun r => at1 1568 fun m => part (50176 * r.val + memLo i + m))
    (fun t x => by
      show partBuf part _ _ = part _
      rw [partTo_emb]; exact partBuf_at part _ _ _ (x 0).isLt)
    (fun y hy => by
      have hy' : (y 0).val < 50176 := (y 0).isLt
      refine absurd (funext fun a => ?_) (hy ⟨(y 0).val / 1568, by omega⟩ (fun a => match a with | 0 => ⟨(y 0).val % 1568, Nat.mod_lt _ (show 0 < 1568 by decide)⟩))
      match a with
      | 0 => exact Fin.ext (by rw [partTo_emb]; show 1568 * ((y 0).val / 1568) + (y 0).val % 1568 = _; omega))
  have e1 : ∀ t : Fin 32, (fun x => at1 1605632 part ((partFrom i t).emb x)) = (at1 1568 fun m => part (50176 * t.val + memLo i + m)) := fun t => by
    funext x; show part _ = part _; rw [partFrom_emb]
  simp only [e1] at h1
  have hop : iprop(bigSep Finset.univ (fun t : Fin 32 => own (V dv c j) (src.slice (partFrom i t) (fun _ => rfl)) q (at1 1568 fun m => part (50176 * t.val + memLo i + m)))
      ∗ bigSep Finset.univ (fun t : Fin 32 => own (V dv c j) (dst.slice (partTo t) (fun _ => rfl)) fullShare (fun x => g₀ ((partTo t).emb x))))
      ⊢ partsAhead i src dst q part dv c j 0 := by
    unfold partsAhead
    rw [show (Finset.univ.filter fun t : Fin 32 => 0 ≤ t.val) = Finset.univ by simp, ← bigSep_sep']
    refine bigSep_mono fun t _ => ?_
    unfold partAhead
    exact sep_mono_right (any_of _)
  have hsh : bigSep Finset.univ (partLeg i src dst q part dv c j)
      ⊢ iprop(bigSep Finset.univ (fun t : Fin 32 => own (V dv c j) (dst.slice (partTo t) (fun _ => rfl)) fullShare (at1 1568 fun m => part (50176 * t.val + memLo i + m)))
        ∗ bigSep Finset.univ (fun t : Fin 32 => own (V dv c j) (src.slice (partFrom i t) (fun _ => rfl)) q (at1 1568 fun m => part (50176 * t.val + memLo i + m)))) := by
    rw [← bigSep_sep']
    exact Entails.of_eq rfl
  iintro ⟨Hs, Hd⟩
  ihave Hs := h1 $$ Hs
  ihave Hd := h2 $$ Hd
  icases Hs with ⟨Hs, Ks⟩
  icases Hd with ⟨Hd, Kd⟩
  isplitl [Hs Hd]
  · iapply hop
    isplitl [Hs]; · iexact Hs
    iexact Hd
  iintro HL
  ihave HL := hsh $$ HL
  icases HL with ⟨Hd, Hs⟩
  isplitl [Hs Ks]
  · iapply Ks $$ Hs
  iapply Kd $$ Hd

end Parts

section Stretches

variable (n : ℕ) (src : Memref sig .scVector .hbm S50000 .f32) (dst : Memref sig .scVector .vmem S1568 .f32) (q : PosShare TreeShare) (f : ℕ → F .f32) (lo : ℕ)

/-- A buffer whose first `n` places hold an array's stretch. -/
def stretched (dv : Dev nD) (c : Fin τ.nSC) (j : Fin τ.nSub) : sProp (MM F) :=
  iprop(∃ g, own (V dv c j) dst fullShare (filled (fun m => f (lo + m)) n g))

/-- A stretch's copy under way. -/
def stretchFly (dv : Dev nD) (c : Fin τ.nSC) (j : Fin τ.nSub) (sem : DmaSems sig S_) : sProp (MM F) :=
  iprop(∃ (inb : ∀ a, (![lo] : Fin 1 → ℕ) a + (⟨1, ![n]⟩ : Shape).size a ≤ S50000.size a) (hn : ∀ a, (![0] : Fin 1 → ℕ) a + (⟨1, ![n]⟩ : Shape).size a ≤ S1568.size a),
    fly (V dv c j) (src.slice (Rect.unit (s := S50000) ![lo] (⟨1, ![n]⟩ : Shape).size inb) (fun _ => rfl))
      (dst.slice (Rect.unit (s := S1568) ![0] (⟨1, ![n]⟩ : Shape).size hn) (fun _ => rfl)) sem.sem q (at1 n fun m => f (lo + m))
    ∗ (own (V dv c j) (src.slice (Rect.unit (s := S50000) ![lo] (⟨1, ![n]⟩ : Shape).size inb) (fun _ => rfl)) q (at1 n fun m => f (lo + m)) -∗ own (V dv c j) src q (at1 50000 f))
    ∗ (own (V dv c j) (dst.slice (Rect.unit (s := S1568) ![0] (⟨1, ![n]⟩ : Shape).size hn) (fun _ => rfl)) fullShare (at1 n fun m => f (lo + m)) -∗ stretched n dst f lo dv c j))

variable [FloatOps F]

theorem wp_stretchCopy {sem : DmaSems sig S_} {off : Fin 1 → ℕ} {inb hn} (ho : off = ![lo]) {Q : α → sProp (MM F)} {k : PUnit → TileProg F c j α} :
    iprop(own (V dv c j) src q (at1 50000 f) ∗ any (V dv c j) dst ∗ semVal (V dv c j, .dma sem.sem) 0)
      ⊢ iprop((stretchFly n src dst q f lo dv c j sem -∗ WP (V dv c j) (k ⟨⟩) Q) -∗ WP (V dv c j) (stretchCopy n src dst sem off inb hn >>= k) Q) := by
  subst ho
  have h1 := own_slice (thr := V dv c j) src q (at1 50000 f : _ → Elt F .f32) (Rect.unit (s := S50000) ![lo] (⟨1, ![n]⟩ : Shape).size inb) (fun _ => rfl)
  have e1 : (fun x => at1 50000 f ((Rect.unit (s := S50000) ![lo] (⟨1, ![n]⟩ : Shape).size inb).emb x)) = at1 n fun m => f (lo + m) := by
    funext x; exact at1_unit f lo inb x
  rw [e1] at h1
  unfold stretchFly stretchCopy
  iintro ⟨Hs, Hd, Hv⟩ Hk
  ihave Hd := any_open $$ Hd
  icases Hd with ⟨%g, Hd⟩
  have he : ∀ x : (⟨1, ![n]⟩ : Shape).Idx, ((Rect.unit (s := S1568) ![0] (⟨1, ![n]⟩ : Shape).size hn).emb x 0).val = (x 0).val := fun x => by
    show 0 + 1 * (x 0).val = _; omega
  have h2 := own_put (thr := V dv c j) dst fullShare g (filled (fun m => f (lo + m)) n g) (Rect.unit (s := S1568) ![0] (⟨1, ![n]⟩ : Shape).size hn) (fun _ => rfl)
    (at1 n fun m => f (lo + m)) (fun x => by
      show (if _ then _ else _) = _
      rw [he]; exact if_pos (x 0).isLt)
    (fun y hy => if_neg fun h => by
      refine hy (fun a => match a with | 0 => ⟨(y 0).val, h⟩) (funext fun a => ?_)
      match a with
      | 0 => exact Fin.ext (he _))
  ihave Hs := h1 $$ Hs
  ihave Hd := h2 $$ Hd
  icases Hs with ⟨Hs, Ks⟩
  icases Hd with ⟨Hd, Kd⟩
  ihave Hd := (any_of _) $$ Hd
  iapply wp_own_start $$ [Hs Hd Hv]
  · isplitl [Hs]; · iexact Hs
    isplitl [Hd]; · iexact Hd
    iexact Hv
  iintro Hf
  iapply Hk
  iexists inb
  iexists hn
  isplitl [Hf]; · iexact Hf
  isplitl [Ks]; · iexact Ks
  iintro H
  unfold stretched
  iexists g
  iapply Kd $$ H

variable {O : CellTallies nD τ sig (HIx 2)} {W : Waits sig (HIx 2)}

theorem wp_stretchWait {sem : DmaSems sig S_} (h0 : 0 < n) {off : Fin 1 → ℕ} {inb hn} (ho : off = ![lo]) {Q : α → sProp (MM F)} {k : PUnit → TileProg F c j α} :
    iprop(stretchFly n src dst q f lo dv c j sem ∗ duty (V dv c j) O W)
      ⊢ iprop((iprop(own (V dv c j) src q (at1 50000 f) ∗ stretched n dst f lo dv c j ∗ semVal (V dv c j, .dma sem.sem) 0 ∗ duty (V dv c j) O W) -∗ WP (V dv c j) (k ⟨⟩) Q)
        -∗ WP (V dv c j) (stretchWait n src dst sem off inb hn >>= k) Q) := by
  subst ho
  unfold stretchFly stretchWait
  iintro ⟨⟨%inb', %hn', Hf, Ks, Kd⟩, HO⟩ Hk
  iapply (wp_own_finish (O := O) (W := W) (by simpa [Shape.numel] using h0)) $$ [Hf HO]
  · isplitl [Hf]; · iexact Hf
    iexact HO
  iintro ⟨Hd, Hs, Hv, HO⟩
  iapply Hk
  isplitl [Hs Ks]; · iapply Ks $$ Hs
  isplitl [Hd Kd]; · iapply Kd $$ Hd
  isplitl [Hv]; · iexact Hv
  iexact HO

end Stretches

end Cert.Proof

end
-- ==== Proof.MemTrip.lean ====
/-
  The membrane kernel on a tile: the thirty-two parts and the six arrays' stretches come in, sixteen neurons at a time are summed and
  stepped, and the firings go out.
-/
module

public import proofs.«01_k».proof.Proof.MemCopy

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}
variable {dv : Dev nD} {c : Fin τ.nSC} {j : Fin τ.nSub}

/-- What the membrane kernel reads, place by place. -/
structure Cells (F : FTy → Type) where
  v : ℕ → F .f32
  sp : ℕ → F .f32
  dec : ℕ → F .f32
  cf : ℕ → F .f32
  vth : ℕ → F .f32
  nrm : ℕ → F .f32
  part : ℕ → F .f32

/-- What it makes of a neuron. -/
def Cells.next (d : Cells F) (n : ℕ) : F .f32 :=
  fire1 (sumParts (fun r => d.part (50176 * r + n)) 31) (d.sp n) (d.v n) (d.dec n) (d.cf n) (d.vth n) (d.nrm n)

/-- The last tile, which has fewer neurons. -/
def lastTile (i : grid1.Coords) : Prop := 16 * (i 0).val + (i 1).val = 31

instance (i : grid1.Coords) : Decidable (lastTile i) := by unfold lastTile; infer_instance

/-- The number of a tile's neurons. -/
def memN (i : grid1.Coords) : ℕ := if lastTile i then 1392 else 1568

theorem cond1_iff : ∀ i : grid1.Coords, k1_cond1 i = 1#1 ↔ lastTile i := by decide +kernel
theorem cond2_iff : ∀ i : grid1.Coords, k1_cond2 i = 1#1 ↔ ¬lastTile i := by decide +kernel
theorem cond3_iff : ∀ i : grid1.Coords, k1_cond3 i = 1#1 ↔ lastTile i := by decide +kernel
theorem cond4_iff : ∀ i : grid1.Coords, k1_cond4 i = 1#1 ↔ ¬lastTile i := by decide +kernel
theorem memTrips : ∀ i : grid1.Coords, 16 * (k1_t1_loop i).trips = memN i := by decide +kernel
theorem memNoTrips : ∀ i : grid1.Coords, (k1_t2_loop i).trips = 0 := by decide +kernel

theorem memN_le (i : grid1.Coords) : memN i ≤ 1568 := by unfold memN; split <;> omega

/-- A stretch's front within a stretch is the front itself. -/
theorem own_nest {thr : Thread nD τ} {sp : Space} {e : EltTy} {N : ℕ} (m : Memref sig thr.2.kind sp ⟨1, ![N]⟩ e) {a n n' : ℕ} (q : PosShare TreeShare)
    {inb : ∀ x, (![a] : Fin 1 → ℕ) x + (⟨1, ![n]⟩ : Shape).size x ≤ (⟨1, ![N]⟩ : Shape).size x}
    {inb' : ∀ x, (![0] : Fin 1 → ℕ) x + (⟨1, ![n']⟩ : Shape).size x ≤ (⟨1, ![n]⟩ : Shape).size x}
    {off : Fin 1 → ℕ} (ho : off = ![a]) {inb'' : ∀ x, off x + (⟨1, ![n']⟩ : Shape).size x ≤ (⟨1, ![N]⟩ : Shape).size x} (g : (⟨1, ![n']⟩ : Shape).Idx → Elt F e) :
    own thr ((m.slice (Rect.unit (s := ⟨1, ![N]⟩) ![a] (⟨1, ![n]⟩ : Shape).size inb) (fun _ => rfl)).slice (Rect.unit (s := ⟨1, ![n]⟩) ![0] (⟨1, ![n']⟩ : Shape).size inb') (fun _ => rfl)) q g
      = own thr (m.slice (Rect.unit (s := ⟨1, ![N]⟩) off (⟨1, ![n']⟩ : Shape).size inb'') (fun _ => rfl)) q g := by
  subst ho
  have he : ∀ x : (⟨1, ![n']⟩ : Shape).Idx, (Rect.unit (s := ⟨1, ![N]⟩) ![a] (⟨1, ![n]⟩ : Shape).size inb).emb ((Rect.unit (s := ⟨1, ![n]⟩) ![0] (⟨1, ![n']⟩ : Shape).size inb').emb x)
      = (Rect.unit (s := ⟨1, ![N]⟩) ![a] (⟨1, ![n']⟩ : Shape).size inb'').emb x := fun x => funext fun b => match b with
    | 0 => Fin.ext (by show a + 1 * (0 + 1 * (x 0).val) = a + 1 * (x 0).val; omega)
  have hset : ((m.slice (Rect.unit (s := ⟨1, ![N]⟩) ![a] (⟨1, ![n]⟩ : Shape).size inb) (fun _ => rfl)).slice (Rect.unit (s := ⟨1, ![n]⟩) ![0] (⟨1, ![n']⟩ : Shape).size inb') (fun _ => rfl)).view.set
      = (m.slice (Rect.unit (s := ⟨1, ![N]⟩) ![a] (⟨1, ![n']⟩ : Shape).size inb'') (fun _ => rfl)).view.set := by
    refine congrArg (Finset.map · Finset.univ) (Function.Embedding.ext fun x => ?_)
    exact congrArg m.view.emb (he x)
  have hread : ∀ f : Buf (Elt F) (m.view.loc thr),
      ((m.slice (Rect.unit (s := ⟨1, ![N]⟩) ![a] (⟨1, ![n]⟩ : Shape).size inb) (fun _ => rfl)).slice (Rect.unit (s := ⟨1, ![n]⟩) ![0] (⟨1, ![n']⟩ : Shape).size inb') (fun _ => rfl)).view.read (Elt F) f
      = (m.slice (Rect.unit (s := ⟨1, ![N]⟩) ![a] (⟨1, ![n']⟩ : Shape).size inb'') (fun _ => rfl)).view.read (Elt F) f := fun f => by
    funext x
    exact congrArg (m.view.read (Elt F) f) (he x)
  unfold own
  rw [hset]
  refine congrArg _ (funext fun f => ?_)
  exact congrArg (fun v => iprop(⌜v = g⌝ ∗ _)) (hread f)

/-- What a tile reads of the neurons. -/
def neurOwn (dv : Dev nD) (c : Fin τ.nSC) (j : Fin τ.nSub) (g : Neurons) (q : PosShare TreeShare) (d : Cells F) : sProp (MM F) :=
  iprop(own (V dv c j) g.v q (at1 50000 d.v) ∗ own (V dv c j) g.sp q (at1 50000 d.sp) ∗ own (V dv c j) g.dec q (at1 50000 d.dec) ∗ own (V dv c j) g.cf q (at1 50000 d.cf) ∗ own (V dv c j) g.vth q (at1 50000 d.vth) ∗ own (V dv c j) g.nrm q (at1 50000 d.nrm))

/-- The buffers of the stretches. -/
def stretchAny (dv : Dev nD) (c : Fin τ.nSC) (j : Fin τ.nSub) (b : Stretch) : sProp (MM F) :=
  iprop(any (V dv c j) b.v ∗ any (V dv c j) b.sp ∗ any (V dv c j) b.dec ∗ any (V dv c j) b.cf ∗ any (V dv c j) b.vth ∗ any (V dv c j) b.nrm)

/-- The stretches. -/
def stretchOwn (dv : Dev nD) (c : Fin τ.nSC) (j : Fin τ.nSub) (b : Stretch) (d : Cells F) (lo n : ℕ) : sProp (MM F) :=
  iprop(stretched n b.v d.v lo dv c j ∗ stretched n b.sp d.sp lo dv c j ∗ stretched n b.dec d.dec lo dv c j ∗ stretched n b.cf d.cf lo dv c j ∗ stretched n b.vth d.vth lo dv c j ∗ stretched n b.nrm d.nrm lo dv c j)

/-- Their semaphores at rest. -/
def rest6 (dv : Dev nD) (c : Fin τ.nSC) (j : Fin τ.nSub) (s : Sems6) : sProp (MM F) :=
  iprop(semVal (V dv c j, .dma s.v.sem) 0 ∗ semVal (V dv c j, .dma s.sp.sem) 0 ∗ semVal (V dv c j, .dma s.dec.sem) 0 ∗ semVal (V dv c j, .dma s.cf.sem) 0 ∗ semVal (V dv c j, .dma s.vth.sem) 0 ∗ semVal (V dv c j, .dma s.nrm.sem) 0)

theorem stretchAny_of (b : Stretch) (d : Cells F) (lo n : ℕ) : stretchOwn dv c j b d lo n ⊢ stretchAny dv c j b := by
  unfold stretchOwn stretchAny stretched
  iintro ⟨⟨%gv, Hv⟩, ⟨%gsp, Hsp⟩, ⟨%gdec, Hdec⟩, ⟨%gcf, Hcf⟩, ⟨%gvth, Hvth⟩, ⟨%gnrm, Hnrm⟩⟩
  isplitl [Hv]; · iapply (any_of _) $$ Hv
  isplitl [Hsp]; · iapply (any_of _) $$ Hsp
  isplitl [Hdec]; · iapply (any_of _) $$ Hdec
  isplitl [Hcf]; · iapply (any_of _) $$ Hcf
  isplitl [Hvth]; · iapply (any_of _) $$ Hvth
  iapply (any_of _) $$ Hnrm

variable {O : CellTallies nD τ sig (HIx 2)} {W : Waits sig (HIx 2)}

theorem wp_stage {n lo : ℕ} (h0 : 0 < n) (g : Neurons) (b : Stretch) (s : Sems6) (q : PosShare TreeShare) (d : Cells F)
    {off : Fin 1 → ℕ} {inb hn} (ho : off = ![lo]) {Q : α → sProp (MM F)} {k : PUnit → TileProg F c j α} :
    iprop(neurOwn dv c j g q d ∗ stretchAny dv c j b ∗ rest6 dv c j s ∗ duty (V dv c j) O W)
      ⊢ iprop((iprop(neurOwn dv c j g q d ∗ stretchOwn dv c j b d lo n ∗ rest6 dv c j s ∗ duty (V dv c j) O W) -∗ WP (V dv c j) (k ⟨⟩) Q)
        -∗ WP (V dv c j) (stage n g b s off inb hn >>= k) Q) := by
  unfold neurOwn stretchAny stretchOwn rest6 stage
  simp only [bind_assoc]
  iintro ⟨⟨Sv, Ssp, Sdec, Scf, Svth, Snrm⟩, ⟨Dv, Dsp, Ddec, Dcf, Dvth, Dnrm⟩, ⟨Vv, Vsp, Vdec, Vcf, Vvth, Vnrm⟩, HO⟩ Hk
  iapply (wp_stretchCopy n g.v b.v q d.v lo ho) $$ [Sv Dv Vv]
  · isplitl [Sv]; · iexact Sv
    isplitl [Dv] <;> iassumption
  iintro Fv
  iapply (wp_stretchCopy n g.sp b.sp q d.sp lo ho) $$ [Ssp Dsp Vsp]
  · isplitl [Ssp]; · iexact Ssp
    isplitl [Dsp] <;> iassumption
  iintro Fsp
  iapply (wp_stretchCopy n g.dec b.dec q d.dec lo ho) $$ [Sdec Ddec Vdec]
  · isplitl [Sdec]; · iexact Sdec
    isplitl [Ddec] <;> iassumption
  iintro Fdec
  iapply (wp_stretchCopy n g.cf b.cf q d.cf lo ho) $$ [Scf Dcf Vcf]
  · isplitl [Scf]; · iexact Scf
    isplitl [Dcf] <;> iassumption
  iintro Fcf
  iapply (wp_stretchCopy n g.vth b.vth q d.vth lo ho) $$ [Svth Dvth Vvth]
  · isplitl [Svth]; · iexact Svth
    isplitl [Dvth] <;> iassumption
  iintro Fvth
  iapply (wp_stretchCopy n g.nrm b.nrm q d.nrm lo ho) $$ [Snrm Dnrm Vnrm]
  · isplitl [Snrm]; · iexact Snrm
    isplitl [Dnrm] <;> iassumption
  iintro Fnrm
  iapply (wp_stretchWait (O := O) (W := W) n g.v b.v q d.v lo h0 ho) $$ [Fv HO]
  · isplitl [Fv] <;> iassumption
  iintro ⟨Sv, Dv, Vv, HO⟩
  iapply (wp_stretchWait (O := O) (W := W) n g.sp b.sp q d.sp lo h0 ho) $$ [Fsp HO]
  · isplitl [Fsp] <;> iassumption
  iintro ⟨Ssp, Dsp, Vsp, HO⟩
  iapply (wp_stretchWait (O := O) (W := W) n g.dec b.dec q d.dec lo h0 ho) $$ [Fdec HO]
  · isplitl [Fdec] <;> iassumption
  iintro ⟨Sdec, Ddec, Vdec, HO⟩
  iapply (wp_stretchWait (O := O) (W := W) n g.cf b.cf q d.cf lo h0 ho) $$ [Fcf HO]
  · isplitl [Fcf] <;> iassumption
  iintro ⟨Scf, Dcf, Vcf, HO⟩
  iapply (wp_stretchWait (O := O) (W := W) n g.vth b.vth q d.vth lo h0 ho) $$ [Fvth HO]
  · isplitl [Fvth] <;> iassumption
  iintro ⟨Svth, Dvth, Vvth, HO⟩
  iapply (wp_stretchWait (O := O) (W := W) n g.nrm b.nrm q d.nrm lo h0 ho) $$ [Fnrm HO]
  · isplitl [Fnrm] <;> iassumption
  iintro ⟨Snrm, Dnrm, Vnrm, HO⟩
  iapply Hk
  isplitl [Sv Ssp Sdec Scf Svth Snrm]
  · isplitl [Sv]; · iexact Sv
    isplitl [Ssp]; · iexact Ssp
    isplitl [Sdec]; · iexact Sdec
    isplitl [Scf]; · iexact Scf
    isplitl [Svth]; · iexact Svth
    iexact Snrm
  isplitl [Dv Dsp Ddec Dcf Dvth Dnrm]
  · isplitl [Dv]; · iexact Dv
    isplitl [Dsp]; · iexact Dsp
    isplitl [Ddec]; · iexact Ddec
    isplitl [Dcf]; · iexact Dcf
    isplitl [Dvth]; · iexact Dvth
    iexact Dnrm
  isplitl [Vv Vsp Vdec Vcf Vvth Vnrm]
  · isplitl [Vv]; · iexact Vv
    isplitl [Vsp]; · iexact Vsp
    isplitl [Vdec]; · iexact Vdec
    isplitl [Vcf]; · iexact Vcf
    isplitl [Vvth]; · iexact Vvth
    iexact Vnrm
  iexact HO

/-- Both tiles' stretches: the tile's own, by whichever of the two it takes. -/
theorem wp_stages (i : grid1.Coords) (g : Neurons) (b : Stretch) (s s' : Sems6) (q : PosShare TreeShare) (d : Cells F)
    {Q : α → sProp (MM F)} {k : PUnit → TileProg F c j α} :
    iprop(neurOwn dv c j g q d ∗ stretchAny dv c j b ∗ rest6 dv c j s ∗ rest6 dv c j s' ∗ duty (V dv c j) O W)
      ⊢ iprop((iprop(neurOwn dv c j g q d ∗ stretchOwn dv c j b d (memLo i) (memN i) ∗ rest6 dv c j s ∗ rest6 dv c j s' ∗ duty (V dv c j) O W) -∗ WP (V dv c j) (k ⟨⟩) Q)
        -∗ WP (V dv c j) ((if h : k1_cond1 i = 1#1 then stage 1392 g b s (k1_off2 i) (k1_off2_inb i h) inb_S1568_S1392_0 else pure ⟨⟩) >>= fun _ =>
            (if h : k1_cond2 i = 1#1 then stage 1568 g b s' (k1_off3 i) (k1_off3_inb i h) inb_S1568_S1568_0 else pure ⟨⟩) >>= k) Q) := by
  iintro ⟨Hn, Hb, Hs, Hs', HO⟩ Hk
  by_cases hl : lastTile i
  · rw [dif_pos ((cond1_iff i).2 hl), dif_neg (fun h => (cond2_iff i).1 h hl), show memN i = 1392 from if_pos hl]
    iapply (wp_stage (O := O) (W := W) (lo := memLo i) (by decide) g b s q d (k1_off2_eq i)) $$ [Hn Hb Hs HO]
    · isplitl [Hn]; · iexact Hn
      isplitl [Hb]; · iexact Hb
      isplitl [Hs] <;> iassumption
    rw [pure_bind]
    iintro ⟨Hn, Hb, Hs, HO⟩
    iapply Hk
    isplitl [Hn]; · iexact Hn
    isplitl [Hb]; · iexact Hb
    isplitl [Hs]; · iexact Hs
    isplitl [Hs'] <;> iassumption
  · rw [dif_neg (fun h => hl ((cond1_iff i).1 h)), dif_pos ((cond2_iff i).2 hl), show memN i = 1568 from if_neg hl, pure_bind]
    iapply (wp_stage (O := O) (W := W) (lo := memLo i) (by decide) g b s' q d (k1_off3_eq i)) $$ [Hn Hb Hs' HO]
    · isplitl [Hn]; · iexact Hn
      isplitl [Hb]; · iexact Hb
      isplitl [Hs'] <;> iassumption
    iintro ⟨Hn, Hb, Hs', HO⟩
    iapply Hk
    isplitl [Hn]; · iexact Hn
    isplitl [Hb]; · iexact Hb
    isplitl [Hs]; · iexact Hs
    isplitl [Hs'] <;> iassumption

/-- The sum of sixteen neurons' parts. -/
theorem wp_partSum (m : Memref sig .scVector .vmem S50176 .f32) (P : ℕ → F .f32) (o : ℕ) {off : BitVec 32 → Fin 1 → ℕ}
    {inb : ∀ r : Fin 31, ∀ a, off (BitVec.ofNat 32 (1568 + 1568 * r.val)) a + S16.size a ≤ S50176.size a}
    (ho : ∀ r : Fin 31, off (BitVec.ofNat 32 (1568 + 1568 * r.val)) = ![1568 * r.val + o + 1568])
    {Q : α → sProp (MM F)} {k : FVec F S16 .f32 → TileProg F c j α} :
    ∀ (n r : ℕ) (h : n + r ≤ 31) (_ : n + r = 31) (a : FVec F S16 .f32) (_ : a = fun x => sumParts (fun r => P (1568 * r + (o + (x 0).val))) r),
      own (V dv c j) m fullShare (at1 50176 P)
        ⊢ iprop((own (V dv c j) m fullShare (at1 50176 P) -∗ WP (V dv c j) (k fun x => sumParts (fun r => P (1568 * r + (o + (x 0).val))) 31) Q)
          -∗ WP (V dv c j) (partSum m off inb n r h a >>= k) Q)
  | 0, r, h, e, a, ha => by
    subst ha
    obtain rfl : r = 31 := by omega
    rw [partSum, pure_bind]
    iintro H Hk
    iapply Hk $$ H
  | n + 1, r, h, e, a, ha => by
    have ih := wp_partSum (inb := inb) m P o ho (Q := Q) (k := k) n (r + 1) (by omega) (by omega)
      (addf a (fun x => at1 50176 P ((Rect.unit (s := S50176) (off (BitVec.ofNat 32 (1568 + 1568 * r))) S16.size (inb ⟨r, by omega⟩)).emb x))) (by
        subst ha
        funext x
        refine congrArg (FloatOps.addf _) (congrArg P ?_)
        show off (BitVec.ofNat 32 (1568 + 1568 * (⟨r, by omega⟩ : Fin 31).val)) 0 + 1 * (x 0).val = _
        rw [ho]
        show 1568 * r + o + 1568 + 1 * (x 0).val = _
        omega)
    rw [partSum, bind_assoc]
    iintro H Hk
    iapply wp_own_load $$ H
    iintro H
    iapply ih $$ H
    iexact Hk

theorem stretch_at {lo n o : ℕ} (f : ℕ → F .f32) (g : S1568.Idx → F .f32) (inb : ∀ a, (![o] : Fin 1 → ℕ) a + S16.size a ≤ S1568.size a) (h : o + 16 ≤ n) (x : S16.Idx) :
    filled (fun m => f (lo + m)) n g ((Rect.unit (s := S1568) ![o] S16.size inb).emb x) = f (lo + (o + (x 0).val)) := by
  have hx : (x 0).val < 16 := (x 0).isLt
  have e : ((Rect.unit (s := S1568) ![o] S16.size inb).emb x 0).val = o + (x 0).val := by show o + 1 * (x 0).val = _; omega
  show (if _ then _ else _) = _
  rw [e, if_pos (show o + (x 0).val < n by omega)]

/-- A trip: sixteen more neurons stepped. -/
theorem wp_memTrip (m : Memref sig .scVector .vmem S50176 .f32) (b : Stretch) (out : Memref sig .scVector .vmem S1568 .f32) (d : Cells F) {lo n o : ℕ} (hn : o + 16 ≤ n) (hn' : n ≤ 1568)
    {off₀ : Fin 1 → ℕ} {h₀ : ∀ a, off₀ a + S16.size a ≤ S50176.size a} (ho₀ : off₀ = ![o]) {off : BitVec 32 → Fin 1 → ℕ}
    {inb : ∀ r : Fin 31, ∀ a, off (BitVec.ofNat 32 (1568 + 1568 * r.val)) a + S16.size a ≤ S50176.size a}
    (hoff : ∀ r : Fin 31, off (BitVec.ofNat 32 (1568 + 1568 * r.val)) = ![1568 * r.val + o + 1568])
    {o' : Fin 1 → ℕ} {ho : ∀ a, o' a + S16.size a ≤ S1568.size a} (ho' : o' = ![o]) (g : S1568.Idx → F .f32) :
    iprop(own (V dv c j) m fullShare (at1 50176 (partBuf d.part lo)) ∗ stretchOwn dv c j b d lo n ∗ own (V dv c j) out fullShare (filled (fun m => d.next (lo + m)) o g))
      ⊢ WP (V dv c j) (memTrip (F := F) m b out off₀ h₀ off inb o' ho) fun _ =>
        iprop(own (V dv c j) m fullShare (at1 50176 (partBuf d.part lo)) ∗ stretchOwn dv c j b d lo n ∗ own (V dv c j) out fullShare (filled (fun m => d.next (lo + m)) (o + 16) g)) := by
  subst ho₀
  subst ho'
  unfold memTrip stretchOwn stretched
  iintro ⟨Hm, ⟨⟨%gv, Hv⟩, ⟨%gsp, Hsp⟩, ⟨%gdec, Hdec⟩, ⟨%gcf, Hcf⟩, ⟨%gvth, Hvth⟩, ⟨%gnrm, Hnrm⟩⟩, Ho⟩
  iapply wp_own_load $$ Hm
  iintro Hm
  iapply (wp_partSum m (partBuf d.part lo) o hoff 31 0 (Nat.le_refl 31) rfl _ (by
    funext x
    refine (at1_unit (partBuf d.part lo) o h₀ x).trans (congrArg (partBuf d.part lo) ?_)
    show _ = 1568 * 0 + (o + (x 0).val)
    omega)) $$ Hm
  iintro Hm
  iapply wp_own_load $$ Hsp
  iintro Hsp
  iapply wp_own_load $$ Hv
  iintro Hv
  iapply wp_own_load $$ Hdec
  iintro Hdec
  iapply wp_own_load $$ Hcf
  iintro Hcf
  iapply wp_own_load $$ Hvth
  iintro Hvth
  iapply wp_own_load $$ Hnrm
  iintro Hnrm
  iapply wp_own_load $$ Ho
  iintro Ho
  iapply (wp_own_fill (thr := V dv c j) (m := out) (o := o) (g := g) (f := fun m => d.next (lo + m)) rfl (fun x => ?_)) $$ Ho
  · rw [fire_apply, stretch_at d.sp gsp ho hn, stretch_at d.v gv ho hn, stretch_at d.dec gdec ho hn, stretch_at d.cf gcf ho hn, stretch_at d.vth gvth ho hn, stretch_at d.nrm gnrm ho hn]
    have hx : (x 0).val < 16 := (x 0).isLt
    unfold Cells.next
    congr 2
    funext r
    rw [partBuf_at d.part lo r _ (by omega), Nat.add_assoc]
  iintro Ho
  iapply wp_own_pure
  isplitl [Hm]; · iexact Hm
  isplitr [Ho]
  · isplitl [Hv]; · iexists gv; iexact Hv
    isplitl [Hsp]; · iexists gsp; iexact Hsp
    isplitl [Hdec]; · iexists gdec; iexact Hdec
    isplitl [Hcf]; · iexists gcf; iexact Hcf
    isplitl [Hvth]; · iexists gvth; iexact Hvth
    iexists gnrm; iexact Hnrm
  iexact Ho

end Cert.Proof

end
-- ==== Proof.MemBody.lean ====
/-
  The membrane kernel's whole body on one tile.
-/
module

public import proofs.«01_k».proof.Proof.MemTrip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}
variable {dv : Dev nD} {c : Fin τ.nSC} {j : Fin τ.nSub}

abbrev mC (i : grid1.Coords) : Fin τ.nSC := (i 0).castLE hcore1
abbrev mJ (i : grid1.Coords) : Fin τ.nSub := (i 1).castLE hsub1

theorem memRow_inb (i : grid1.Coords) : ∀ a, (![memLo i] : Fin 1 → ℕ) a + S1568.size a ≤ S50176.size a := fun a => match a with
  | 0 => by
    show memLo i + 1568 ≤ 50176
    have := memTile_lt i
    rw [memLo_eq]; omega

/-- A tile's stretch of the output. -/
abbrev memRow (i : grid1.Coords) (arg9 : Memref sig .scVector .hbm S50176 .f32) : Memref sig .scVector .hbm S1568 .f32 :=
  arg9.slice (Rect.unit (s := S50176) ![memLo i] S1568.size (memRow_inb i)) (fun _ => rfl)

/-- A stretch by its place. -/
theorem own_row {thr : Thread nD τ} {sp : Space} {e : EltTy} (m : Memref sig thr.2.kind sp S50176 e) {lo : ℕ} {off : Fin 1 → ℕ} (ho : off = ![lo]) {q : PosShare TreeShare}
    {inb : ∀ a, (![lo] : Fin 1 → ℕ) a + S1568.size a ≤ S50176.size a} {inb' : ∀ a, off a + S1568.size a ≤ S50176.size a} (g : S1568.Idx → Elt F e) :
    own thr (m.slice (Rect.unit (s := S50176) ![lo] S1568.size inb) (fun _ => rfl)) q g
      = own thr (m.slice (Rect.unit (s := S50176) off S1568.size inb') (fun _ => rfl)) q g := by
  subst ho; rfl

section

variable (i : grid1.Coords)
  (arg2 : Memref sig .scVector .hbm S1605632 .f32) (harg2 : arg2.IsWhole)
  (arg3 : Memref sig .scVector .hbm S50000 .f32) (harg3 : arg3.IsWhole)
  (arg4 : Memref sig .scVector .hbm S50000 .f32) (harg4 : arg4.IsWhole)
  (arg5 : Memref sig .scVector .hbm S50000 .f32) (harg5 : arg5.IsWhole)
  (arg6 : Memref sig .scVector .hbm S50000 .f32) (harg6 : arg6.IsWhole)
  (arg7 : Memref sig .scVector .hbm S50000 .f32) (harg7 : arg7.IsWhole)
  (arg8 : Memref sig .scVector .hbm S50000 .f32) (harg8 : arg8.IsWhole)
  (arg9 : Memref sig .scVector .hbm S50176 .f32) (harg9 : arg9.IsWhole)
  (arg10 : Memref sig .scVector .vmem S50176 .f32) (harg10 : arg10.IsWhole)
  (arg11 : Memref sig .scVector .vmem S1568 .f32) (harg11 : arg11.IsWhole)
  (arg12 : Memref sig .scVector .vmem S1568 .f32) (harg12 : arg12.IsWhole)
  (arg13 : Memref sig .scVector .vmem S1568 .f32) (harg13 : arg13.IsWhole)
  (arg14 : Memref sig .scVector .vmem S1568 .f32) (harg14 : arg14.IsWhole)
  (arg15 : Memref sig .scVector .vmem S1568 .f32) (harg15 : arg15.IsWhole)
  (arg16 : Memref sig .scVector .vmem S1568 .f32) (harg16 : arg16.IsWhole)
  (arg17 : Memref sig .scVector .vmem S1568 .f32) (harg17 : arg17.IsWhole)
  (arg18 arg19 arg20 arg21 arg22 arg23 arg24 arg25 arg26 arg27 arg28 arg29 arg30 v308_r0 v308_r1 : DmaSems sig S_)

/-- What the tile reads: shares of the parts and of the neurons. -/
def memIn (q : PosShare TreeShare) (d : Cells F) : sProp (MM F) :=
  iprop(own (V dv (mC i) (mJ i)) arg2 q (at1 1605632 d.part) ∗ neurOwn dv (mC i) (mJ i) ⟨arg3, arg4, arg5, arg6, arg7, arg8⟩ q d)

/-- What the tile works in, and its semaphores at rest. -/
def memWork : sProp (MM F) :=
  iprop(any (V dv (mC i) (mJ i)) arg10 ∗ stretchAny dv (mC i) (mJ i) ⟨arg11, arg12, arg13, arg14, arg15, arg16⟩ ∗ any (V dv (mC i) (mJ i)) arg17
    ∗ semVal (V dv (mC i) (mJ i), .dma arg18.sem) 0 ∗ rest6 dv (mC i) (mJ i) ⟨arg25, arg26, arg27, arg28, arg29, arg30⟩ ∗ rest6 dv (mC i) (mJ i) ⟨arg19, arg20, arg21, arg22, arg23, arg24⟩
    ∗ semVal (V dv (mC i) (mJ i), .dma v308_r0.sem) 0 ∗ semVal (V dv (mC i) (mJ i), .dma v308_r1.sem) 0)

/-- What the tile leaves in its stretch of the output. -/
def memOut (d : Cells F) : sProp (MM F) :=
  iprop(∃ g, own (V dv (mC i) (mJ i)) (memRow i arg9) fullShare (filled (fun m => d.next (memLo i + m)) (memN i) g))

variable {O : CellTallies nD τ sig (HIx 2)} {W : Waits sig (HIx 2)}

theorem wp_memFor (d : Cells F) (g : S1568.Idx → F .f32) (k : Fin (k1_t1_loop i).trips) :
    iprop(own (V dv (mC i) (mJ i)) arg10 fullShare (at1 50176 (partBuf d.part (memLo i))) ∗ stretchOwn dv (mC i) (mJ i) ⟨arg11, arg12, arg13, arg14, arg15, arg16⟩ d (memLo i) (memN i)
        ∗ own (V dv (mC i) (mJ i)) arg17 fullShare (filled (fun m => d.next (memLo i + m)) (16 * k.val) g))
      ⊢ WP (V dv (mC i) (mJ i)) (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 0#32 k ⟨⟩) fun _ =>
        iprop(own (V dv (mC i) (mJ i)) arg10 fullShare (at1 50176 (partBuf d.part (memLo i))) ∗ stretchOwn dv (mC i) (mJ i) ⟨arg11, arg12, arg13, arg14, arg15, arg16⟩ d (memLo i) (memN i)
        ∗ own (V dv (mC i) (mJ i)) arg17 fullShare (filled (fun m => d.next (memLo i + m)) (16 * (k.val + 1)) g)) := by
  rw [m1_body_eq]
  exact wp_memTrip (n := memN i) (o := 16 * k.val) arg10 ⟨arg11, arg12, arg13, arg14, arg15, arg16⟩ arg17 d (by have := memTrips i; have := k.isLt; omega) (memN_le i) (k1_off4_eq i k) (fun r => k1_off5_eq i k r) (k1_off6_eq i k) g

/-- The tile's neurons written out, by whichever of the two copies it takes. -/
theorem wp_memWrite (d : Cells F) (g : S1568.Idx → F .f32) {Q : PUnit → sProp (MM F)} {k : PUnit → TileProg F (mC i) (mJ i) PUnit} :
    iprop(own (V dv (mC i) (mJ i)) arg17 fullShare (filled (fun m => d.next (memLo i + m)) (memN i) g) ∗ any (V dv (mC i) (mJ i)) (memRow i arg9)
        ∗ semVal (V dv (mC i) (mJ i), .dma v308_r0.sem) 0 ∗ semVal (V dv (mC i) (mJ i), .dma v308_r1.sem) 0 ∗ duty (V dv (mC i) (mJ i)) O W)
      ⊢ iprop((iprop(any (V dv (mC i) (mJ i)) arg17 ∗ memOut (dv := dv) i arg9 d
          ∗ semVal (V dv (mC i) (mJ i), .dma v308_r0.sem) 0 ∗ semVal (V dv (mC i) (mJ i), .dma v308_r1.sem) 0 ∗ duty (V dv (mC i) (mJ i)) O W) -∗ WP (V dv (mC i) (mJ i)) (k ⟨⟩) Q)
        -∗ WP (V dv (mC i) (mJ i)) ((if h : k1_cond3 i = 1#1 then do
          Prog.lift (.enqueueDma (arg17.slice (Rect.unit (s := S1568) ![0] S1392.size inb_S1568_S1392_0) (fun _ => rfl)) (.here (arg9.slice (Rect.unit (s := S50176) (k1_off10 i) S1392.size (k1_off10_inb i h)) (fun _ => rfl))) (.dma v308_r0.sem) (View.wordExact_bits rfl) (View.wordExact_bits rfl) ⟨Or.inl rfl, trivial⟩)
          Prog.lift (.waitDma2 v308_r0.sem (arg17.slice (Rect.unit (s := S1568) ![0] S1392.size inb_S1568_S1392_0) (fun _ => rfl)) (arg9.slice (Rect.unit (s := S50176) (k1_off10 i) S1392.size (k1_off10_inb i h)) (fun _ => rfl)) (View.wordExact_bits rfl) (View.wordExact_bits rfl))
          else pure ⟨⟩) >>= fun _ =>
        (if h : k1_cond4 i = 1#1 then do
          Prog.lift (.enqueueDma arg17 (.here (arg9.slice (Rect.unit (s := S50176) (k1_off11 i) S1568.size (k1_off11_inb i h)) (fun _ => rfl))) (.dma v308_r1.sem) harg17.wordExact (View.wordExact_bits rfl) ⟨Or.inl rfl, trivial⟩)
          Prog.lift (.waitDma2 v308_r1.sem arg17 (arg9.slice (Rect.unit (s := S50176) (k1_off11 i) S1568.size (k1_off11_inb i h)) (fun _ => rfl)) harg17.wordExact (View.wordExact_bits rfl))
          else pure ⟨⟩) >>= k) Q) := by
  have e0 : ∀ (x : (⟨1, ![1392]⟩ : Shape).Idx), ((Rect.unit (s := S1568) ![0] S1392.size inb_S1568_S1392_0).emb x 0).val = (x 0).val := fun x => by
    show 0 + 1 * (x 0).val = _; omega
  iintro ⟨H, Hr, Hv0, Hv1, HO⟩ Hk
  ihave Hr := any_open $$ Hr
  icases Hr with ⟨%gr, Hr⟩
  by_cases hl : lastTile i
  · have hN : memN i = 1392 := if_pos hl
    rw [dif_pos ((cond3_iff i).2 hl), dif_neg (fun h => (cond4_iff i).1 h hl), hN, bind_assoc]
    have hs := own_slice (thr := V dv (mC i) (mJ i)) arg17 fullShare (filled (fun m => d.next (memLo i + m)) 1392 g) (Rect.unit (s := S1568) ![0] S1392.size inb_S1568_S1392_0) (fun _ => rfl)
    have hd := own_put (thr := V dv (mC i) (mJ i)) (memRow i arg9) fullShare gr (filled (fun m => d.next (memLo i + m)) 1392 gr) (Rect.unit (s := S1568) ![0] S1392.size inb_S1568_S1392_0) (fun _ => rfl)
      (fun x => filled (fun m => d.next (memLo i + m)) 1392 g ((Rect.unit (s := S1568) ![0] S1392.size inb_S1568_S1392_0).emb x)) (fun x => by
        have hx : (x 0).val < 1392 := (x 0).isLt
        show (if _ then _ else _) = (if _ then _ else _)
        rw [e0, if_pos hx, if_pos hx]) (fun y hy => if_neg fun h => by
        refine hy (fun a => match a with | 0 => ⟨(y 0).val, h⟩) (funext fun a => ?_)
        match a with
        | 0 => exact Fin.ext (e0 _))
    rw [own_nest (thr := V dv (mC i) (mJ i)) arg9 fullShare (a := memLo i) (inb := memRow_inb i) (inb' := inb_S1568_S1392_0) (k1_off10_eq i) (inb'' := k1_off10_inb i ((cond3_iff i).2 hl)), own_nest (thr := V dv (mC i) (mJ i)) arg9 fullShare (a := memLo i) (inb := memRow_inb i) (inb' := inb_S1568_S1392_0) (k1_off10_eq i) (inb'' := k1_off10_inb i ((cond3_iff i).2 hl))] at hd
    ihave H := hs $$ H
    ihave Hr := hd $$ Hr
    icases H with ⟨H, Kh⟩
    icases Hr with ⟨Hr, Kr⟩
    ihave Hr := (any_of _) $$ Hr
    iapply wp_own_start $$ [H Hr Hv0]
    · isplitl [H]; · iexact H
      isplitl [Hr]; · iexact Hr
      iexact Hv0
    iintro Hf
    iapply (wp_own_finish (O := O) (W := W) (by decide)) $$ [Hf HO]
    · isplitl [Hf]; · iexact Hf
      iexact HO
    rw [pure_bind]
    iintro ⟨Hr, H, Hv0, HO⟩
    iapply Hk
    isplitl [H Kh]
    · iapply (any_of _)
      iapply Kh $$ H
    isplitl [Hr Kr]
    · unfold memOut
      rw [hN]
      iexists gr
      iapply Kr $$ Hr
    isplitl [Hv0]; · iexact Hv0
    isplitl [Hv1] <;> iassumption
  · have hN : memN i = 1568 := if_neg hl
    rw [dif_neg (fun h => hl ((cond3_iff i).1 h)), dif_pos ((cond4_iff i).2 hl), hN, pure_bind, bind_assoc]
    have hrow : ∀ g' : S1568.Idx → Elt F .f32, own (V dv (mC i) (mJ i)) (memRow i arg9) fullShare g'
        = own (V dv (mC i) (mJ i)) (arg9.slice (Rect.unit (s := S50176) (k1_off11 i) S1568.size (k1_off11_inb i ((cond4_iff i).2 hl))) (fun _ => rfl)) fullShare g' :=
      fun g' => own_row (thr := V dv (mC i) (mJ i)) (lo := memLo i) (inb := memRow_inb i) arg9 (k1_off11_eq i) g'
    ihave Hr := (Entails.of_eq (hrow _)) $$ Hr
    ihave Hr := (any_of _) $$ Hr
    iapply wp_own_start $$ [H Hr Hv1]
    · isplitl [H]; · iexact H
      isplitl [Hr]; · iexact Hr
      iexact Hv1
    iintro Hf
    iapply (wp_own_finish (O := O) (W := W) (by decide)) $$ [Hf HO]
    · isplitl [Hf]; · iexact Hf
      iexact HO
    iintro ⟨Hr, H, Hv1, HO⟩
    iapply Hk
    isplitl [H]; · iapply (any_of _) $$ H
    isplitl [Hr]
    · unfold memOut
      rw [hN]
      iexists g
      iapply (Entails.of_eq (hrow _).symm) $$ Hr
    isplitl [Hv0]; · iexact Hv0
    isplitl [Hv1] <;> iassumption

/-- The whole body. -/
theorem mem_body (q : PosShare TreeShare) (d : Cells F) :
    iprop(memIn (dv := dv) i arg2 arg3 arg4 arg5 arg6 arg7 arg8 q d ∗ any (V dv (mC i) (mJ i)) (memRow i arg9)
        ∗ memWork (F := F) (dv := dv) i arg10 arg11 arg12 arg13 arg14 arg15 arg16 arg17 arg18 arg19 arg20 arg21 arg22 arg23 arg24 arg25 arg26 arg27 arg28 arg29 arg30 v308_r0 v308_r1 ∗ duty (V dv (mC i) (mJ i)) O W)
      ⊢ WP (V dv (mC i) (mJ i)) (cc1__sc_membrane_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1) fun _ =>
        iprop(memIn (dv := dv) i arg2 arg3 arg4 arg5 arg6 arg7 arg8 q d ∗ memOut (dv := dv) i arg9 d
          ∗ memWork (F := F) (dv := dv) i arg10 arg11 arg12 arg13 arg14 arg15 arg16 arg17 arg18 arg19 arg20 arg21 arg22 arg23 arg24 arg25 arg26 arg27 arg28 arg29 arg30 v308_r0 v308_r1 ∗ duty (V dv (mC i) (mJ i)) O W) := by
  rw [mem_kernel_eq]
  unfold memIn memWork
  iintro ⟨⟨Hp, Hn⟩, Hr, ⟨H10, Hb, H17, Hv18, Hs, Hs', Hv0, Hv1⟩, HO⟩
  ihave H10 := any_open $$ H10
  icases H10 with ⟨%g10, H10⟩
  ihave HP := (parts_open i arg2 arg10 q d.part g10) $$ [Hp H10]
  · isplitl [Hp] <;> iassumption
  icases HP with ⟨HA, Kp⟩
  imod (Transfers.batch_alloc' countersEmb (c := V dv (mC i) (mJ i)) (none : HIx 2) (partN arg10) (partLeg i arg2 arg10 q d.part dv (mC i) (mJ i)) (sm := .dma arg18.sem) (E := Set.univ)) $$ Hv18 with HB
  iapply (wp_partCopies i arg2 arg10 q d.part 32 0 (Nat.le_refl 32) rfl) $$ [HA HB]
  · isplitl [HA] <;> iassumption
  iintro HB
  iapply (wp_stages (O := O) (W := W) i ⟨arg3, arg4, arg5, arg6, arg7, arg8⟩ ⟨arg11, arg12, arg13, arg14, arg15, arg16⟩ ⟨arg25, arg26, arg27, arg28, arg29, arg30⟩ ⟨arg19, arg20, arg21, arg22, arg23, arg24⟩ q d) $$ [Hn Hb Hs Hs' HO]
  · isplitl [Hn]; · iexact Hn
    isplitl [Hb]; · iexact Hb
    isplitl [Hs]; · iexact Hs
    isplitl [Hs'] <;> iassumption
  iintro ⟨Hn, Hb, Hs, Hs', HO⟩
  iapply (wp_partWaits (O := O) (W := W) i arg2 arg10 q d.part 31 0 (Nat.le_refl 32) rfl) $$ [HB HO]
  · isplitl [HB] <;> iassumption
  iintro ⟨HL, Hv18, HO⟩
  ihave HP := Kp $$ HL
  icases HP with ⟨Hp, H10⟩
  ihave H17 := any_open $$ H17
  icases H17 with ⟨%g17, H17⟩
  iapply (wp_own_for (k1_t1_loop i) (k1_t1_ok i) _
    (fun k => iprop(own (V dv (mC i) (mJ i)) arg10 fullShare (at1 50176 (partBuf d.part (memLo i))) ∗ stretchOwn dv (mC i) (mJ i) ⟨arg11, arg12, arg13, arg14, arg15, arg16⟩ d (memLo i) (memN i)
        ∗ own (V dv (mC i) (mJ i)) arg17 fullShare (filled (fun m => d.next (memLo i + m)) (16 * k) g17)))
    (fun k => wp_memFor i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        arg18 arg19 arg20 arg21 arg22 arg23 arg24 arg25 arg26 arg27 arg28 arg29 arg30 v308_r0 v308_r1 d g17 k)) $$ [H10 Hb H17]
  · rw [Nat.mul_zero, filled_zero]
    isplitl [H10]; · iexact H10
    isplitl [Hb] <;> iassumption
  rw [memTrips i]
  iintro ⟨H10, Hb, H17⟩
  iapply (wp_own_for (k1_t2_loop i) (k1_t2_ok i) _
    (fun _ => own (V dv (mC i) (mJ i)) arg17 fullShare (filled (fun m => d.next (memLo i + m)) (memN i) g17))
    (fun k => absurd k.isLt (by have := memNoTrips i; omega))) $$ H17
  iintro H17
  iapply (wp_memWrite (O := O) (W := W) i arg9 arg17 harg17 v308_r0 v308_r1 d g17) $$ [H17 Hr Hv0 Hv1 HO]
  · isplitl [H17]; · iexact H17
    isplitl [Hr]; · iexact Hr
    isplitl [Hv0]; · iexact Hv0
    isplitl [Hv1] <;> iassumption
  iintro ⟨H17, Hr, Hv0, Hv1, HO⟩
  iapply wp_own_pure
  isplitl [Hp Hn]
  · isplitl [Hp] <;> iassumption
  isplitl [Hr]; · iexact Hr
  isplitr [HO]
  · isplitl [H10]; · iapply (any_of _) $$ H10
    isplitl [Hb]; · iapply (stretchAny_of _ _ _ _) $$ Hb
    isplitl [H17]; · iexact H17
    isplitl [Hv18]; · iexact Hv18
    isplitl [Hs]; · iexact Hs
    isplitl [Hs']; · iexact Hs'
    isplitl [Hv0] <;> iassumption
  iexact HO

end

end Cert.Proof

end
-- ==== Proof.Tiles.lean ====
/-
  Each call's task at a tile, from what the tile is handed when it starts: the call's own scratch buffers and semaphores are
  taken out of all the tile's, the body runs, and they go back.
-/
module

public import proofs.«01_k».proof.Proof.SynBody
public import proofs.«01_k».proof.Proof.MemBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The resources of a list beside a rest. -/
def along {ι : Type} (Φ : ι → sProp (MM F)) (R : sProp (MM F)) : List ι → sProp (MM F)
  | [] => R
  | x :: l => iprop(Φ x ∗ along Φ R l)

/-- Members of a finite set, taken out of it one by one. -/
theorem along_take {ι : Type} [DecidableEq ι] (Φ : ι → sProp (MM F)) : ∀ (l : List ι) (s : Finset ι), l.Nodup → (∀ x ∈ l, x ∈ s) →
    ∃ R, bigSep s Φ = along Φ R l
  | [], s, _, _ => ⟨bigSep s Φ, rfl⟩
  | x :: l, s, hn, hs => by
    obtain ⟨R, hR⟩ := along_take Φ l (s.erase x) (List.nodup_cons.1 hn).2 fun y hy =>
      Finset.mem_erase.2 ⟨fun e => (List.nodup_cons.1 hn).1 (e ▸ hy), hs y (List.mem_cons_of_mem _ hy)⟩
    exact ⟨R, by rw [SparseCore.bigSep_erase' (hs x List.mem_cons_self), hR]; rfl⟩

variable (dv : Dev nD) (c : Fin τ.nSC) (j : Fin τ.nSub)

/-- A whole buffer, by what it holds. -/
theorem own_whole {thr : Thread nD τ} (r : Ref sig thr.2.kind) (q : PosShare TreeShare) (g : r.ty.shape.Idx → Elt F r.ty.elt) :
    own thr (Memref.whole r) q g = (thr.loc r ↦{q} (g : Buf (Elt F) (thr.loc r)) : sProp (MM F)) := by
  have e : ∀ f : Buf (Elt F) (thr.loc r), (thr.loc r ↦[(Memref.whole r).view.set]{q} f : sProp (MM F)) = thr.loc r ↦{q} f := fun f =>
    congrArg (fun I => (thr.loc r ↦[I]{q} f : sProp (MM F))) (View.set_whole r)
  have h1 : own thr (Memref.whole r) q g ⊢ (thr.loc r ↦{q} (g : Buf (Elt F) (thr.loc r)) : sProp (MM F)) := by
    unfold own
    iintro ⟨%f, %hf, H⟩
    have hf' : f = g := hf
    subst hf'
    iapply (Entails.of_eq (e f)) $$ H
  have h2 : (thr.loc r ↦{q} (g : Buf (Elt F) (thr.loc r)) : sProp (MM F)) ⊢ own thr (Memref.whole r) q g := by
    unfold own
    iintro H
    iexists (g : Buf (Elt F) (thr.loc r))
    isplitr; · ipureintro; rfl
    iapply (Entails.of_eq (e g).symm) $$ H
  exact BI.Entails.antisymm h1 h2

theorem bufs_take (l : List (Ref sig .scVector)) (hn : l.Nodup) (ho : ∀ r ∈ l, ((Proc.scVector c j : Proc τ).devRef r).owner = .proc (Proc.scVector c j)) :
    ∃ R : sProp (MM F), ownBufs (V dv c j) = along (fun r => any (V dv c j) (Memref.whole r)) R l := by
  classical
  obtain ⟨R, hR⟩ := along_take (F := F) (fun b => iprop(∃ f, ((dv, b) : Loc nD τ sig) ↦{fullShare} f)) (l.map (Proc.scVector c j : Proc τ).devRef)
    (SparseCore.Cfg.ownRefs (Proc.scVector c j)) (hn.map (Proc.devRef_injective _)) (by
      intro b hb
      obtain ⟨r, hr, rfl⟩ := List.mem_map.1 hb
      exact SparseCore.Cfg.mem_ownRefs_of_owner (ho r hr))
  refine ⟨R, hR.trans ?_⟩
  clear hR hn ho
  induction l with
  | nil => rfl
  | cons r l ih =>
    show iprop((∃ f, (V dv c j).loc r ↦{fullShare} f) ∗ along _ R _) = iprop(any (V dv c j) (Memref.whole r) ∗ along _ R _)
    rw [ih]
    unfold any
    simp only [own_whole]

theorem sems_take (l : List (SemLoc sig)) (hn : l.Nodup) (hs : ∀ s ∈ l, s.isScoped .scVector = true) :
    ∃ R : sProp (MM F), ownSems0 (V dv c j) = along (fun s => semVal (V dv c j, s) 0) R l := by
  classical
  obtain ⟨R, hR⟩ := along_take (F := F) (fun g => semVal g 0) (l.map fun s => ((V dv c j, s) : GSem nD τ sig))
    (SparseCore.Cfg.ownCells (V dv c j)) (hn.map fun a b h => (Prod.ext_iff.1 h).2) (by
      intro b hb
      obtain ⟨s, hs', rfl⟩ := List.mem_map.1 hb
      exact mem_ownCells.2 ⟨rfl, hs s hs'⟩)
  refine ⟨R, hR.trans ?_⟩
  clear hR hn hs
  induction l with
  | nil => rfl
  | cons r l ih => exact congrArg (fun X => iprop(semVal (V dv c j, r) 0 ∗ X)) ih

/-- The synapse call's scratch, and its semaphores. -/
def synRefs : List (Ref sig .scVector) :=
  [cc0_scratch0, cc0_scratch1, cc0_scratch2, cc0_scratch3, cc0_scratch4, cc0_scratch6, cc0_scratch8, cc0_scratch10, cc0_scratch5, cc0_scratch7, cc0_scratch9, cc0_scratch11]
def synSems : List (SemLoc sig) := [.dma cc0_scratch12.sem, .dma cc0_scratch13.sem, .dma cc0_scratch14.sem, .dma cc0_scratch15.sem, .dma cc0_scoped0.sem]

/-- The membrane call's scratch, and its semaphores. -/
def memRefs : List (Ref sig .scVector) :=
  [cc1_scratch0, cc1_scratch1, cc1_scratch2, cc1_scratch3, cc1_scratch4, cc1_scratch5, cc1_scratch6, cc1_scratch7]
def memSems : List (SemLoc sig) :=
  [.dma cc1_scratch8.sem, .dma cc1_scratch15.sem, .dma cc1_scratch16.sem, .dma cc1_scratch17.sem, .dma cc1_scratch18.sem, .dma cc1_scratch19.sem, .dma cc1_scratch20.sem,
    .dma cc1_scratch9.sem, .dma cc1_scratch10.sem, .dma cc1_scratch11.sem, .dma cc1_scratch12.sem, .dma cc1_scratch13.sem, .dma cc1_scratch14.sem, .dma cc1_scoped0.sem, .dma cc1_scoped1.sem]

theorem syn_bufs : ∃ R : sProp (MM F), ownBufs (V dv c j) = along (fun r => any (V dv c j) (Memref.whole r)) R synRefs :=
  bufs_take dv c j synRefs (by decide) (by unfold synRefs; simp only [List.forall_mem_cons]; exact ⟨rfl, rfl, rfl, rfl, rfl, rfl, rfl, rfl, rfl, rfl, rfl, rfl, fun _ h => nomatch h⟩)

theorem syn_sems : ∃ R : sProp (MM F), ownSems0 (V dv c j) = along (fun s => semVal (V dv c j, s) 0) R synSems :=
  sems_take dv c j synSems (by decide) (by decide)

theorem mem_bufs : ∃ R : sProp (MM F), ownBufs (V dv c j) = along (fun r => any (V dv c j) (Memref.whole r)) R memRefs :=
  bufs_take dv c j memRefs (by decide) (by unfold memRefs; simp only [List.forall_mem_cons]; exact ⟨rfl, rfl, rfl, rfl, rfl, rfl, rfl, rfl, fun _ h => nomatch h⟩)

theorem mem_sems : ∃ R : sProp (MM F), ownSems0 (V dv c j) = along (fun s => semVal (V dv c j, s) 0) R memSems :=
  sems_take dv c j memSems (by decide) (by decide)

/-- Coordinates of a tile in the first call's grid, and in the second's. -/
def co0 (c : Fin (grid0.bound 0)) (s : Fin (grid0.bound 1)) : grid0.Coords :=
  fun | 0 => c | 1 => s | ⟨_ + 2, h⟩ => absurd h (Nat.not_lt.2 (Nat.le_add_left _ _))
def co1 (c : Fin (grid1.bound 0)) (s : Fin (grid1.bound 1)) : grid1.Coords :=
  fun | 0 => c | 1 => s | ⟨_ + 2, h⟩ => absurd h (Nat.not_lt.2 (Nat.le_add_left _ _))

variable [FloatOps F]

/-- What the synapse task at a tile is handed, and what it gives back. -/
def goSyn (dv : Dev nD) (i : grid0.Coords) (q : PosShare TreeShare) (d : Data F) : sProp (MM F) :=
  iprop(synIn (dv := dv) i (Memref.whole main_v1_scv) (Memref.whole main_v3_scv) (Memref.whole main_arg3_scv) (Memref.whole main_arg2_scv) (Memref.whole main_v5_scv) (Memref.whole main_v4_scv) q d
    ∗ any (tileThr dv i) (synRow i (Memref.whole main_v6_scv)))
def tdSyn (dv : Dev nD) (i : grid0.Coords) (q : PosShare TreeShare) (d : Data F) : sProp (MM F) :=
  iprop(synIn (dv := dv) i (Memref.whole main_v1_scv) (Memref.whole main_v3_scv) (Memref.whole main_arg3_scv) (Memref.whole main_arg2_scv) (Memref.whole main_v5_scv) (Memref.whole main_v4_scv) q d
    ∗ own (tileThr dv i) (synRow i (Memref.whole main_v6_scv)) fullShare (at1 50176 (d.accum (tileLo i) 50000)))

/-- What the membrane task at a tile is handed, and what it gives back. -/
def goMem (dv : Dev nD) (i : grid1.Coords) (q : PosShare TreeShare) (d : Cells F) : sProp (MM F) :=
  iprop(memIn (dv := dv) i (Memref.whole main_v6_scv) (Memref.whole main_v7_scv) (Memref.whole main_v5_scv) (Memref.whole main_arg6_scv) (Memref.whole main_arg7_scv) (Memref.whole main_arg8_scv) (Memref.whole main_arg9_scv) q d
    ∗ any (V dv (mC i) (mJ i)) (memRow i (Memref.whole main_v8_scv)))
def tdMem (dv : Dev nD) (i : grid1.Coords) (q : PosShare TreeShare) (d : Cells F) : sProp (MM F) :=
  iprop(memIn (dv := dv) i (Memref.whole main_v6_scv) (Memref.whole main_v7_scv) (Memref.whole main_v5_scv) (Memref.whole main_arg6_scv) (Memref.whole main_arg7_scv) (Memref.whole main_arg8_scv) (Memref.whole main_arg9_scv) q d
    ∗ memOut (dv := dv) i (Memref.whole main_v8_scv) d)

theorem duty_of {thr : Thread nD τ} {O : CellTallies nD τ sig (HIx 2)} {W : Waits sig (HIx 2)} (hO : ∀ g, O g none = 0) :
    iprop(levAts (K (F := F)).L (K (F := F)).lev ∗ owes thr O W) ⊢ duty (F := F) thr O W := by
  unfold duty
  iintro ⟨Hlv, HO⟩
  isplitl [Hlv]
  · iapply ((K (F := F)).mayWaits_none (thr := thr) hO) $$ Hlv
  · iexists W; isplitr
    · ipureintro; exact fun p hp => .inl hp
    · iexact HO

/-- The four copies of a chunk credit the semaphore equally. -/
theorem even0 : Chunk.Even ⟨(Memref.whole cc0_scratch4), (Memref.whole cc0_scratch6), (Memref.whole cc0_scratch8), (Memref.whole cc0_scratch10)⟩ ((Memref.whole cc0_scratch4).view.dmaCredit) :=
  ⟨View.dmaCredit_pos _ (by decide), rfl, rfl, rfl, rfl⟩
theorem even1 : Chunk.Even ⟨(Memref.whole cc0_scratch5), (Memref.whole cc0_scratch7), (Memref.whole cc0_scratch9), (Memref.whole cc0_scratch11)⟩ ((Memref.whole cc0_scratch4).view.dmaCredit) :=
  ⟨View.dmaCredit_pos _ (by decide), rfl, rfl, rfl, rfl⟩

/-- A body's rule, beside what the body leaves alone. -/
theorem wp_beside {thr : Thread nD τ} {p : Prog (TpuEff nD τ sig (Elt F) Λ₀ thr.2) PUnit} {P A B R Q : sProp (MM F)} (hb : A ⊢ WP (F := F) thr p fun _ => B) (hin : P ⊢ iprop(A ∗ R))
    (hout : iprop(B ∗ R) ⊢ Q) : P ⊢ WP (F := F) thr p fun _ => Q := by
  refine hin.trans ?_
  iintro ⟨HA, HR⟩
  ihave H := hb $$ HA
  iapply (wp_mono frame _ _ (fun _ => hout))
  iapply (wp_frame_r frame _ _)
  isplitl [H] <;> iassumption

/-- The synapse task at a tile. -/
theorem syn_tile (i : grid0.Coords) (q : PosShare TreeShare) (d : Data F) (hd : d.InRange)
    (O : CellTallies nD τ sig (HIx 2)) (W : Waits sig (HIx 2)) (hO : ∀ g, O g none = 0) :
    iprop(levAts (K (F := F)).L (K (F := F)).lev ∗ emp ∗ goSyn dv i q d ∗ scopedBufs (tileThr dv i) ∗ scopedSems0 (tileThr dv i) ∗ owes (tileThr dv i) O W)
      ⊢ wp frame (wpE (defs₀ (F := F)) 𝒱₀ (tileThr dv i) none) Set.univ (cc0__sc_synapse_kernel (F := F) i (Memref.whole main_v1_scv) (Memref.isWhole_whole _) (Memref.whole main_v3_scv) (Memref.isWhole_whole _) (Memref.whole main_arg3_scv) (Memref.isWhole_whole _)
        (Memref.whole main_arg2_scv) (Memref.isWhole_whole _) (Memref.whole main_v5_scv) (Memref.isWhole_whole _) (Memref.whole main_v4_scv) (Memref.isWhole_whole _)
        (Memref.whole main_v6_scv) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) (Memref.whole cc0_scratch6) (Memref.isWhole_whole _) (Memref.whole cc0_scratch7) (Memref.isWhole_whole _)
        (Memref.whole cc0_scratch8) (Memref.isWhole_whole _) (Memref.whole cc0_scratch9) (Memref.isWhole_whole _) (Memref.whole cc0_scratch10) (Memref.isWhole_whole _)
        (Memref.whole cc0_scratch11) (Memref.isWhole_whole _) cc0_scratch12 cc0_scratch13 cc0_scratch14 cc0_scratch15 cc0_scoped0)
        fun _ => iprop(tdSyn dv i q d ∗ scopedBufs (tileThr dv i) ∗ scopedSems0 (tileThr dv i) ∗ ∃ W', ⌜∀ p ∈ W', p ∈ W ∨ p.2 = none⌝ ∗ owes (tileThr dv i) O W') := by
  obtain ⟨Rb, hRb⟩ := syn_bufs (F := F) dv (tileC i) (tileJ i)
  obtain ⟨Rs, hRs⟩ := syn_sems (F := F) dv (tileC i) (tileJ i)
  rw [(K (F := F)).scopedBufs_V facts dv (tileC i) (tileJ i), SparseCore.Cfg.scopedSems0_V (Val := Elt F) dv (tileC i) (tileJ i), hRb, hRs]
  refine wp_beside (R := iprop(Rb ∗ Rs)) (syn_body (F := F) (dv := dv) i (Memref.whole main_v1_scv) (Memref.isWhole_whole _) (Memref.whole main_v3_scv) (Memref.isWhole_whole _) (Memref.whole main_arg3_scv) (Memref.isWhole_whole _)
      (Memref.whole main_arg2_scv) (Memref.isWhole_whole _) (Memref.whole main_v5_scv) (Memref.isWhole_whole _) (Memref.whole main_v4_scv) (Memref.isWhole_whole _)
      (Memref.whole main_v6_scv) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) (Memref.whole cc0_scratch10) (Memref.isWhole_whole _)
      (Memref.whole cc0_scratch11) (Memref.isWhole_whole _) cc0_scratch12 cc0_scratch13 cc0_scratch14 cc0_scratch15 cc0_scoped0 (O := O) (W := W) (q := q) hd even0 even1) ?_ ?_
  · unfold synWork chunkAny goSyn synRefs synSems
    simp only [along]
    iintro ⟨Hlv, -, ⟨Hin, Hrow⟩, ⟨H9, H10, H11, H12, H13, H15, H17, H19, H14, H16, H18, H20, HRb⟩, ⟨V21, V22, V23, V24, Vr, HRs⟩, HO⟩
    ihave HO := (duty_of (F := F) hO) $$ [Hlv HO]
    · isplitl [Hlv] <;> iassumption
    iframe
  · unfold synWork chunkAny tdSyn synRefs synSems duty
    simp only [along]
    iintro ⟨⟨Hin, Hrow, ⟨⟨H9, H10, H11, H12⟩, ⟨⟨H13, H15, H17, H19⟩, H14, H16, H18, H20⟩, V21, V22, V23, V24, Vr⟩, -, HO⟩, HRb, HRs⟩
    iframe

/-- The membrane task at a tile. -/
theorem mem_tile (i : grid1.Coords) (q : PosShare TreeShare) (d : Cells F)
    (O : CellTallies nD τ sig (HIx 2)) (W : Waits sig (HIx 2)) (hO : ∀ g, O g none = 0) :
    iprop(levAts (K (F := F)).L (K (F := F)).lev ∗ emp ∗ goMem dv i q d ∗ scopedBufs (V dv (mC i) (mJ i)) ∗ scopedSems0 (V dv (mC i) (mJ i)) ∗ owes (V dv (mC i) (mJ i)) O W)
      ⊢ wp frame (wpE (defs₀ (F := F)) 𝒱₀ (V dv (mC i) (mJ i)) none) Set.univ (cc1__sc_membrane_kernel (F := F) i (Memref.whole main_v6_scv) (Memref.isWhole_whole _) (Memref.whole main_v7_scv) (Memref.isWhole_whole _) (Memref.whole main_v5_scv) (Memref.isWhole_whole _) (Memref.whole
        main_arg6_scv) (Memref.isWhole_whole _) (Memref.whole main_arg7_scv) (Memref.isWhole_whole _) (Memref.whole main_arg8_scv) (Memref.isWhole_whole _) (Memref.whole
        main_arg9_scv) (Memref.isWhole_whole _) (Memref.whole main_v8_scv) (Memref.isWhole_whole _) (Memref.whole cc1_scratch0) (Memref.isWhole_whole _) (Memref.whole
        cc1_scratch1) (Memref.isWhole_whole _) (Memref.whole cc1_scratch2) (Memref.isWhole_whole _) (Memref.whole cc1_scratch3) (Memref.isWhole_whole _) (Memref.whole
        cc1_scratch4) (Memref.isWhole_whole _) (Memref.whole cc1_scratch5) (Memref.isWhole_whole _) (Memref.whole cc1_scratch6) (Memref.isWhole_whole _) (Memref.whole
        cc1_scratch7) (Memref.isWhole_whole _) cc1_scratch8 cc1_scratch9 cc1_scratch10 cc1_scratch11 cc1_scratch12 cc1_scratch13 cc1_scratch14 cc1_scratch15 cc1_scratch16
        cc1_scratch17 cc1_scratch18 cc1_scratch19 cc1_scratch20 cc1_scoped0 cc1_scoped1)
        fun _ => iprop(tdMem dv i q d ∗ scopedBufs (V dv (mC i) (mJ i)) ∗ scopedSems0 (V dv (mC i) (mJ i)) ∗ ∃ W', ⌜∀ p ∈ W', p ∈ W ∨ p.2 = none⌝ ∗ owes (V dv (mC i) (mJ i)) O W') := by
  obtain ⟨Rb, hRb⟩ := mem_bufs (F := F) dv (mC i) (mJ i)
  obtain ⟨Rs, hRs⟩ := mem_sems (F := F) dv (mC i) (mJ i)
  rw [(K (F := F)).scopedBufs_V facts dv (mC i) (mJ i), SparseCore.Cfg.scopedSems0_V (Val := Elt F) dv (mC i) (mJ i), hRb, hRs]
  refine wp_beside (R := iprop(Rb ∗ Rs)) (mem_body (F := F) (dv := dv) i (Memref.whole main_v6_scv) (Memref.isWhole_whole _) (Memref.whole main_v7_scv) (Memref.isWhole_whole _) (Memref.whole main_v5_scv) (Memref.isWhole_whole _) (Memref.whole
      main_arg6_scv) (Memref.isWhole_whole _) (Memref.whole main_arg7_scv) (Memref.isWhole_whole _) (Memref.whole main_arg8_scv) (Memref.isWhole_whole _) (Memref.whole
      main_arg9_scv) (Memref.isWhole_whole _) (Memref.whole main_v8_scv) (Memref.isWhole_whole _) (Memref.whole cc1_scratch0) (Memref.isWhole_whole _) (Memref.whole
      cc1_scratch1) (Memref.isWhole_whole _) (Memref.whole cc1_scratch2) (Memref.isWhole_whole _) (Memref.whole cc1_scratch3) (Memref.isWhole_whole _) (Memref.whole
      cc1_scratch4) (Memref.isWhole_whole _) (Memref.whole cc1_scratch5) (Memref.isWhole_whole _) (Memref.whole cc1_scratch6) (Memref.isWhole_whole _) (Memref.whole
      cc1_scratch7) (Memref.isWhole_whole _) cc1_scratch8 cc1_scratch9 cc1_scratch10 cc1_scratch11 cc1_scratch12 cc1_scratch13 cc1_scratch14 cc1_scratch15 cc1_scratch16
      cc1_scratch17 cc1_scratch18 cc1_scratch19 cc1_scratch20 cc1_scoped0 cc1_scoped1 (O := O) (W := W) q d) ?_ ?_
  · unfold memWork stretchAny rest6 goMem memRefs memSems
    simp only [along]
    iintro ⟨Hlv, -, ⟨Hin, Hrow⟩, ⟨H10, H11, H12, H13, H14, H15, H16, H17, HRb⟩, ⟨V18, L1, L2, L3, L4, L5, L6, N1, N2, N3, N4, N5, N6, Vr, Vs, HRs⟩, HO⟩
    ihave HO := (duty_of (F := F) hO) $$ [Hlv HO]
    · isplitl [Hlv] <;> iassumption
    iframe
  · unfold memWork stretchAny rest6 tdMem memRefs memSems duty
    simp only [along]
    iintro ⟨⟨Hin, Hrow, ⟨H10, ⟨H11, H12, H13, H14, H15, H16⟩, H17, V18, ⟨L1, L2, L3, L4, L5, L6⟩, ⟨N1, N2, N3, N4, N5, N6⟩, Vr, Vs⟩, -, HO⟩, HRb, HRs⟩
    iframe

end Cert.Proof

end
-- ==== Proof.Share.lean ====
/-
  How the host's arrays are dealt to the thirty-two tiles and gathered again: read shares of what every tile reads, one row each
  of what the tiles write.
-/
module

public import proofs.«01_k».proof.Proof.Tiles
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The number of a tile. -/
def tno (c : Fin 2) (i : Fin 16) : Fin (2 ^ 5) := ⟨16 * c.val + i.val, by have := c.isLt; have := i.isLt; omega⟩

/-- The share of a tile. -/
def qT (c : Fin 2) (i : Fin 16) : PosShare TreeShare := ShareLeaves.leaf 5 fullShare (tno c i)

/-- One resource per tile. -/
def tiles (Φ : Fin 2 → Fin 16 → sProp (MM F)) : sProp (MM F) := bigSep Finset.univ fun c : Fin 2 => bigSep Finset.univ fun i : Fin 16 => Φ c i

theorem tiles_eq (Φ : Fin (2 ^ 5) → sProp (MM F)) : bigSep Finset.univ Φ = tiles fun c i => Φ (tno c i) := by
  rw [bigSep_univ_equiv (finProdFinEquiv (m := 2) (n := 16) : Fin 2 × Fin 16 ≃ Fin (2 ^ 5)) Φ, bigSep_univ_prod]
  refine bigSep_congr fun c _ => bigSep_congr fun i _ => congrArg Φ (Fin.ext ?_)
  show i.val + 16 * c.val = 16 * c.val + i.val
  omega

theorem tiles_sep (Φ Ψ : Fin 2 → Fin 16 → sProp (MM F)) : (tiles fun c i => iprop(Φ c i ∗ Ψ c i)) = iprop(tiles Φ ∗ tiles Ψ) := by
  unfold tiles; simp only [bigSep_sep']

theorem tiles_mono {Φ Ψ : Fin 2 → Fin 16 → sProp (MM F)} (h : ∀ c i, Φ c i ⊢ Ψ c i) : tiles Φ ⊢ tiles Ψ := by
  unfold tiles
  exact bigSep_mono fun c _ => bigSep_mono fun i _ => h c i

/-- An array dealt out in read shares. -/
theorem pts_tiles {ℓ : Loc nD τ sig} (f : Buf (Elt F) ℓ) : (tiles fun c i => (ℓ ↦{qT c i} f : sProp (MM F))) = (ℓ ↦{fullShare} f) := by
  rw [ShareLeaves.pointsTo_leaves Finset.univ f 5 fullShare, tiles_eq]; rfl

/-- Where the host keeps an array. -/
abbrev hloc (d : Dev nD) (r : Ref sig .tc) : Loc nD τ sig := (SparseCore.T d).loc r

variable [FloatOps F] (d : Dev nD)

theorem synIn_pts (i : grid0.Coords) (q : PosShare TreeShare) (dat : Data F) :
    synIn (dv := d) i (Memref.whole main_v1_scv) (Memref.whole main_v3_scv) (Memref.whole main_arg3_scv) (Memref.whole main_arg2_scv) (Memref.whole main_v5_scv) (Memref.whole main_v4_scv) q dat
      = iprop(((hloc d main_v1 ↦{q} at1 1600000 dat.pre) ∗ (hloc d main_v3 ↦{q} at1 1600000 dat.post)
          ∗ (hloc d main_arg3 ↦{q} at1 1600000 dat.sid) ∗ (hloc d main_arg2 ↦{q} at1 1600000 dat.w))
        ∗ (hloc d main_v5 ↦{q} at1 50000 dat.spk) ∗ (hloc d main_v4 ↦{q} at1 2560 dat.basis)) := by
  unfold synIn srcOwn
  dsimp only
  erw [own_whole (thr := tileThr d i) main_v1_scv, own_whole (thr := tileThr d i) main_v3_scv, own_whole (thr := tileThr d i) main_arg3_scv, own_whole (thr := tileThr d i) main_arg2_scv,
    own_whole (thr := tileThr d i) main_v5_scv, own_whole (thr := tileThr d i) main_v4_scv]

theorem memIn_pts (i : grid1.Coords) (q : PosShare TreeShare) (dat : Cells F) :
    memIn (dv := d) i (Memref.whole main_v6_scv) (Memref.whole main_v7_scv) (Memref.whole main_v5_scv) (Memref.whole main_arg6_scv) (Memref.whole main_arg7_scv) (Memref.whole main_arg8_scv)
        (Memref.whole main_arg9_scv) q dat
      = iprop((hloc d main_v6 ↦{q} at1 1605632 dat.part) ∗ (hloc d main_v7 ↦{q} at1 50000 dat.v) ∗ (hloc d main_v5 ↦{q} at1 50000 dat.sp)
          ∗ (hloc d main_arg6 ↦{q} at1 50000 dat.dec) ∗ (hloc d main_arg7 ↦{q} at1 50000 dat.cf)
          ∗ (hloc d main_arg8 ↦{q} at1 50000 dat.vth) ∗ (hloc d main_arg9 ↦{q} at1 50000 dat.nrm)) := by
  unfold memIn neurOwn
  dsimp only
  erw [own_whole (thr := V d (mC i) (mJ i)) main_v6_scv, own_whole (thr := V d (mC i) (mJ i)) main_v7_scv, own_whole (thr := V d (mC i) (mJ i)) main_v5_scv, own_whole (thr := V d (mC i) (mJ i)) main_arg6_scv,
    own_whole (thr := V d (mC i) (mJ i)) main_arg7_scv, own_whole (thr := V d (mC i) (mJ i)) main_arg8_scv, own_whole (thr := V d (mC i) (mJ i)) main_arg9_scv]

/-- The thirty-two tiles' accumulators, one after the other. -/
def _root_.Cert.Proof.Data.parts (dat : Data F) : ℕ → F .f32 := fun y => dat.accum (50000 * (y / 50176)) 50000 (y % 50176)

theorem tile_fits {N n : ℕ} (h : 32 * n ≤ N) (t : Fin (2 ^ 5)) : ∀ a, (![n * t.val] : Fin 1 → ℕ) a + (⟨1, ![n]⟩ : Shape).size a ≤ (⟨1, ![N]⟩ : Shape).size a := by
  intro a
  match a with
  | 0 =>
    have ht : t.val < 32 := t.isLt
    show n * t.val + n ≤ N
    calc n * t.val + n = n * (t.val + 1) := by ring
      _ ≤ n * 32 := Nat.mul_le_mul_left n ht
      _ ≤ N := by omega

/-- Row `t` of an array of rows. -/
abbrev rowR {N n : ℕ} (h : 32 * n ≤ N) (t : Fin (2 ^ 5)) : Rect (⟨1, ![N]⟩ : Shape) := Rect.unit ![n * t.val] (⟨1, ![n]⟩ : Shape).size (tile_fits h t)

theorem rowR_val {N n : ℕ} (h : 32 * n ≤ N) (t : Fin (2 ^ 5)) (x : (rowR h t).shape.Idx) : ((rowR h t).emb x 0).val = n * t.val + (x 0).val := by
  show n * t.val + 1 * (x 0).val = _; omega

theorem rowR_ne {N n : ℕ} (h : 32 * n ≤ N) (t t' : Fin (2 ^ 5)) (ht : t ≠ t') (x : (rowR h t).shape.Idx) (y : (rowR h t').shape.Idx) : (rowR h t).emb x ≠ (rowR h t').emb y := by
  intro e
  have e' : ((rowR h t).emb x 0).val = ((rowR h t').emb y 0).val := by rw [e]
  rw [rowR_val, rowR_val] at e'
  have hx : (x 0).val < n := (x 0).isLt
  have hy : (y 0).val < n := (y 0).isLt
  refine ht (Fin.ext ?_)
  have h1 : (n * t.val + (x 0).val) / n = t.val := by rw [Nat.mul_add_div (by omega), Nat.div_eq_of_lt hx]; rfl
  have h2 : (n * t'.val + (y 0).val) / n = t'.val := by rw [Nat.mul_add_div (by omega), Nat.div_eq_of_lt hy]; rfl
  rw [← h1, ← h2, e']

theorem rowR_cover {N n : ℕ} (h : 32 * n = N) (y : (⟨1, ![N]⟩ : Shape).Idx) : ∃ (t : Fin (2 ^ 5)) (x : (rowR (N := N) (n := n) (le_of_eq h) t).shape.Idx), (rowR (N := N) (n := n) (le_of_eq h) t).emb x = y := by
  have hy : (y 0).val < 32 * n := h ▸ (y 0).isLt
  have hn : 0 < n := by omega
  refine ⟨⟨(y 0).val / n, (Nat.div_lt_iff_lt_mul hn).2 hy⟩, fun | ⟨0, _⟩ => (⟨(y 0).val % n, Nat.mod_lt _ hn⟩ : Fin n), ?_⟩
  funext a
  match a with
  | 0 =>
    refine Fin.ext ?_
    show n * ((y 0).val / n) + 1 * ((y 0).val % n) = (y 0).val
    rw [one_mul]; exact Nat.div_add_mod _ _

theorem row6 {c c' : Fin τ.nSC} {j j' : Fin τ.nSub} {off off' : Fin 1 → ℕ} (ho : off = off') {inb : ∀ a, off a + S50176.size a ≤ S1605632.size a} {inb' : ∀ a, off' a + S50176.size a ≤ S1605632.size a}
    (g : S50176.Idx → F .f32) :
    own (F := F) (e := .f32) (V d c j) ((Memref.whole main_v6_scv).slice (Rect.unit (s := S1605632) off S50176.size inb) (fun _ => rfl)) fullShare g
      = own (F := F) (e := .f32) (V d c' j') ((Memref.whole main_v6_scv).slice (Rect.unit (s := S1605632) off' S50176.size inb') (fun _ => rfl)) fullShare g := by
  subst ho; rfl

theorem row8 {c c' : Fin τ.nSC} {j j' : Fin τ.nSub} {off off' : Fin 1 → ℕ} (ho : off = off') {inb : ∀ a, off a + S1568.size a ≤ S50176.size a} {inb' : ∀ a, off' a + S1568.size a ≤ S50176.size a}
    (g : S1568.Idx → F .f32) :
    own (F := F) (e := .f32) (V d c j) ((Memref.whole main_v8_scv).slice (Rect.unit (s := S50176) off S1568.size inb) (fun _ => rfl)) fullShare g
      = own (F := F) (e := .f32) (V d c' j') ((Memref.whole main_v8_scv).slice (Rect.unit (s := S50176) off' S1568.size inb') (fun _ => rfl)) fullShare g := by
  subst ho; rfl

theorem off6 (c : Fin 2) (i : Fin 16) : (![50176 * (tno c i).val] : Fin 1 → ℕ) = k0_off20 (co0 c i) := by
  rw [k0_off20_eq]
  refine congrArg (fun n : ℕ => (![n] : Fin 1 → ℕ)) ?_
  show 50176 * (16 * c.val + i.val) = 802816 * c.val + 50176 * i.val
  omega

theorem off8 (c : Fin 2) (i : Fin 16) : (![1568 * (tno c i).val] : Fin 1 → ℕ) = ![memLo (co1 c i)] := by
  refine congrArg (fun n : ℕ => (![n] : Fin 1 → ℕ)) ?_
  rw [memLo_eq]; rfl

/-- The output of the synapse call, in rows and together again. -/
theorem syn_rows (dat : Data F) (g : S1605632.Idx → F .f32) :
    (hloc d main_v6 ↦{fullShare} g : sProp (MM F))
      ⊢ iprop((tiles fun c i => any (tileThr d (co0 c i)) (synRow (co0 c i) (Memref.whole main_v6_scv)))
        ∗ ((tiles fun c i => own (tileThr d (co0 c i)) (synRow (co0 c i) (Memref.whole main_v6_scv)) fullShare (at1 50176 (dat.accum (tileLo (co0 c i)) 50000)))
          -∗ (hloc d main_v6 ↦{fullShare} (at1 1605632 dat.parts : S1605632.Idx → F .f32)))) := by
  have H := own_split (F := F) (thr := V d 0 0) (e := .f32) (Memref.whole main_v6_scv) fullShare g (at1 1605632 dat.parts) (fun t => rowR (N := 1605632) (n := 50176) (by decide) t) (fun _ _ => rfl)
    (rowR_ne (N := 1605632) (n := 50176) (by decide)) (fun t => at1 50176 (dat.accum (50000 * t.val) 50000)) (fun t x => by
      have hx : (x 0).val < 50176 := (x 0).isLt
      show dat.parts _ = dat.accum _ _ _
      rw [rowR_val]
      unfold Data.parts
      rw [Nat.mul_add_div (by decide), Nat.div_eq_of_lt hx, Nat.mul_add_mod, Nat.mod_eq_of_lt hx]; rfl) (fun y hy => by
      obtain ⟨t, x, e⟩ := rowR_cover (N := 1605632) (n := 50176) rfl y
      exact absurd e (hy t x))
  rw [tiles_eq, tiles_eq] at H
  erw [own_whole (thr := V d 0 0) main_v6_scv, own_whole (thr := V d 0 0) main_v6_scv] at H
  iintro Hg
  ihave H' := (show (hloc d main_v6 ↦{fullShare} g : sProp (MM F)) ⊢ _ from H) $$ Hg
  icases H' with ⟨Ha, Hk⟩
  isplitl [Ha]
  · iapply (tiles_mono (F := F) fun c i => ?_) $$ Ha
    unfold any
    iintro H
    iexists _
    iapply (Entails.of_eq (row6 (F := F) d (off6 c i) _)) $$ H
  · iintro Ha
    iapply Hk
    iapply (tiles_mono (F := F) fun c i => ?_) $$ Ha
    refine Entails.of_eq ?_
    rw [show tileLo (co0 c i) = 50000 * (tno c i).val by unfold tileLo; show 800000 * c.val + 50000 * i.val = 50000 * (16 * c.val + i.val); omega]
    exact (row6 (F := F) d (off6 c i) _).symm

/-- How many neurons tile `t` has. -/
def cnt (t : Fin (2 ^ 5)) : ℕ := if t.val = 31 then 1392 else 1568

/-- What tile `t` leaves of the membrane call's output, by its number. -/
def outT (dat : Cells F) (t : Fin (2 ^ 5)) (g : S1568.Idx → F .f32) : sProp (MM F) :=
  own (F := F) (e := .f32) (V d 0 0) ((Memref.whole main_v8_scv).slice (rowR (N := 50176) (n := 1568) (by decide) t) (fun _ => rfl)) fullShare
    (filled (fun m => dat.next (1568 * t.val + m)) (cnt t) g)

theorem memOut_outT (dat : Cells F) (c : Fin 2) (i : Fin 16) :
    memOut (dv := d) (co1 c i) (Memref.whole main_v8_scv) dat ⊢ iprop(∃ g, outT d dat (tno c i) g) := by
  unfold memOut outT
  iintro ⟨%g, H⟩
  iexists g
  have e1 : memN (co1 c i) = cnt (tno c i) := by
    unfold memN cnt lastTile
    rfl
  have e2 : memLo (co1 c i) = 1568 * (tno c i).val := by rw [memLo_eq]; rfl
  ihave H' := (Entails.of_eq (row8 (F := F) d (off8 c i) (inb := tile_fits (N := 50176) (n := 1568) (by decide) (tno c i)) (c := 0) (j := 0) _).symm) $$ H
  rw [e1]
  iapply (Entails.of_eq (show own (F := F) (e := .f32) (V d 0 0) ((Memref.whole main_v8_scv).slice (rowR (N := 50176) (n := 1568) (by decide) (tno c i)) (fun _ => rfl)) fullShare
      (filled (fun m => dat.next (memLo (co1 c i) + m)) (cnt (tno c i)) g) = _ from by rw [e2])) $$ H'

/-- The output of the membrane call, in rows and together again: the neurons' new values, whatever follows the last neuron. -/
theorem mem_rows (dat : Cells F) (g : S50176.Idx → F .f32) :
    (hloc d main_v8 ↦{fullShare} g : sProp (MM F))
      ⊢ iprop((tiles fun c i => any (V d (mC (co1 c i)) (mJ (co1 c i))) (memRow (co1 c i) (Memref.whole main_v8_scv)))
        ∗ ((tiles fun c i => memOut (dv := d) (co1 c i) (Memref.whole main_v8_scv) dat)
          -∗ ∃ g' : S50176.Idx → F .f32, ⌜∀ y, (y 0).val < 50000 → g' y = dat.next (y 0).val⌝ ∗ (hloc d main_v8 ↦{fullShare} g'))) := by
  have H := own_split_any (F := F) (thr := V d 0 0) (e := .f32) (Memref.whole main_v8_scv) fullShare g (fun t => rowR (N := 50176) (n := 1568) (by decide) t) (fun _ _ => rfl)
    (rowR_ne (N := 50176) (n := 1568) (by decide))
  rw [tiles_eq] at H
  erw [own_whole (thr := V d 0 0) main_v8_scv] at H
  iintro Hg
  ihave H' := (show (hloc d main_v8 ↦{fullShare} g : sProp (MM F)) ⊢ _ from H) $$ Hg
  icases H' with ⟨Ha, Hk⟩
  isplitl [Ha]
  · iapply (tiles_mono (F := F) fun c i => ?_) $$ Ha
    unfold any
    iintro H
    iexists _
    iapply (Entails.of_eq (row8 (F := F) d (off8 c i) _)) $$ H
  · iintro Ha
    ihave Ha := (tiles_mono (F := F) (memOut_outT d dat)) $$ Ha
    ihave Ha := (Entails.of_eq (tiles_eq (F := F) (fun t => iprop(∃ g, outT d dat t g))).symm) $$ Ha
    haveI : Nonempty (S1568.Idx → F .f32) := ⟨fun _ => (Scalar.ofBits .f32 0#32 : F .f32)⟩
    ihave Ha := (bigSep_exists_pi (Y := fun _ : Fin (2 ^ 5) => S1568.Idx → F .f32) Finset.univ (fun t g => outT d dat t g)) $$ Ha
    icases Ha with ⟨%gs, Ha⟩
    have hr : ∀ y : S50176.Idx, ∃ (t : Fin (2 ^ 5)) (x : (rowR (N := 50176) (n := 1568) (by decide) t).shape.Idx), (rowR (N := 50176) (n := 1568) (by decide) t).emb x = y := rowR_cover (N := 50176) (n := 1568) rfl
    choose ty xy hxy using hr
    obtain ⟨g', hg'⟩ : ∃ g' : S50176.Idx → F .f32, ∀ t (x : (rowR (N := 50176) (n := 1568) (by decide) t).shape.Idx),
        g' ((rowR (N := 50176) (n := 1568) (by decide) t).emb x) = filled (fun m => dat.next (1568 * t.val + m)) (cnt t) (gs t) x := by
      refine ⟨fun y => filled (fun m => dat.next (1568 * (ty y).val + m)) (cnt (ty y)) (gs (ty y)) (xy y), fun t x => ?_⟩
      have hmain : ∀ (t' : Fin (2 ^ 5)) (x' : (rowR (N := 50176) (n := 1568) (by decide) t').shape.Idx),
          (rowR (N := 50176) (n := 1568) (by decide) t').emb x' = (rowR (N := 50176) (n := 1568) (by decide) t).emb x →
          filled (fun m => dat.next (1568 * t'.val + m)) (cnt t') (gs t') x' = filled (fun m => dat.next (1568 * t.val + m)) (cnt t) (gs t) x := by
        intro t' x' hx
        have ht : t' = t := by
          by_contra hne
          exact rowR_ne (N := 50176) (n := 1568) (by decide) _ _ hne _ _ hx
        subst ht
        rw [(rowR (N := 50176) (n := 1568) (by decide) t').emb.injective hx]
      exact hmain _ _ (hxy _)
    iexists g'
    isplitr
    · ipureintro
      intro y hy
      have e := hg' (ty y) (xy y)
      rw [hxy y] at e
      have hv : (y 0).val = 1568 * (ty y).val + (xy y 0).val := by
        have := rowR_val (N := 50176) (n := 1568) (by decide) (ty y) (xy y)
        rw [hxy y] at this; exact this
      have ht : (ty y).val < 32 := (ty y).isLt
      have hx : (xy y 0).val < 1568 := (xy y 0).isLt
      have hc : (xy y 0).val < cnt (ty y) := by unfold cnt; split <;> omega
      rw [e, hv]
      exact if_pos hc
    · iapply (show own (F := F) (e := .f32) (V d 0 0) (Memref.whole main_v8_scv) fullShare g' ⊢ (hloc d main_v8 ↦{fullShare} g' : sProp (MM F)) from
        Entails.of_eq (own_whole (thr := V d 0 0) main_v8_scv fullShare g'))
      iapply Hk $$ %(fun t => filled (fun m => dat.next (1568 * t.val + m)) (cnt t) (gs t)) %g' [] [Ha]
      · ipureintro
        exact ⟨hg', fun y hy => absurd (hxy y) (hy _ _)⟩
      · iexact Ha

end Cert.Proof

end
-- ==== Proof.Host.lean ====
/-
  The host program's arrays: what each holds at the two calls and at the end, as functions of the launch memory.
-/
module

public import proofs.«01_k».proof.Proof.Share
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type}

/-- An array of rank one by place, `a` after its end. -/
def list1 {α : Type} {N : ℕ} (g : (⟨1, ![N]⟩ : Shape).Idx → α) (a : α) : ℕ → α := fun n => if h : n < N then g (fun | 0 => ⟨n, h⟩) else a

theorem at1_list1 {α : Type} {N : ℕ} (g : (⟨1, ![N]⟩ : Shape).Idx → α) (a : α) : at1 N (list1 g a) = g := by
  funext x
  have hx : (x 0).val < N := (x 0).isLt
  refine (dif_pos hx).trans (congrArg g (funext fun | 0 => rfl))

abbrev dr (r : Ref sig .tc) : DevRef τ sig := Proc.devRef .tc r

abbrev op0 : HloOp τ sig (Elt F) := StableHlo.unary main_arg4 main_v0 ((extractStridedSlice S1600000x1 ![0, 1] · slices_S1600000x2_S1600000x1_0_1) : (⟨S1600000x2, .i32⟩ : BufTy).Contents (Elt F) → (⟨S1600000x1, .i32⟩ : BufTy).Contents (Elt F))
abbrev op1 : HloOp τ sig (Elt F) := StableHlo.reshape main_v0 main_v1 (rfl : (.i32 : EltTy) = .i32) shapeCasts_S1600000x1_S1600000
abbrev op2 : HloOp τ sig (Elt F) := StableHlo.unary main_arg4 main_v2 ((extractStridedSlice S1600000x1 ![0, 0] · slices_S1600000x2_S1600000x1_0_0) : (⟨S1600000x2, .i32⟩ : BufTy).Contents (Elt F) → (⟨S1600000x1, .i32⟩ : BufTy).Contents (Elt F))
abbrev op3 : HloOp τ sig (Elt F) := StableHlo.reshape main_v2 main_v3 (rfl : (.i32 : EltTy) = .i32) shapeCasts_S1600000x1_S1600000
abbrev op4 : HloOp τ sig (Elt F) := StableHlo.reshape main_arg5 main_v4 (rfl : (.f32 : EltTy) = .f32) shapeCasts_S512x5_S2560
abbrev op5 : HloOp τ sig (Elt F) := StableHlo.reshape main_arg0 main_v5 (rfl : (.f32 : EltTy) = .f32) shapeCasts_S1x50000_S50000
abbrev op7 : HloOp τ sig (Elt F) := StableHlo.reshape main_arg1 main_v7 (rfl : (.f32 : EltTy) = .f32) shapeCasts_S1x50000_S50000
abbrev op9 : HloOp τ sig (Elt F) := StableHlo.unary main_v8 main_v9 ((extractStridedSlice S50000 ![0] · slices_S50176_S50000_0) : (⟨S50176, .f32⟩ : BufTy).Contents (Elt F) → (⟨S50000, .f32⟩ : BufTy).Contents (Elt F))
abbrev op10 : HloOp τ sig (Elt F) := StableHlo.reshape main_v9 main_v10 (rfl : (.f32 : EltTy) = .f32) shapeCasts_S50000_S1x50000

/-- The host's arrays. -/
def hostRefs : Finset (Ref sig .tc) :=
  {main_arg0, main_arg1, main_arg2, main_arg3, main_arg4, main_arg5, main_arg6, main_arg7, main_arg8, main_arg9,
    main_v0, main_v1, main_v2, main_v3, main_v4, main_v5, main_v6, main_v7, main_v8, main_v9, main_v10}

abbrev drE : Ref sig .tc ↪ DevRef τ sig := ⟨dr, Proc.devRef_injective (τ := τ) (sig := sig) .tc⟩

def hostS : Finset (DevRef τ sig) := hostRefs.map drE

theorem unscoped_host (m : (ℓ : Loc nD τ sig) → Buf (Elt F) ℓ) (d : Dev nD) :
    (unscopedBufs d (fun b => m ((SparseCore.T d).loc b)) : sProp (MM F)) = held (SparseCore.T d) hostS (fun b => m (d, b)) := by
  unfold unscopedBufs held hostS
  rw [show (Finset.univ.filter fun b : Ref sig .tc => ¬ b.isScoped) = hostRefs by decide, bigSep_map]
  rfl

variable [FloatOps F]

/-- The first call's arrays, out of a valuation. -/
def datOf (W : Valuation τ sig (Elt F)) : Data F where
  pre := list1 (N := 1600000) (W (dr main_v1)) 0#32
  post := list1 (N := 1600000) (W (dr main_v3)) 0#32
  sid := list1 (N := 1600000) (W (dr main_arg3)) 0#32
  w := list1 (N := 1600000) (W (dr main_arg2)) (Scalar.ofBits .f32 0#32 : F .f32)
  spk := list1 (N := 50000) (W (dr main_v5)) (Scalar.ofBits .f32 0#32 : F .f32)
  basis := list1 (N := 2560) (W (dr main_v4)) (Scalar.ofBits .f32 0#32 : F .f32)

/-- The second call's arrays. -/
def celOf (W : Valuation τ sig (Elt F)) (part : ℕ → F .f32) : Cells F where
  v := list1 (N := 50000) (W (dr main_v7)) (Scalar.ofBits .f32 0#32 : F .f32)
  sp := list1 (N := 50000) (W (dr main_v5)) (Scalar.ofBits .f32 0#32 : F .f32)
  dec := list1 (N := 50000) (W (dr main_arg6)) (Scalar.ofBits .f32 0#32 : F .f32)
  cf := list1 (N := 50000) (W (dr main_arg7)) (Scalar.ofBits .f32 0#32 : F .f32)
  vth := list1 (N := 50000) (W (dr main_arg8)) (Scalar.ofBits .f32 0#32 : F .f32)
  nrm := list1 (N := 50000) (W (dr main_arg9)) (Scalar.ofBits .f32 0#32 : F .f32)
  part := part

variable (m : (ℓ : Loc nD τ sig) → Buf (Elt F) ℓ) (d : Dev nD)

def W0 : Valuation τ sig (Elt F) := fun b => m (d, b)
/-- Before the synapse call. -/
def W1 : Valuation τ sig (Elt F) := op5.result (op4.result (op3.result (op2.result (op1.result (op0.result (W0 m d))))))
def dat : Data F := datOf (W1 m d)
/-- After it. -/
def W2 : Valuation τ sig (Elt F) := Function.update (W1 m d) (dr main_v6) (at1 1605632 (dat m d).parts)
/-- Before the membrane call. -/
def W3 : Valuation τ sig (Elt F) := op7.result (W2 m d)
def cel : Cells F := celOf (W3 m d) (dat m d).parts
/-- After it. -/
def W4 (g : S50176.Idx → F .f32) : Valuation τ sig (Elt F) := Function.update (W3 m d) (dr main_v8) g
/-- At the end. -/
def W5 (g : S50176.Idx → F .f32) : Valuation τ sig (Elt F) := op10.result (op9.result (W4 m d g))

theorem W2_of_ne {r : Ref sig .tc} (h : r ≠ main_v6) : W2 m d (dr r) = W1 m d (dr r) := Function.update_of_ne (fun e => h (Proc.devRef_injective _ e)) _ _
theorem W2_v6 : W2 m d (dr main_v6) = at1 1605632 (dat m d).parts := Function.update_self _ _ _
theorem W3_of_ne {r : Ref sig .tc} (h : r ≠ main_v7) : W3 m d (dr r) = W2 m d (dr r) := StableHlo.reshape_result_ne _ _ _ _ _ _ _ h
theorem W4_of_ne (g : S50176.Idx → F .f32) {r : Ref sig .tc} (h : r ≠ main_v8) : W4 m d g (dr r) = W3 m d (dr r) := Function.update_of_ne (fun e => h (Proc.devRef_injective _ e)) _ _
theorem W4_v8 (g : S50176.Idx → F .f32) : W4 m d g (dr main_v8) = g := Function.update_self _ _ _

/-- An array no host operation and no call writes keeps what it held. -/
theorem W1_of_ne {r : Ref sig .tc} (h : r ∉ ({main_v0, main_v1, main_v2, main_v3, main_v4, main_v5} : Finset (Ref sig .tc))) : W1 m d (dr r) = m (hloc d r) := by
  simp only [Finset.mem_insert, Finset.mem_singleton, not_or] at h
  obtain ⟨h0, h1, h2, h3, h4, h5⟩ := h
  unfold W1
  rw [StableHlo.reshape_result_ne (h := h5), StableHlo.reshape_result_ne (h := h4), StableHlo.reshape_result_ne (h := h3), StableHlo.unary_result_ne (h := h2), StableHlo.reshape_result_ne (h := h1), StableHlo.unary_result_ne (h := h0)]
  rfl

theorem W5_of_ne (g : S50176.Idx → F .f32) {r : Ref sig .tc}
    (h : r ∉ ({main_v0, main_v1, main_v2, main_v3, main_v4, main_v5, main_v6, main_v7, main_v8, main_v9, main_v10} : Finset (Ref sig .tc))) : W5 m d g (dr r) = m (hloc d r) := by
  simp only [Finset.mem_insert, Finset.mem_singleton, not_or] at h
  obtain ⟨h0, h1, h2, h3, h4, h5, h6, h7, h8, h9, h10⟩ := h
  unfold W5
  rw [StableHlo.reshape_result_ne (h := h10), StableHlo.unary_result_ne (h := h9), W4_of_ne m d g h8, W3_of_ne m d h7, W2_of_ne m d h6]
  exact W1_of_ne m d (by simp only [Finset.mem_insert, Finset.mem_singleton, not_or]; exact ⟨h0, h1, h2, h3, h4, h5⟩)

theorem W1_v1 : W1 m d (dr main_v1) = fun x => shapeCast S1600000 (extractStridedSlice S1600000x1 ![0, 1] (m (hloc d main_arg4)) slices_S1600000x2_S1600000x1_0_1) shapeCasts_S1600000x1_S1600000 x := by
  unfold W1
  rw [StableHlo.reshape_result_ne (h := by decide), StableHlo.reshape_result_ne (h := by decide), StableHlo.reshape_result_ne (h := by decide), StableHlo.unary_result_ne (h := by decide), StableHlo.reshape_result, StableHlo.unary_result]
  rfl

theorem W1_v3 : W1 m d (dr main_v3) = fun x => shapeCast S1600000 (extractStridedSlice S1600000x1 ![0, 0] (m (hloc d main_arg4)) slices_S1600000x2_S1600000x1_0_0) shapeCasts_S1600000x1_S1600000 x := by
  unfold W1
  rw [StableHlo.reshape_result_ne (h := by decide), StableHlo.reshape_result_ne (h := by decide), StableHlo.reshape_result, StableHlo.unary_result, StableHlo.reshape_result_ne (h := by decide), StableHlo.unary_result_ne (h := by decide)]
  rfl

theorem W1_v4 : W1 m d (dr main_v4) = fun x => shapeCast S2560 (m (hloc d main_arg5)) shapeCasts_S512x5_S2560 x := by
  unfold W1
  rw [StableHlo.reshape_result_ne (h := by decide), StableHlo.reshape_result, StableHlo.reshape_result_ne (h := by decide), StableHlo.unary_result_ne (h := by decide), StableHlo.reshape_result_ne (h := by decide), StableHlo.unary_result_ne (h := by decide)]
  rfl

theorem W1_v5 : W1 m d (dr main_v5) = fun x => shapeCast S50000 (m (hloc d main_arg0)) shapeCasts_S1x50000_S50000 x := by
  unfold W1
  rw [StableHlo.reshape_result, StableHlo.reshape_result_ne (h := by decide), StableHlo.reshape_result_ne (h := by decide), StableHlo.unary_result_ne (h := by decide), StableHlo.reshape_result_ne (h := by decide), StableHlo.unary_result_ne (h := by decide)]
  rfl

theorem W3_v7 : W3 m d (dr main_v7) = fun x => shapeCast S50000 (m (hloc d main_arg1)) shapeCasts_S1x50000_S50000 x := by
  unfold W3
  rw [StableHlo.reshape_result, W2_of_ne m d (by decide), W1_of_ne m d (by decide)]
  rfl

theorem W5_v10 (g : S50176.Idx → F .f32) : W5 m d g (dr main_v10) = fun x => shapeCast S1x50000 (extractStridedSlice S50000 ![0] g slices_S50176_S50000_0) shapeCasts_S50000_S1x50000 x := by
  unfold W5
  rw [StableHlo.reshape_result, StableHlo.unary_result]
  erw [W4_v8]
  rfl

/-- The result: the neurons' new values. -/
def outV : S1x50000.Idx → F .f32 := fun x => (cel m d).next (x 1).val

theorem W5_out {g : S50176.Idx → F .f32} (hg : ∀ y, (y 0).val < 50000 → g y = (cel m d).next (y 0).val) : W5 m d g (dr main_v10) = outV m d := by
  rw [W5_v10]
  funext x
  have h0 : (x 0).val = 0 := by have : (x 0).val < 1 := (x 0).isLt; omega
  have h1 : (x 1).val < 50000 := (x 1).isLt
  refine (shapeCast_apply _ shapeCasts_S50000_S1x50000 x (fun | 0 => ⟨(x 1).val, h1⟩) ?_).trans ?_
  · rw [Shape.rowMajor_val_two, Shape.rowMajor_val_one]
    show (x 1).val = (x 0).val * 50000 + (x 1).val
    omega
  · refine (hg _ (by show 0 + (x 1).val < 50000; omega)).trans (congrArg _ ?_)
    show 0 + (x 1).val = (x 1).val
    omega

end Cert.Proof

end
-- ==== Proof.Calls.lean ====
/-
  What each call takes out of the host's arrays for its tiles, and what comes back.
-/
module

public import proofs.«01_k».proof.Proof.Host

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F] (m : (ℓ : Loc nD τ sig) → Buf (Elt F) ℓ) (d : Dev nD)

/-- The arrays the synapse call touches, and those the membrane call does. -/
abbrev callA : Finset (DevRef τ sig) := {dr main_v1, dr main_v3, dr main_arg3, dr main_arg2, dr main_v5, dr main_v4, dr main_v6}
abbrev callB : Finset (DevRef τ sig) := {dr main_v6, dr main_v7, dr main_v5, dr main_arg6, dr main_arg7, dr main_arg8, dr main_arg9, dr main_v8}

omit [FloatOps F] in
theorem held_A (W : Valuation τ sig (Elt F)) :
    (held (SparseCore.T d) callA W : sProp (MM F)) = iprop((hloc d main_v1 ↦{fullShare} W (dr main_v1)) ∗ (hloc d main_v3 ↦{fullShare} W (dr main_v3))
      ∗ (hloc d main_arg3 ↦{fullShare} W (dr main_arg3)) ∗ (hloc d main_arg2 ↦{fullShare} W (dr main_arg2)) ∗ (hloc d main_v5 ↦{fullShare} W (dr main_v5))
      ∗ (hloc d main_v4 ↦{fullShare} W (dr main_v4)) ∗ (hloc d main_v6 ↦{fullShare} W (dr main_v6))) := by
  unfold held callA
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem held_B (W : Valuation τ sig (Elt F)) :
    (held (SparseCore.T d) callB W : sProp (MM F)) = iprop((hloc d main_v6 ↦{fullShare} W (dr main_v6)) ∗ (hloc d main_v7 ↦{fullShare} W (dr main_v7))
      ∗ (hloc d main_v5 ↦{fullShare} W (dr main_v5)) ∗ (hloc d main_arg6 ↦{fullShare} W (dr main_arg6)) ∗ (hloc d main_arg7 ↦{fullShare} W (dr main_arg7))
      ∗ (hloc d main_arg8 ↦{fullShare} W (dr main_arg8)) ∗ (hloc d main_arg9 ↦{fullShare} W (dr main_arg9)) ∗ (hloc d main_v8 ↦{fullShare} W (dr main_v8))) := by
  unfold held callB
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The thirty-two tiles' shares of the synapse call's inputs are the inputs. -/
theorem syn_shares (dat : Data F) :
    (tiles fun c i => synIn (dv := d) (co0 c i) (Memref.whole main_v1_scv) (Memref.whole main_v3_scv) (Memref.whole main_arg3_scv) (Memref.whole main_arg2_scv) (Memref.whole main_v5_scv) (Memref.whole main_v4_scv) (qT c i) dat)
      = iprop(((hloc d main_v1 ↦{fullShare} at1 1600000 dat.pre) ∗ (hloc d main_v3 ↦{fullShare} at1 1600000 dat.post)
          ∗ (hloc d main_arg3 ↦{fullShare} at1 1600000 dat.sid) ∗ (hloc d main_arg2 ↦{fullShare} at1 1600000 dat.w))
        ∗ (hloc d main_v5 ↦{fullShare} at1 50000 dat.spk) ∗ (hloc d main_v4 ↦{fullShare} at1 2560 dat.basis)) := by
  simp only [synIn_pts, tiles_sep, pts_tiles]

theorem mem_shares (dat : Cells F) :
    (tiles fun c i => memIn (dv := d) (co1 c i) (Memref.whole main_v6_scv) (Memref.whole main_v7_scv) (Memref.whole main_v5_scv) (Memref.whole main_arg6_scv) (Memref.whole main_arg7_scv) (Memref.whole main_arg8_scv)
        (Memref.whole main_arg9_scv) (qT c i) dat)
      = iprop((hloc d main_v6 ↦{fullShare} at1 1605632 dat.part) ∗ (hloc d main_v7 ↦{fullShare} at1 50000 dat.v) ∗ (hloc d main_v5 ↦{fullShare} at1 50000 dat.sp)
          ∗ (hloc d main_arg6 ↦{fullShare} at1 50000 dat.dec) ∗ (hloc d main_arg7 ↦{fullShare} at1 50000 dat.cf)
          ∗ (hloc d main_arg8 ↦{fullShare} at1 50000 dat.vth) ∗ (hloc d main_arg9 ↦{fullShare} at1 50000 dat.nrm)) := by
  simp only [memIn_pts, tiles_sep, pts_tiles]

theorem at1_datOf (W : Valuation τ sig (Elt F)) :
    at1 1600000 (datOf W).pre = W (dr main_v1) ∧ at1 1600000 (datOf W).post = W (dr main_v3) ∧ at1 1600000 (datOf W).sid = W (dr main_arg3)
      ∧ at1 1600000 (datOf W).w = W (dr main_arg2) ∧ at1 50000 (datOf W).spk = W (dr main_v5) ∧ at1 2560 (datOf W).basis = W (dr main_v4) :=
  ⟨at1_list1 _ _, at1_list1 _ _, at1_list1 _ _, at1_list1 _ _, at1_list1 _ _, at1_list1 _ _⟩

theorem at1_celOf (W : Valuation τ sig (Elt F)) (part : ℕ → F .f32) :
    at1 50000 (celOf W part).v = W (dr main_v7) ∧ at1 50000 (celOf W part).sp = W (dr main_v5) ∧ at1 50000 (celOf W part).dec = W (dr main_arg6)
      ∧ at1 50000 (celOf W part).cf = W (dr main_arg7) ∧ at1 50000 (celOf W part).vth = W (dr main_arg8) ∧ at1 50000 (celOf W part).nrm = W (dr main_arg9) :=
  ⟨at1_list1 _ _, at1_list1 _ _, at1_list1 _ _, at1_list1 _ _, at1_list1 _ _, at1_list1 _ _⟩

theorem held_A_rest : (held (SparseCore.T d) (hostS \ callA) (W1 m d) : sProp (MM F)) = held (SparseCore.T d) (hostS \ callA) (W2 m d) := by
  refine StableHlo.held_congr _ fun b hb => (Function.update_of_ne ?_ _ _).symm
  rintro rfl
  exact absurd hb (by decide)

theorem held_B_rest (g : S50176.Idx → F .f32) : (held (SparseCore.T d) (hostS \ callB) (W3 m d) : sProp (MM F)) = held (SparseCore.T d) (hostS \ callB) (W4 m d g) := by
  refine StableHlo.held_congr _ fun b hb => (Function.update_of_ne ?_ _ _).symm
  rintro rfl
  exact absurd hb (by decide)

theorem callA_sub : callA ⊆ hostS := by decide
theorem callB_sub : callB ⊆ hostS := by decide

/-- The synapse call: to the tiles and back. -/
theorem call_syn :
    (held (SparseCore.T d) hostS (W1 m d) : sProp (MM F)) ⊢ iprop((tiles fun c i => goSyn d (co0 c i) (qT c i) (dat m d))
      ∗ ((tiles fun c i => tdSyn d (co0 c i) (qT c i) (dat m d)) -∗ held (SparseCore.T d) hostS (W2 m d))) := by
  obtain ⟨e1, e2, e3, e4, e5, e6⟩ := at1_datOf (W1 m d)
  unfold goSyn tdSyn
  rw [tiles_sep, tiles_sep, syn_shares, held_sub_split (SparseCore.T d) callA_sub, held_sub_split (SparseCore.T d) callA_sub, held_A, held_A, held_A_rest, W2_v6,
    W2_of_ne m d (r := main_v1) (by decide), W2_of_ne m d (r := main_v3) (by decide), W2_of_ne m d (r := main_arg3) (by decide), W2_of_ne m d (r := main_arg2) (by decide),
    W2_of_ne m d (r := main_v5) (by decide), W2_of_ne m d (r := main_v4) (by decide)]
  unfold dat
  rw [e1, e2, e3, e4, e5, e6]
  iintro ⟨⟨H1, H3, Ha3, Ha2, H5, H4, H6⟩, Hr⟩
  ihave HR := (syn_rows d (datOf (W1 m d)) (W1 m d (dr main_v6))) $$ H6
  icases HR with ⟨Hany, Hk⟩
  isplitr [Hr Hk]
  · iframe
  iintro ⟨⟨⟨H1, H3, Ha3, Ha2⟩, H5, H4⟩, Hown⟩
  ihave H6 := Hk $$ Hown
  iframe

/-- The membrane call: to the tiles and back. -/
theorem call_mem :
    (held (SparseCore.T d) hostS (W3 m d) : sProp (MM F)) ⊢ iprop((tiles fun c i => goMem d (co1 c i) (qT c i) (cel m d))
      ∗ ((tiles fun c i => tdMem d (co1 c i) (qT c i) (cel m d)) -∗ ∃ g : S50176.Idx → F .f32, ⌜∀ y, (y 0).val < 50000 → g y = (cel m d).next (y 0).val⌝
        ∗ held (SparseCore.T d) hostS (W4 m d g))) := by
  obtain ⟨e1, e2, e3, e4, e5, e6⟩ := at1_celOf (W3 m d) (dat m d).parts
  have e0 : at1 1605632 (celOf (W3 m d) (dat m d).parts).part = W3 m d (dr main_v6) := (W2_v6 m d).symm.trans (W3_of_ne m d (by decide)).symm
  unfold goMem tdMem
  rw [tiles_sep, tiles_sep, mem_shares, held_sub_split (SparseCore.T d) callB_sub, held_B]
  unfold cel
  rw [e0, e1, e2, e3, e4, e5, e6]
  iintro ⟨⟨H6, H7, H5, Ha6, Ha7, Ha8, Ha9, H8⟩, Hr⟩
  ihave HR := (mem_rows d (celOf (W3 m d) (dat m d).parts) (W3 m d (dr main_v8))) $$ H8
  icases HR with ⟨Hany, Hk⟩
  isplitr [Hr Hk]
  · iframe
  iintro ⟨⟨H6, H7, H5, Ha6, Ha7, Ha8, Ha9⟩, Hown⟩
  ihave HR := Hk $$ Hown
  icases HR with ⟨%g, %hg, H8⟩
  iexists g
  isplitr
  · ipureintro; exact hg
  rw [held_sub_split (SparseCore.T d) callB_sub, held_B, ← held_B_rest, W4_v8,
    W4_of_ne m d g (r := main_v6) (by decide), W4_of_ne m d g (r := main_v7) (by decide), W4_of_ne m d g (r := main_v5) (by decide), W4_of_ne m d g (r := main_arg6) (by decide),
    W4_of_ne m d g (r := main_arg7) (by decide), W4_of_ne m d g (r := main_arg8) (by decide), W4_of_ne m d g (r := main_arg9) (by decide)]
  iframe

end Cert.Proof

end
-- ==== Proof.Launch.lean ====
/-
  The launch: what each handshake carries, each tile's obligation, the host's program between, and the run.
-/
module

public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

/-- The two tasks on the program's arrays. -/
abbrev synTask (i : grid0.Coords) := cc0__sc_synapse_kernel (F := F) i (Memref.whole main_v1_scv) (Memref.isWhole_whole _) (Memref.whole main_v3_scv) (Memref.isWhole_whole _) (Memref.whole main_arg3_scv) (Memref.isWhole_whole _) (Memref.whole main_arg2_scv) (Memref.isWhole_whole _)
    (Memref.whole main_v5_scv) (Memref.isWhole_whole _) (Memref.whole main_v4_scv) (Memref.isWhole_whole _) (Memref.whole main_v6_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scoped0
abbrev memTask (i : grid1.Coords) := cc1__sc_membrane_kernel (F := F) i (Memref.whole main_v6_scv) (Memref.isWhole_whole _) (Memref.whole main_v7_scv) (Memref.isWhole_whole _) (Memref.whole main_v5_scv) (Memref.isWhole_whole _) (Memref.whole main_arg6_scv) (Memref.isWhole_whole _)
    (Memref.whole main_arg7_scv) (Memref.isWhole_whole _) (Memref.whole main_arg8_scv) (Memref.isWhole_whole _) (Memref.whole main_arg9_scv) (Memref.isWhole_whole _) (Memref.whole main_v8_scv) (Memref.isWhole_whole _)
    (Memref.whole cc1_scratch0) (Memref.isWhole_whole _) (Memref.whole cc1_scratch1) (Memref.isWhole_whole _) (Memref.whole cc1_scratch2) (Memref.isWhole_whole _) (Memref.whole cc1_scratch3) (Memref.isWhole_whole _)
    (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9 cc1_scratch10 cc1_scratch11 cc1_scratch12 cc1_scratch13 cc1_scratch14 cc1_scratch15 cc1_scratch16 cc1_scratch17 cc1_scratch18 cc1_scratch19 cc1_scratch20 cc1_scoped0 cc1_scoped1

theorem task0 (c : Fin τ.nSC) (s : Fin τ.nSub) : defs₀ (F := F) (.scVector c s) 0 () = SparseCore.onTile hcore0 hsub0 (fun c s => synTask (co0 c s)) ⟨⟩ c s := rfl
theorem task1 (c : Fin τ.nSC) (s : Fin τ.nSub) : defs₀ (F := F) (.scVector c s) 1 () = SparseCore.onTile hcore1 hsub1 (fun c s => memTask (co1 c s)) ⟨⟩ c s := rfl

variable (m : (ℓ : Loc nD τ sig) → Buf (Elt F) ℓ) (ρ : Dev nD → PrngReg)

instance go_storable (d : Dev nD) (i : grid0.Coords) (q : PosShare TreeShare) (x : Data F) : BI.Storable (upEmb : UEmb _ (MM F)) (goSyn d i q x) := by
  unfold goSyn synIn srcOwn any; infer_instance
instance td_storable (d : Dev nD) (i : grid0.Coords) (q : PosShare TreeShare) (x : Data F) : BI.Storable (upEmb : UEmb _ (MM F)) (tdSyn d i q x) := by
  unfold tdSyn synIn srcOwn; infer_instance
instance goM_storable (d : Dev nD) (i : grid1.Coords) (q : PosShare TreeShare) (x : Cells F) : BI.Storable (upEmb : UEmb _ (MM F)) (goMem d i q x) := by
  unfold goMem memIn neurOwn any; infer_instance
instance tdM_storable (d : Dev nD) (i : grid1.Coords) (q : PosShare TreeShare) (x : Cells F) : BI.Storable (upEmb : UEmb _ (MM F)) (tdMem d i q x) := by
  unfold tdMem memIn neurOwn memOut; infer_instance

omit [FloatOps F] in
theorem stAll {Φ : Fin 16 → sProp (MM F)} (h : ∀ i, BI.Storable (upEmb : UEmb _ (MM F)) (Φ i)) : BI.Storable (upEmb : UEmb _ (MM F)) (bigSep Finset.univ Φ) := by
  haveI := h
  infer_instance

/-- What the handshakes carry: a SparseCore's tiles' shares, a tile's share, and the same with the results. -/
def P : (K (F := F)).Pay (nD := nD) (Val := Elt F) (Name := ℕ) (U := UU) where
  st q d c := match q with
    | 0 => bigSep Finset.univ fun i : Fin 16 => goSyn d (co0 c i) (qT c i) (dat m d)
    | 1 => bigSep Finset.univ fun i : Fin 16 => goMem d (co1 c i) (qT c i) (cel m d)
  dn q d c := match q with
    | 0 => bigSep Finset.univ fun i : Fin 16 => tdSyn d (co0 c i) (qT c i) (dat m d)
    | 1 => bigSep Finset.univ fun i : Fin 16 => tdMem d (co1 c i) (qT c i) (cel m d)
  go q d c i := match q with
    | 0 => goSyn d (co0 c i) (qT c i) (dat m d)
    | 1 => goMem d (co1 c i) (qT c i) (cel m d)
  td q d c i := match q with
    | 0 => tdSyn d (co0 c i) (qT c i) (dat m d)
    | 1 => tdMem d (co1 c i) (qT c i) (cel m d)
  x := fun _ _ => iprop(emp)

instance P_storable : (P m).IsStorable where
  st q d c := match q with
    | 0 => stAll fun i => go_storable d (co0 c i) (qT c i) (dat m d)
    | 1 => stAll fun i => goM_storable d (co1 c i) (qT c i) (cel m d)
  dn q d c := match q with
    | 0 => stAll fun i => td_storable d (co0 c i) (qT c i) (dat m d)
    | 1 => stAll fun i => tdM_storable d (co1 c i) (qT c i) (cel m d)
  go q d c i := match q with
    | 0 => go_storable d (co0 c i) (qT c i) (dat m d)
    | 1 => goM_storable d (co1 c i) (qT c i) (cel m d)
  td q d c i := match q with
    | 0 => td_storable d (co0 c i) (qT c i) (dat m d)
    | 1 => tdM_storable d (co1 c i) (qT c i) (cel m d)

omit [FloatOps F] in
theorem obl_post {thr : Thread nD τ} {A B C : sProp (MM F)} {O : CellTallies nD τ sig (HIx 2)} {W : Waits sig (HIx 2)} (q : Fin 2) :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

set_option maxRecDepth 16384 in
theorem obl_syn (hd : ∀ d, (dat m d).InRange) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task0]
  simp only [SparseCore.onTile, hci, and_self, ↓reduceDIte]
  exact (syn_tile (F := F) d (co0 c i) (qT c i) (dat m d) (hd d) O W hO).trans (wp_mono frame _ _ fun _ => obl_post 0)

set_option maxRecDepth 16384 in
theorem obl_mem : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [task1]
  simp only [SparseCore.onTile, hci, and_self, ↓reduceDIte]
  exact (mem_tile (F := F) d (co1 c i) (qT c i) (cel m d) O W hO).trans (wp_mono frame _ _ fun _ => obl_post 1)

omit [FloatOps F] in
theorem split_of (A B : sProp (MM F)) : A ⊢ |={Set.univ}=> iprop(A ∗ (B -∗ B)) := by
  iintro HA
  imodintro
  isplitl [HA]; · iexact HA
  iintro HB; iexact HB

theorem split_syn : (K (F := F)).VecSplit' (P m) 0 := fun d c => split_of
  (bigSep (Finset.univ : Finset (Fin 16)) fun i => goSyn d (co0 c i) (qT c i) (dat m d)) (bigSep (Finset.univ : Finset (Fin 16)) fun i => tdSyn d (co0 c i) (qT c i) (dat m d))
theorem split_mem : (K (F := F)).VecSplit' (P m) 1 := fun d c => split_of
  (bigSep (Finset.univ : Finset (Fin 16)) fun i => goMem d (co1 c i) (qT c i) (cel m d)) (bigSep (Finset.univ : Finset (Fin 16)) fun i => tdMem d (co1 c i) (qT c i) (cel m d))

def u₀ : UU := (initOf (K (F := F)).hsCells (K (F := F)).hsToks, 1)

theorem launch : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  have e : ∀ {ι : Type} (s : Finset ι), (bigSep s fun _ => (iprop(emp) : sProp (MM F))) = iprop(emp) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [e]; iempintro
  rw [show (bigSep Finset.univ fun thr : Thread nD τ => bigSep Finset.univ fun q : Fin 2 => (P (F := F) m).x q thr) = iprop(emp) from
    (bigSep_congr fun _ _ => e _).trans (e _)]
  iempintro

/-- What the host's program leaves: every array at its last contents. -/
def FIN (d : Dev nD) : sProp (MM F) := iprop(∃ g : S50176.Idx → F .f32, ⌜∀ y, (y 0).val < 50000 → g y = (cel m d).next (y 0).val⌝ ∗ held (SparseCore.T d) hostS (W5 m d g))

theorem st0_eq (d : Dev nD) : (bigSep Finset.univ fun c : Fin ((K (F := F)).nCore 0) => (P m).st 0 d c) = tiles fun c i => goSyn d (co0 c i) (qT c i) (dat m d) := rfl
theorem dn0_eq (d : Dev nD) : (bigSep Finset.univ fun c : Fin ((K (F := F)).nCore 0) => (P m).dn 0 d c) = tiles fun c i => tdSyn d (co0 c i) (qT c i) (dat m d) := rfl
theorem st1_eq (d : Dev nD) : (bigSep Finset.univ fun c : Fin ((K (F := F)).nCore 1) => (P m).st 1 d c) = tiles fun c i => goMem d (co1 c i) (qT c i) (cel m d) := rfl
theorem dn1_eq (d : Dev nD) : (bigSep Finset.univ fun c : Fin ((K (F := F)).nCore 1) => (P m).dn 1 d c) = tiles fun c i => tdMem d (co1 c i) (qT c i) (cel m d) := rfl

omit [FloatOps F] in
theorem pair_sub (x y : Ref sig .tc) (hx : x ∈ hostRefs) (hy : y ∈ hostRefs) : ({dr x, dr y} : Finset (DevRef τ sig)) ⊆ hostS := by
  intro b hb
  rcases Finset.mem_insert.1 hb with rfl | hb
  · exact Finset.mem_map_of_mem drE hx
  · rw [Finset.mem_singleton.1 hb]; exact Finset.mem_map_of_mem drE hy

set_option maxRecDepth 16384 in
theorem host_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_host]
  simp only [main, wp_bind, wp_pure]
  iintro ⟨#Hctx, Hst, ⟨Hb, Hheld, Hts, -⟩, -⟩
  iapply (wp_hlo_within 𝒱 (SparseCore.T d) none Set.univ (op := op0) (S := hostS) (pair_sub main_arg4 main_v0 (by decide) (by decide)) (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := hostS) (pair_sub main_v0 main_v1 (by decide) (by decide)) (V := op0.result (W0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := hostS) (pair_sub main_arg4 main_v2 (by decide) (by decide)) (V := op1.result (op0.result (W0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := hostS) (pair_sub main_v2 main_v3 (by decide) (by decide)) (V := op2.result (op1.result (op0.result (W0 m d))))) $$ [Hb Hheld]
  · isplitl [Hb]; · iexact Hb
    iexact Hheld
  iintro ⟨Hb, Hheld⟩
  rw [wp_ret]; imodintro
  iapply (wp_hlo_within 𝒱 (SparseCore.T d) none Set.univ (op := op4) (S := hostS) (pair_sub main_arg5 main_v4 (by decide) (by decide)) (V := op3.result (op2.result (op1.result (op0.result (W0 m d)))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := hostS) (pair_sub main_arg0 main_v5 (by decide) (by decide)) (V := op4.result (op3.result (op2.result (op1.result (op0.result (W0 m d))))))) $$ [Hb Hheld]
  · isplitl [Hb]; · iexact Hb
    iexact Hheld
  iintro ⟨Hb, Hheld⟩
  rw [wp_ret]; imodintro
  ihave Hc := (call_syn m d) $$ [Hheld]
  · iexact Hheld
  icases Hc with ⟨Hgo, Hback⟩
  iapply ((K (F := F)).wp_run (D (F := F)) 𝒱 (EH := EH) (P := P m) κ d 0) $$ [Hst Hgo Hback Hb Hts]
  isplitr; · iexact Hctx
  isplitl [Hst]; · iexact Hst
  isplitl [Hgo]
  · rw [st0_eq]; iexact Hgo
  iintro ⟨Hst, Hdn⟩
  ihave Hheld := Hback $$ [Hdn]
  · rw [← dn0_eq]; iexact Hdn
  iapply (wp_hlo_within 𝒱 (SparseCore.T d) none Set.univ (op := op7) (S := hostS) (pair_sub main_arg1 main_v7 (by decide) (by decide)) (V := W2 m d)) $$ [Hb Hheld]
  · isplitl [Hb]; · iexact Hb
    iexact Hheld
  iintro ⟨Hb, Hheld⟩
  rw [wp_ret]; imodintro
  ihave Hc := (call_mem m d) $$ [Hheld]
  · iexact Hheld
  icases Hc with ⟨Hgo, Hback⟩
  iapply ((K (F := F)).wp_run (D (F := F)) 𝒱 (EH := EH) (P := P m) κ d 1) $$ [Hst Hgo Hback Hb Hts]
  isplitr; · iexact Hctx
  isplitl [Hst]; · iexact Hst
  isplitl [Hgo]
  · rw [st1_eq]; iexact Hgo
  iintro ⟨Hst, Hdn⟩
  ihave Hheld := Hback $$ [Hdn]
  · rw [← dn1_eq]; iexact Hdn
  icases Hheld with ⟨%g, %hg, Hheld⟩
  iapply (wp_hlo_within 𝒱 (SparseCore.T d) none Set.univ (op := op9) (S := hostS) (pair_sub main_v8 main_v9 (by decide) (by decide)) (V := W4 m d g)) $$ [Hb Hheld]
  · isplitl [Hb]; · iexact Hb
    iexact Hheld
  iintro ⟨Hb, Hheld⟩
  rw [wp_ret]; imodintro
  iapply (wp_hlo_within 𝒱 (SparseCore.T d) none Set.univ (op := op10) (S := hostS) (pair_sub main_v9 main_v10 (by decide) (by decide)) (V := op9.result (W4 m d g))) $$ [Hb Hheld]
  · isplitl [Hb]; · iexact Hb
    iexact Hheld
  iintro ⟨Hb, Hheld⟩
  rw [wp_ret]; imodintro
  imodintro
  isplitl [Hst]; · iexact Hst
  isplitl [Hheld]
  · unfold FIN
    iexists g
    isplitr
    · ipureintro; exact hg
    · iexact Hheld
  isplitl [Hb] <;> iassumption

def atEnd (d : Dev nD) (s' : Phys nD τ sig (Elt F)) : Prop :=
  ∃ g : S50176.Idx → F .f32, (∀ y, (y 0).val < 50000 → g y = (cel m d).next (y 0).val) ∧ ∀ b ∈ hostS, s'.mem.mem (d, b) = W5 m d g b

omit [FloatOps F] in
/-- Owning arrays, one knows what memory holds there. -/
theorem held_agree (d : Dev nD) (W : Valuation τ sig (Elt F)) (s' : Phys nD τ sig (Elt F)) (b : DevRef τ sig) (hb : b ∈ hostS) :
    iprop(held (SparseCore.T d) hostS W ∗ SI s') ⊢ (⌜s'.mem.mem (d, b) = W b⌝ : sProp (MM F)) := by
  unfold held
  rw [show (bigSep hostS fun b => (((SparseCore.T d).1, b) ↦{fullShare} W b : sProp (MM F))) = iprop((((SparseCore.T d).1, b) ↦{fullShare} W b) ∗ bigSep (hostS.erase b) fun b => (((SparseCore.T d).1, b) ↦{fullShare} W b)) from bigSep_erase hb]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem host_end (d : Dev nD) (s' : Phys nD τ sig (Elt F)) : iprop(FIN m d ∗ SI s') ⊢ (⌜atEnd m d s'⌝ : sProp (MM F)) := by
  unfold FIN
  iintro ⟨⟨%g, %hg, Hh⟩, HSI⟩
  ihave H := (show iprop(held (SparseCore.T d) hostS (W5 m d g) ∗ SI s') ⊢ (⌜∀ b, b ∈ hostS → s'.mem.mem (d, b) = W5 m d g b⌝ : sProp (MM F)) from
    (Laws.forall_intro fun b => (Laws.forall_intro fun hb => held_agree d (W5 m d g) s' b hb).trans pure_forall.2).trans pure_forall.2) $$ [Hh HSI]
  · isplitl [Hh] <;> iassumption
  icases H with %h
  ipureintro
  exact ⟨g, hg, h⟩

/-- The arguments keep their contents and the result is the neurons' new values. -/
theorem atEnd_spec {d : Dev nD} {s' : Phys nD τ sig (Elt F)} (h : atEnd m d s') :
    (∀ r ∈ hostRefs, r ∉ ({main_v0, main_v1, main_v2, main_v3, main_v4, main_v5, main_v6, main_v7, main_v8, main_v9, main_v10} : Finset (Ref sig .tc)) → s'.mem.mem (hloc d r) = m (hloc d r))
      ∧ s'.mem.mem (hloc d main_v10) = outV m d := by
  obtain ⟨g, hg, h⟩ := h
  exact ⟨fun r hr hn => (h (dr r) (Finset.mem_map_of_mem drE hr)).trans (W5_of_ne m d g hn),
    (h (dr main_v10) (Finset.mem_map_of_mem drE (by decide))).trans (W5_out m d hg)⟩

/-- What the run leaves. -/
def Post : PUnit × MemSt nD τ sig (Elt F) → Prop := fun r =>
  (∀ d : Dev nD, r.2.mem (hloc d main_v10) = outV m d
    ∧ ∀ a ∈ ({main_arg0, main_arg1, main_arg2, main_arg3, main_arg4, main_arg5, main_arg6, main_arg7, main_arg8, main_arg9} : Finset (Ref sig .tc)), r.2.mem (hloc d a) = m (hloc d a))
  ∧ r.2.sem = fun _ => 0

/-- The kernel, run from memory whose indices are in range. -/
theorem run_main [∀ e, Nonempty (Elt F e)] (hd : ∀ d, (dat m d).InRange) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => obl_syn m hd | 1 => obl_mem m)
    (fun q _ => match q with | 0 => SparseCore.Cfg.VecSplit.of_plain (split_syn m) | 1 => SparseCore.Cfg.VecSplit.of_plain (split_mem m))
    m ρ main (fun _ => iprop(emp)) (FIN m) (u₀ (F := F)) (sep_elim_left.trans (launch m)) (host_run m ρ) (atEnd m) (host_end m) (Post m)
    (fun _ h hz => ⟨fun d => ⟨(atEnd_spec m (h d)).2, fun a ha => (atEnd_spec m (h d)).1 a
      ((by decide : ({main_arg0, main_arg1, main_arg2, main_arg3, main_arg4, main_arg5, main_arg6, main_arg7, main_arg8, main_arg9} : Finset (Ref sig .tc)) ⊆ hostRefs) ha)
      ((by decide : ∀ a ∈ ({main_arg0, main_arg1, main_arg2, main_arg3, main_arg4, main_arg5, main_arg6, main_arg7, main_arg8, main_arg9} : Finset (Ref sig .tc)),
        a ∉ ({main_v0, main_v1, main_v2, main_v3, main_v4, main_v5, main_v6, main_v7, main_v8, main_v9, main_v10} : Finset (Ref sig .tc))) a ha)⟩, hz⟩)

end Cert.Proof

end
-- ==== Proof.Range.lean ====
/-
  The preconditions read as bounds on the launch memory's words, and the frames.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.Pre_in_range
public import proofs.«01_k».proof.Proof.Gen.Pre_in_range_finite

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem andi_bool (p q : Bool) : IntOp.andi (BitVec.ofBool p) (BitVec.ofBool q) = BitVec.ofBool (p && q) := by cases p <;> cases q <;> decide
theorem bool_one (p : Bool) : (BitVec.ofBool p = 1#1) ↔ p = true := by cases p <;> decide

/-- A word from zero up, below 50000 (below 512), as the comparisons say it. -/
theorem word_50000 {v : BitVec 32} (e : IntOp.andi (IntOp.cmpi .sge v 0#32) (IntOp.cmpi .slt v 50000#32) = 1#1) : v.toNat < 50000 := by
  simp only [IntOp.cmpi, andi_bool, bool_one, Bool.and_eq_true, BitVec.sle_eq_decide, BitVec.slt_eq_decide,
    decide_eq_true_eq, BitVec.toInt_eq_toNat_cond, BitVec.toNat_ofNat, Nat.reducePow, Nat.reduceMod] at e
  omega
theorem word_512 {v : BitVec 32} (e : IntOp.andi (IntOp.cmpi .sge v 0#32) (IntOp.cmpi .slt v 512#32) = 1#1) : v.toNat < 512 := by
  simp only [IntOp.cmpi, andi_bool, bool_one, Bool.and_eq_true, BitVec.sle_eq_decide, BitVec.slt_eq_decide,
    decide_eq_true_eq, BitVec.toInt_eq_toNat_cond, BitVec.toNat_ofNat, Nat.reducePow, Nat.reduceMod] at e
  omega

theorem inRange_of {m : (ℓ : Loc nD τ sig) → Buf (Elt F) ℓ} {d : Dev nD} (h4 : ∀ x, (m (hloc d main_arg4) x : BitVec 32).toNat < 50000)
    (h3 : ∀ x, (m (hloc d main_arg3) x : BitVec 32).toNat < 512) : (dat m d).InRange where
  pre s hs := by
    unfold dat datOf
    simp only [list1, hs, ↓reduceDIte]
    rw [W1_v1]
    exact h4 _
  post s hs := by
    unfold dat datOf
    simp only [list1, hs, ↓reduceDIte]
    rw [W1_v3]
    exact h4 _
  sid s hs := by
    unfold dat datOf
    simp only [list1, hs, ↓reduceDIte]
    rw [W1_of_ne m d (by decide)]
    exact h3 _

theorem inRange_pre {m : (ℓ : Loc nD τ sig) → Buf (Elt F) ℓ} {d : Dev nD}
    (h : (Cert.Pre_in_range.fn (F := F) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).1 = (fun _ => 1#1)
      ∧ (Cert.Pre_in_range.fn (F := F) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).2 = (fun _ => 1#1)) : (dat m d).InRange := by
  refine inRange_of (fun x => ?_) (fun x => ?_)
  · have e := congrFun h.1 x
    simp only [Cert.Pre_in_range.fn, andi, cmpi, broadcastInDim, constantI] at e
    exact word_50000 e
  · have e := congrFun h.2 x
    simp only [Cert.Pre_in_range.fn, andi, cmpi, broadcastInDim, constantI] at e
    exact word_512 e

/-- The same, of the precondition that also bounds the float arrays. -/
theorem fin_pre {m : (ℓ : Loc nD τ sig) → Buf (Elt F) ℓ} {d : Dev nD}
    (h : (Cert.Pre_in_range_finite.fn (F := F) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).1 = (fun _ => 1#1)
      ∧ (Cert.Pre_in_range_finite.fn (F := F) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).2.1 = (fun _ => 1#1)) : (dat m d).InRange := by
  refine inRange_of (fun x => ?_) (fun x => ?_)
  · have e := congrFun h.1 x
    simp only [Cert.Pre_in_range_finite.fn, Cert.Pre_in_range_finite.fn_part1, andi, cmpi, broadcastInDim, constantI] at e
    exact word_50000 e
  · have e := congrFun h.2 x
    simp only [Cert.Pre_in_range_finite.fn, Cert.Pre_in_range_finite.fn_part1, andi, cmpi, broadcastInDim, constantI] at e
    exact word_512 e

/-- A run's end, its values dropped. -/
theorem args_of_post {m : (ℓ : Loc nD τ sig) → Buf (Elt F) ℓ} {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  have k := (h.1 c).2
  ⟨k main_arg0 (by decide), k main_arg1 (by decide), k main_arg2 (by decide), k main_arg3 (by decide), k main_arg4 (by decide), k main_arg5 (by decide), k main_arg6 (by decide), k main_arg7 (by decide), k main_arg8 (by decide), k main_arg9 (by decide)⟩

theorem frame_kernel : Cert.quiescent_Kernel := fun m ρ hp =>
  (θ_run Cert.KernelIdeal.defs _ _).mono (fun _ h => ⟨fun c => args_of_post h c, h.2⟩) (run_main (F := Bits) m ρ fun d => inRange_pre (F := Bits) (hp d))

theorem frame_ideal : Cert.quiescent_KernelIdeal := fun m ρ hp =>
  (θ_run Cert.KernelIdeal.defs _ _).mono (fun _ h => ⟨fun c => args_of_post h c, h.2⟩) (run_main (F := Ideal) m ρ fun d => inRange_pre (F := Ideal) (hp d))

theorem frame_ideal_finite : Cert.quiescent_KernelIdeal_pre_in_range_finite := fun m ρ hp =>
  (θ_run Cert.KernelIdeal.defs _ _).mono (fun _ h => ⟨fun c => args_of_post h c, h.2⟩)
    (run_main (F := Ideal) m ρ fun d => fin_pre (F := Ideal) ⟨(hp d).1, (hp d).2.1⟩)

end Cert.Proof

end
-- ==== Proof.RefFrame.lean ====
/-
  The reference's frames: its run, with its value dropped. It names no semaphore, so every counter stays at zero.
-/
module

public import proofs.«01_k».proof.Defs
public import proofs.«01_k».proof.Proof.Gen.ReferenceIdeal
public import proofs.«01_k».proof.Proof.Gen.ReferenceIdeal.Run
public import proofs.«01_k».proof.Proof.Gen.Pre_in_range_finite
public import Idealize.ShloMosaic.Lib.Quiescent

@[expose] public section

noncomputable section

namespace Cert.Proof

open Idealize.ShloMosaic

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_in_range_finite := fun m ρ _ => frame_reference m ρ trivial

end Cert.Proof

end
-- ==== Proof.Sums.lean ====
/-
  The exact sums: the thirty-two tiles' accumulations of a neuron add up to the sum over all the synapses that land on it
  of what each adds, channel by channel.
-/
module

public import proofs.«01_k».proof.Proof.Share
public import Idealize.ShloMosaic.Lib.IdealHost

@[expose] public section

noncomputable section

namespace Cert.Proof

open Idealize.ShloMosaic

/-- A value that is a real number. -/
def IsReal (x : EReal) : Prop := ∃ r : ℝ, x = (r : EReal)

/-- The float arrays hold real numbers, the spikes none below zero, where the synapses look. -/
structure Reals (D : Data Ideal) : Prop where
  spk : ∀ n, n < 50000 → IsReal (D.spk n) ∧ (0 : EReal) ≤ D.spk n
  w : ∀ s, s < 1600000 → IsReal (D.w s)
  basis : ∀ n, n < 2560 → IsReal (D.basis n)

/-- What synapse `s` adds to neuron `j` on channel `k`. -/
def chan (D : Data Ideal) (j k s : ℕ) : EReal :=
  if (D.post s).toNat = j then (D.spk (D.pre s).toNat : EReal) * ((D.w s : EReal) * (D.basis (5 * (D.sid s).toNat + k) : EReal)) else 0

open Classical in
/-- What the kernel adds to neuron `j` for synapse `s`. -/
def gain (D : Data Ideal) (j s : ℕ) : EReal := if D.fires s ∧ j = (D.post s).toNat then D.term s else 0

theorem zero_word : (Scalar.ofBits .f32 0x00000000#32 : Ideal .f32) = 0 := Ideal.ofBits_zero_f32

theorem accum_sum (D : Data Ideal) (lo j : ℕ) : ∀ n, D.accum lo n j = ∑ s ∈ Finset.range n, gain D j (lo + s)
  | 0 => by rw [Finset.sum_range_zero]; exact zero_word
  | n + 1 => by
    rw [Finset.sum_range_succ, ← accum_sum D lo j n]
    show D.hit (lo + n) (D.accum lo n) j = _
    unfold Data.hit gain
    split
    · rfl
    · exact (add_zero _).symm

theorem sumParts_sum (p : ℕ → Ideal .f32) : ∀ n, sumParts p n = ∑ r ∈ Finset.range (n + 1), p r
  | 0 => by rw [Finset.sum_range_succ, Finset.sum_range_zero, zero_add]; rfl
  | n + 1 => by rw [Finset.sum_range_succ, ← sumParts_sum p n]; rfl

theorem sum_rows (g : ℕ → EReal) (k : ℕ) : ∀ n, ∑ r ∈ Finset.range n, ∑ s ∈ Finset.range k, g (k * r + s) = ∑ s ∈ Finset.range (k * n), g s
  | 0 => by rw [Nat.mul_zero, Finset.sum_range_zero, Finset.sum_range_zero]
  | n + 1 => by rw [Finset.sum_range_succ, sum_rows g k n, Nat.mul_succ, Finset.sum_range_add]

/-- The kernel's summed current of a neuron. -/
theorem parts_sum (D : Data Ideal) (j : ℕ) (hj : j < 50000) :
    sumParts (fun r => D.parts (50176 * r + j)) 31 = ∑ s ∈ Finset.range 1600000, gain D j s := by
  rw [sumParts_sum, ← sum_rows (gain D j) 50000 32]
  refine Finset.sum_congr rfl fun r _ => ?_
  unfold Data.parts
  rw [accum_sum, show (50176 * r + j) / 50176 = r by omega, show (50176 * r + j) % 50176 = j by omega]

theorem fires_iff (D : Data Ideal) (s : ℕ) : D.fires s ↔ (0 : EReal) < D.spk (D.pre s).toNat := by
  unfold Data.fires
  rw [zero_word]
  show BitVec.ofBool (decide ((0 : EReal) < _)) = 1#1 ↔ _
  by_cases h : (0 : EReal) < D.spk (D.pre s).toNat <;> simp [h]

/-- A synapse's channels add up to what the kernel adds for it. -/
theorem chan_sum (D : Data Ideal) (hr : D.InRange) (hf : Reals D) (j s : ℕ) (hs : s < 1600000) :
    ∑ k ∈ Finset.range 5, chan D j k s = gain D j s := by
  unfold gain chan
  by_cases hj : (D.post s).toNat = j
  · simp only [if_pos hj]
    obtain ⟨⟨z, hz⟩, hz0⟩ := hf.spk _ (hr.pre s hs)
    obtain ⟨w, hw⟩ := hf.w s hs
    have hsid := hr.sid s hs
    obtain ⟨b0, h0⟩ := hf.basis (5 * (D.sid s).toNat) (by omega)
    obtain ⟨b1, h1⟩ := hf.basis (5 * (D.sid s).toNat + 1) (by omega)
    obtain ⟨b2, h2⟩ := hf.basis (5 * (D.sid s).toNat + 2) (by omega)
    obtain ⟨b3, h3⟩ := hf.basis (5 * (D.sid s).toNat + 3) (by omega)
    obtain ⟨b4, h4⟩ := hf.basis (5 * (D.sid s).toNat + 4) (by omega)
    have e : ∑ k ∈ Finset.range 5, (D.spk (D.pre s).toNat : EReal) * ((D.w s : EReal) * (D.basis (5 * (D.sid s).toNat + k) : EReal)) = D.term s := by
      show _ = (D.spk (D.pre s).toNat * D.w s) * ((((D.basis (5 * (D.sid s).toNat) + D.basis (5 * (D.sid s).toNat + 1)) + D.basis (5 * (D.sid s).toNat + 2)) + D.basis (5 * (D.sid s).toNat + 3)) + D.basis (5 * (D.sid s).toNat + 4) : EReal)
      simp only [Finset.sum_range_succ, Finset.sum_range_zero, Nat.add_zero, hz, hw, h0, h1, h2, h3, h4]
      norm_cast
      ring
    rw [e]
    by_cases hp : D.fires s
    · rw [if_pos ⟨hp, hj.symm⟩]
    · rw [if_neg (fun h => hp h.1)]
      have : (D.spk (D.pre s).toNat : EReal) = 0 := le_antisymm (not_lt.1 fun h => hp ((fires_iff D s).2 h)) hz0
      show ((D.spk (D.pre s).toNat * D.w s) * _ : EReal) = 0
      rw [this, zero_mul, zero_mul]
  · simp only [if_neg hj, Finset.sum_const_zero]
    rw [if_neg (fun h => hj h.2.symm)]

/-- The kernel's current of a neuron is the sum over the channels of the sums over the synapses. -/
theorem current_eq (D : Data Ideal) (hr : D.InRange) (hf : Reals D) (j : ℕ) (hj : j < 50000) :
    ∑ k ∈ Finset.range 5, ∑ s ∈ Finset.range 1600000, chan D j k s = sumParts (fun r => D.parts (50176 * r + j)) 31 := by
  rw [parts_sum D j hj, Finset.sum_comm]
  exact Finset.sum_congr rfl fun s hs => chan_sum D hr hf j s (Finset.mem_range.1 hs)

end Cert.Proof

end
-- ==== Proof.KernReads.lean ====
/-
  The kernel's arrays read by place off the launch memory's argument arrays.
-/
module

public import proofs.«01_k».proof.Proof.Launch
public import Idealize.ShloMosaic.Lib.Pipeline.Value
public import Idealize.ShloMosaic.Lib.ValueIdxCore

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

/-- The problem's arrays are the argument arrays, read by place. -/
structure Reads (D : Data F) (x0 : (⟨2, ![1, 50000]⟩ : Shape).Idx → F .f32) (x2 : (⟨1, ![1600000]⟩ : Shape).Idx → F .f32)
    (x3 : (⟨1, ![1600000]⟩ : Shape).Idx → BitVec 32) (x4 : (⟨2, ![1600000, 2]⟩ : Shape).Idx → BitVec 32)
    (x5 : (⟨2, ![512, 5]⟩ : Shape).Idx → F .f32) : Prop where
  spk : ∀ n (h : n < 50000), D.spk n = x0 (ix2 0 ⟨n, h⟩)
  w : ∀ s (h : s < 1600000), D.w s = x2 (ix1 ⟨s, h⟩)
  sid : ∀ s (h : s < 1600000), D.sid s = x3 (ix1 ⟨s, h⟩)
  post : ∀ s (h : s < 1600000), D.post s = x4 (ix2 ⟨s, h⟩ 0)
  pre : ∀ s (h : s < 1600000), D.pre s = x4 (ix2 ⟨s, h⟩ 1)
  basis : ∀ t k (ht : t < 512) (hk : k < 5), D.basis (5 * t + k) = x5 (ix2 ⟨t, ht⟩ ⟨k, hk⟩)

theorem list1_of_lt {N : ℕ} {α : Type} (g : (⟨1, ![N]⟩ : Shape).Idx → α) (a : α) {n : ℕ} (h : n < N) : list1 g a n = g (ix1 ⟨n, h⟩) := by
  unfold list1
  rw [dif_pos h]
  congr 1
  funext b
  match b with
  | ⟨0, _⟩ => rfl

/-- A row of one read as a list. -/
theorem cast_row {N : ℕ} {α : Type} (x : (⟨2, ![1, N]⟩ : Shape).Idx → α) (hc : (⟨2, ![1, N]⟩ : Shape).ShapeCasts ⟨1, ![N]⟩) (n : Fin N) :
    shapeCast ⟨1, ![N]⟩ x hc (ix1 n) = x (ix2 0 n) := by
  refine shapeCast_apply _ hc _ _ ?_
  rw [Shape.rowMajor_val_two, Shape.rowMajor_val_one]
  show 0 * N + n.val = n.val
  simp

/-- A table read as a list, row after row. -/
theorem cast_table {A B : ℕ} {α : Type} (x : (⟨2, ![A, B]⟩ : Shape).Idx → α) (hc : (⟨2, ![A, B]⟩ : Shape).ShapeCasts ⟨1, ![A * B]⟩)
    (t : Fin A) (k : Fin B) (h : B * t.val + k.val < A * B) :
    shapeCast ⟨1, ![A * B]⟩ x hc (ix1 ⟨B * t.val + k.val, h⟩) = x (ix2 t k) := by
  refine shapeCast_apply _ hc _ _ ?_
  rw [Shape.rowMajor_val_two, Shape.rowMajor_val_one]
  show t.val * B + k.val = B * t.val + k.val
  rw [Nat.mul_comm]

/-- A column of the table of pairs, read as a list. -/
theorem cast_col {N c : ℕ} {α : Type} (x : (⟨2, ![N, 2]⟩ : Shape).Idx → α) (hs : (⟨2, ![N, 2]⟩ : Shape).Slices ![0, c] ⟨2, ![N, 1]⟩) (hcl : c < 2)
    (hc : (⟨2, ![N, 1]⟩ : Shape).ShapeCasts ⟨1, ![N]⟩) (n : Fin N) :
    shapeCast ⟨1, ![N]⟩ (extractStridedSlice ⟨2, ![N, 1]⟩ ![0, c] x hs) hc (ix1 n) = x (ix2 n ⟨c, hcl⟩) := by
  rw [shapeCast_apply _ hc (ix1 n) (ix2 n 0) (by rw [Shape.rowMajor_val_two, Shape.rowMajor_val_one]; show n.val * 1 + 0 = n.val; omega)]
  refine extractStridedSlice_apply _ _ _ _ _ fun b => ?_
  match b with
  | ⟨0, _⟩ => simp
  | ⟨1, _⟩ => simp

variable (m : (ℓ : Loc nD τ sig) → Buf (Elt F) ℓ) (d : Dev nD)

theorem dat_reads : Reads (dat m d) (m (hloc d main_arg0)) (m (hloc d main_arg2)) (m (hloc d main_arg3)) (m (hloc d main_arg4)) (m (hloc d main_arg5)) where
  spk n h := by
    show list1 (W1 m d (dr main_v5)) _ n = _
    rw [list1_of_lt _ _ h, W1_v5]
    exact cast_row _ _ _
  w s h := by
    show list1 (W1 m d (dr main_arg2)) _ s = _
    rw [list1_of_lt _ _ h, W1_of_ne m d (by decide)]
  sid s h := by
    show list1 (W1 m d (dr main_arg3)) _ s = _
    rw [list1_of_lt _ _ h, W1_of_ne m d (by decide)]
  post s h := by
    show list1 (W1 m d (dr main_v3)) _ s = _
    rw [list1_of_lt _ _ h, W1_v3]
    exact cast_col _ _ (by omega) _ _
  pre s h := by
    show list1 (W1 m d (dr main_v1)) _ s = _
    rw [list1_of_lt _ _ h, W1_v1]
    exact cast_col _ _ (by omega) _ _
  basis t k ht hk := by
    show list1 (W1 m d (dr main_v4)) _ _ = _
    rw [list1_of_lt _ _ (show 5 * t + k < 2560 by omega), W1_v4]
    exact cast_table (A := 512) (B := 5) _ _ ⟨t, ht⟩ ⟨k, hk⟩ (by show _ < 512 * 5; omega)

theorem out_reads (n : Fin 50000) :
    outV m d (ix2 0 n) = fire1 (sumParts (fun r => (dat m d).parts (50176 * r + n.val)) 31) (m (hloc d main_arg0) (ix2 0 n)) (m (hloc d main_arg1) (ix2 0 n))
      (m (hloc d main_arg6) (ix1 n)) (m (hloc d main_arg7) (ix1 n)) (m (hloc d main_arg8) (ix1 n)) (m (hloc d main_arg9) (ix1 n)) := by
  show fire1 _ (list1 (W3 m d (dr main_v5)) _ n.val) (list1 (W3 m d (dr main_v7)) _ n.val) (list1 (W3 m d (dr main_arg6)) _ n.val)
    (list1 (W3 m d (dr main_arg7)) _ n.val) (list1 (W3 m d (dr main_arg8)) _ n.val) (list1 (W3 m d (dr main_arg9)) _ n.val) = _
  rw [list1_of_lt _ _ n.isLt, list1_of_lt _ _ n.isLt, list1_of_lt _ _ n.isLt, list1_of_lt _ _ n.isLt, list1_of_lt _ _ n.isLt, list1_of_lt _ _ n.isLt]
  rw [W3_v7, W3_of_ne m d (r := main_v5) (by decide), W2_of_ne m d (r := main_v5) (by decide), W1_v5]
  rw [W3_of_ne m d (r := main_arg6) (by decide), W2_of_ne m d (r := main_arg6) (by decide), W1_of_ne m d (r := main_arg6) (by decide)]
  rw [W3_of_ne m d (r := main_arg7) (by decide), W2_of_ne m d (r := main_arg7) (by decide), W1_of_ne m d (r := main_arg7) (by decide)]
  rw [W3_of_ne m d (r := main_arg8) (by decide), W2_of_ne m d (r := main_arg8) (by decide), W1_of_ne m d (r := main_arg8) (by decide)]
  rw [W3_of_ne m d (r := main_arg9) (by decide), W2_of_ne m d (r := main_arg9) (by decide), W1_of_ne m d (r := main_arg9) (by decide)]
  exact congrArg₂ (fun a b => fire1 _ a b _ _ _ _) (cast_row _ _ n) (cast_row _ _ n)

end Cert.Proof

end
-- ==== Proof.RefRead.lean ====
/-
  The reference's arrays, one by one, and what each holds at a place when the synapses' words are in range: the spike and
  the basis row each synapse looks up, the product it adds on each channel, and the sum over the synapses of a neuron.
-/
module

public import proofs.«01_k».proof.Proof.Sums
public import proofs.«01_k».proof.Proof.KernReads
public import proofs.«01_k».proof.Proof.Range
public import proofs.«01_k».proof.Proof.RefFrame
public import Idealize.ShloMosaic.Lib.ReduceAll

@[expose] public section

noncomputable section

namespace Cert.Proof.Ref

open Cert.ReferenceIdeal Cert.ReferenceIdeal.Gen
open Idealize.ShloMosaic
open Idealize.ShloMosaic.ValueIdx (ix1 ix2 ix3 eq_ix1 eq_ix2 eq_ix3)

/-- Words below zero moved up by `n`. -/
def wrapI (n : BitVec 32) (v : IVec S1600000 32) : IVec S1600000 32 :=
  select (cmpi .slt v (broadcastInDim S1600000 ![] bcast_S_S1600000 (constantI S_ 32 0#32))) (addi v (broadcastInDim S1600000 ![] bcast_S_S1600000 (constantI S_ 32 n))) v

/-- A list as a column. -/
def colI (v : IVec S1600000 32) : IVec S1600000x1 32 := broadcastInDim S1600000x1 ![0] bcast_S1600000_S1600000x1_0 v

/-- The rows whose word is from zero to `n`. -/
def inb (n : BitVec 32) (c : IVec S1600000x1 32) : IVec S1600000 1 :=
  Host.reduce IntOp.andi (andi (cmpi .sge c (broadcastInDim S1600000x1 ![] bcast_S_S1600000x1 (constantI S_ 32 0#32)))
    (cmpi .sle c (broadcastInDim S1600000x1 ![0, 1] bcast_S1x1_S1600000x1_0_1 (broadcastInDim S1x1 ![1] bcast_S1_S1x1_1 (constantI S1 32 n)))))
    (constantI S_ 1 1#1) reducesTo_S1600000x1_S1600000_d1 h_S_

/-- The synapses' spikes. -/
def spikes (x0 : FVec Ideal S1x50000 .f32) (p : IVec S1600000 32) : FVec Ideal S1x1600000 .f32 :=
  select (broadcastInDim S1x1600000 ![1] bcast_S1600000_S1x1600000_1 (inb 49999#32 (colI (wrapI 50000#32 p))))
    (Host.gather gather_S1x50000_S1600000x1_S1x1600000_0_1_n_n_1_1_11 x0 (colI (wrapI 50000#32 p)))
    (broadcastInDim S1x1600000 ![] bcast_S_S1x1600000 (constant S_ .f32 0x7FC00000#32))

/-- The synapses' basis rows. -/
def rows (x5 : FVec Ideal S512x5 .f32) (t : IVec S1600000 32) : FVec Ideal S1600000x5 .f32 :=
  select (broadcastInDim S1600000x5 ![0] bcast_S1600000_S1600000x5_0 (inb 511#32 (colI (wrapI 512#32 t))))
    (Host.gather gather_S512x5_S1600000x1_S1600000x5_1_0_n_n_0_1_15 x5 (colI (wrapI 512#32 t)))
    (broadcastInDim S1600000x5 ![] bcast_S_S1600000x5 (constant S_ .f32 0x7FC00000#32))

/-- What each synapse adds on each channel. -/
def upd (x0 : FVec Ideal S1x50000 .f32) (x2 : FVec Ideal S1600000 .f32) (x5 : FVec Ideal S512x5 .f32) (p t : IVec S1600000 32) : FVec Ideal S1x1600000x5 .f32 :=
  mulf (broadcastInDim S1x1600000x5 ![0, 1, 2] bcast_S1x1600000x1_S1x1600000x5_0_1_2 (broadcastInDim S1x1600000x1 ![0, 1] bcast_S1x1600000_S1x1600000x1_0_1 (spikes x0 p)))
    (broadcastInDim S1x1600000x5 ![1, 2] bcast_S1600000x5_S1x1600000x5_1_2
      (mulf (broadcastInDim S1600000x5 ![0, 1] bcast_S1600000x1_S1600000x5_0_1 (broadcastInDim S1600000x1 ![0] bcast_S1600000_S1600000x1_0 x2)) (rows x5 t)))

/-- The sums of the neurons' channels. -/
def seg (q : IVec S1600000 32) (u : FVec Ideal S1x1600000x5 .f32) : FVec Ideal S1x50000x5 .f32 :=
  Host.scatterAdd scatter_S1x50000x5_S1600000x1_S1x1600000x5_02_1_1_1
    (broadcastInDim S1x50000x5 ![1, 2] bcast_S50000x5_S1x50000x5_1_2 (broadcastInDim S50000x5 ![] bcast_S_S50000x5 (constant S_ .f32 0x00000000#32)))
    (colI q) u

/-- The neurons' currents. -/
def cur (q : IVec S1600000 32) (u : FVec Ideal S1x1600000x5 .f32) : FVec Ideal S1x50000 .f32 :=
  Host.reduceAdd (seg q u) (constant S_ .f32 0x00000000#32) reducesTo_S1x50000x5_S1x50000_d2 h_S_

/-- The firing from the currents. -/
def out (x0 x1 : FVec Ideal S1x50000 .f32) (x6 x7 x8 x9 : FVec Ideal S50000 .f32) (r : FVec Ideal S1x50000 .f32) : FVec Ideal S1x50000 .f32 :=
  uitofp .f32 (cmpf .ogt (Host.divf (subf (addf (mulf (broadcastInDim S1x50000 ![1] bcast_S50000_S1x50000_1 x6)
      (mulf x1 (subf (broadcastInDim S1x50000 ![] bcast_S_S1x50000 (constant S_ .f32 0x3F800000#32)) x0)))
      (mulf (broadcastInDim S1x50000 ![1] bcast_S50000_S1x50000_1 x7) r))
      (broadcastInDim S1x50000 ![1] bcast_S50000_S1x50000_1 x8)) (broadcastInDim S1x50000 ![1] bcast_S50000_S1x50000_1 x9))
    (broadcastInDim S1x50000 ![] bcast_S_S1x50000 (constant S_ .f32 0x00000000#32)))

/-- The neuron each synapse ends on, and the one it starts from. -/
def post (x4 : IVec S1600000x2 32) : IVec S1600000 32 :=
  shapeCast S1600000 (extractStridedSlice S1600000x1 ![0, 0] x4 slices_S1600000x2_S1600000x1_0_0) shapeCasts_S1600000x1_S1600000
def pre (x4 : IVec S1600000x2 32) : IVec S1600000 32 :=
  shapeCast S1600000 (extractStridedSlice S1600000x1 ![0, 1] x4 slices_S1600000x2_S1600000x1_0_1) shapeCasts_S1600000x1_S1600000

/-- The whole result. -/
def all (x0 x1 : FVec Ideal S1x50000 .f32) (x2 : FVec Ideal S1600000 .f32) (x3 : IVec S1600000 32) (x4 : IVec S1600000x2 32) (x5 : FVec Ideal S512x5 .f32)
    (x6 x7 x8 x9 : FVec Ideal S50000 .f32) : FVec Ideal S1x50000 .f32 :=
  out x0 x1 x6 x7 x8 x9 (cur (post x4) (upd x0 x2 x5 (pre x4) x3))

set_option maxRecDepth 8192 in
theorem res_eq (m : (ℓ : Loc nD τ sig) → Buf (Elt Ideal) ℓ) (c : Dev nD) :
    Cert.ReferenceIdeal.Value.res_main_v32 (F := Ideal) m c
      = all (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v32
  rfl

/-! ### The words -/

theorem wrapI_eq (n : BitVec 32) (v : IVec S1600000 32) (h : ∀ x, (v x).toNat < 2 ^ 31) : wrapI n v = v := by
  funext x
  show Scalar.select (IntOp.cmpi .slt (v x) 0#32) _ _ = _
  have e : IntOp.cmpi .slt (v x) 0#32 = 0#1 := by
    have := h x
    simp only [IntOp.cmpi]
    rw [show BitVec.slt (v x) 0#32 = false from ?_]
    · decide
    · rw [BitVec.slt_eq_decide, decide_eq_false_iff_not, BitVec.toInt_eq_toNat_cond]
      simp
      omega
  rw [e]
  rfl

theorem colI_apply (v : IVec S1600000 32) (y : S1600000x1.Idx) : colI v y = v (ix1 (y 0)) := by
  refine broadcastInDim_apply _ _ _ _ _ fun a => ?_
  match a with
  | ⟨0, _⟩ => rfl

theorem inb_eq (n : BitVec 32) (v : IVec S1600000 32) (hn : n.toNat < 2 ^ 31) (h : ∀ x, (v x).toNat ≤ n.toNat) (x : S1600000.Idx) : inb n (colI v) x = 1#1 := by
  refine Host.reduce_andi_one _ _ _ _ _ rfl fun i => ?_
  show IntOp.andi (IntOp.cmpi .sge (colI v i) 0#32) (IntOp.cmpi .sle (colI v i) n) = 1#1
  rw [colI_apply]
  have := h (ix1 (i 0))
  simp only [IntOp.cmpi, andi_bool, bool_one, Bool.and_eq_true, BitVec.sle_eq_decide, decide_eq_true_eq, BitVec.toInt_eq_toNat_cond, BitVec.toNat_ofNat,
    Nat.reducePow, Nat.reduceMod]
  omega

/-! ### The look-ups -/

theorem gather_spikes (x0 : FVec Ideal S1x50000 .f32) (v : IVec S1600000 32) (s : Fin 1600000) (hv : (v (ix1 s)).toNat < 50000) :
    Host.gather gather_S1x50000_S1600000x1_S1x1600000_0_1_n_n_1_1_11 x0 (colI v) (ix2 0 s) = x0 (ix2 0 ⟨(v (ix1 s)).toNat, hv⟩) := by
  unfold Host.gather
  congr 1
  funext a
  refine Fin.ext ?_
  match a with
  | ⟨0, _⟩ => rfl
  | ⟨1, _⟩ =>
    show GatherDims.start gather_S1x50000_S1600000x1_S1x1600000_0_1_n_n_1_1_11 (ix2 0 s) (colI v) 1 + GatherDims.batchCoord gather_S1x50000_S1600000x1_S1x1600000_0_1_n_n_1_1_11 (ix2 0 s) 1 + GatherDims.offCoord gather_S1x50000_S1600000x1_S1x1600000_0_1_n_n_1_1_11 (ix2 0 s) 1 = (v (ix1 s)).toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ GatherDims.startIndexMap gather_S1x50000_S1600000x1_S1x1600000_0_1_n_n_1_1_11 from List.mem_singleton.mpr rfl), colI_apply]
    have e (x : S1600000x1.Idx) (hx : (x 0).val = s.val) : v (ix1 (x 0)) = v (ix1 s) := congrArg (fun y => v (ix1 y)) (Fin.ext hx)
    rw [e _ rfl]
    show min (v (ix1 s)).toInt.toNat 49999 + 0 + 0 = (v (ix1 s)).toNat
    rw [BitVec.toInt_eq_toNat_cond]
    omega

theorem gather_rows (x5 : FVec Ideal S512x5 .f32) (v : IVec S1600000 32) (s : Fin 1600000) (k : Fin 5) (hv : (v (ix1 s)).toNat < 512) :
    Host.gather gather_S512x5_S1600000x1_S1600000x5_1_0_n_n_0_1_15 x5 (colI v) (ix2 s k) = x5 (ix2 ⟨(v (ix1 s)).toNat, hv⟩ k) := by
  unfold Host.gather
  congr 1
  funext a
  refine Fin.ext ?_
  match a with
  | ⟨0, _⟩ =>
    show GatherDims.start gather_S512x5_S1600000x1_S1600000x5_1_0_n_n_0_1_15 (ix2 s k) (colI v) 0 + GatherDims.batchCoord gather_S512x5_S1600000x1_S1600000x5_1_0_n_n_0_1_15 (ix2 s k) 0 + GatherDims.offCoord gather_S512x5_S1600000x1_S1600000x5_1_0_n_n_0_1_15 (ix2 s k) 0 = (v (ix1 s)).toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GatherDims.startIndexMap gather_S512x5_S1600000x1_S1600000x5_1_0_n_n_0_1_15 from List.mem_singleton.mpr rfl), colI_apply]
    have e (x : S1600000x1.Idx) (hx : (x 0).val = s.val) : v (ix1 (x 0)) = v (ix1 s) := congrArg (fun y => v (ix1 y)) (Fin.ext hx)
    rw [e _ rfl]
    show min (v (ix1 s)).toInt.toNat 511 + 0 + 0 = (v (ix1 s)).toNat
    rw [BitVec.toInt_eq_toNat_cond]
    omega
  | ⟨1, _⟩ =>
    show 0 + 0 + k.val = k.val
    omega

end Cert.Proof.Ref

end
-- ==== Proof.RefSum.lean ====
/-
  The reference's result at a neuron: the products each synapse adds, their sums over the synapses that end on the neuron,
  those over the channels, and the firing.
-/
module

public import proofs.«01_k».proof.Proof.RefRead

@[expose] public section

noncomputable section

namespace Cert.Proof.Ref

open Cert.ReferenceIdeal Cert.ReferenceIdeal.Gen
open Idealize.ShloMosaic
open Idealize.ShloMosaic.ValueIdx (ix1 ix2 ix3 eq_ix1 eq_ix2 eq_ix3)

theorem spikes_apply (x0 : FVec Ideal S1x50000 .f32) (p : IVec S1600000 32) (hp : ∀ x, (p x).toNat < 50000) (s : Fin 1600000) :
    spikes x0 p (ix2 0 s) = x0 (ix2 0 ⟨(p (ix1 s)).toNat, hp _⟩) := by
  unfold spikes
  rw [wrapI_eq _ p (fun x => by have := hp x; omega)]
  show Scalar.select (inb 49999#32 (colI p) _) _ _ = _
  rw [inb_eq _ p (by decide) (fun x => by have := hp x; show _ ≤ 49999; omega), gather_spikes x0 p s (hp _)]
  rfl

theorem rows_apply (x5 : FVec Ideal S512x5 .f32) (t : IVec S1600000 32) (ht : ∀ x, (t x).toNat < 512) (s : Fin 1600000) (k : Fin 5) :
    rows x5 t (ix2 s k) = x5 (ix2 ⟨(t (ix1 s)).toNat, ht _⟩ k) := by
  unfold rows
  rw [wrapI_eq _ t (fun x => by have := ht x; omega)]
  show Scalar.select (inb 511#32 (colI t) _) _ _ = _
  rw [inb_eq _ t (by decide) (fun x => by have := ht x; show _ ≤ 511; omega), gather_rows x5 t s k (ht _)]
  rfl

theorem upd_apply (x0 : FVec Ideal S1x50000 .f32) (x2 : FVec Ideal S1600000 .f32) (x5 : FVec Ideal S512x5 .f32) (p t : IVec S1600000 32)
    (hp : ∀ x, (p x).toNat < 50000) (ht : ∀ x, (t x).toNat < 512) (s : Fin 1600000) (k : Fin 5) :
    upd x0 x2 x5 p t (ix3 0 s k)
      = (x0 (ix2 0 ⟨(p (ix1 s)).toNat, hp _⟩) * (x2 (ix1 s) * x5 (ix2 ⟨(t (ix1 s)).toNat, ht _⟩ k)) : EReal) := by
  unfold upd
  rw [← spikes_apply x0 p hp s, ← rows_apply x5 t ht s k]
  refine congrArg₂ (fun a b : EReal => a * b) ?_ ?_
  · refine (broadcastInDim_apply _ _ _ _ (ix3 0 s 0) fun a => ?_).trans (broadcastInDim_apply _ _ _ _ (ix2 0 s) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix2 s k) fun a => ?_).trans ?_
    · match a with
      | ⟨0, _⟩ => rfl
      | ⟨1, _⟩ => rfl
    refine congrArg₂ (fun a b : EReal => a * b) ?_ rfl
    refine (broadcastInDim_apply _ _ _ _ (ix2 s 0) fun a => ?_).trans (broadcastInDim_apply _ _ _ _ (ix1 s) fun a => ?_)
    · match a with
      | ⟨0, _⟩ => rfl
      | ⟨1, _⟩ => rfl
    · match a with
      | ⟨0, _⟩ => rfl

/-! ### Where an update lands -/

theorem start_mid (q : IVec S1600000 32) (j : S1x1600000x5.Idx) :
    ScatterDims.start scatter_S1x50000x5_S1600000x1_S1x1600000x5_02_1_1_1 j (colI q) 1 = (q (ix1 (j 1))).toInt := by
  unfold ScatterDims.start
  rw [dif_pos (show (1 : Fin 3) ∈ ScatterDims.scatterDimsToOperandDims scatter_S1x50000x5_S1600000x1_S1x1600000x5_02_1_1_1 from List.mem_singleton.mpr rfl), colI_apply]
  have e (x : S1600000x1.Idx) (hx : (x 0).val = (j 1).val) : q (ix1 (x 0)) = q (ix1 (j 1)) := congrArg (fun y => q (ix1 y)) (Fin.ext hx)
  rw [e _ rfl]

theorem lands (q : IVec S1600000 32) (hq : ∀ x, (q x).toNat < 50000) (j : S1x1600000x5.Idx) (i : S1x50000x5.Idx) :
    ScatterDims.resultIdx? scatter_S1x50000x5_S1600000x1_S1x1600000x5_02_1_1_1 j (colI q) = some i
      ↔ (q (ix1 (j 1))).toNat = (i 1).val ∧ (j 2).val = (i 2).val := by
  have e0 : ScatterDims.start scatter_S1x50000x5_S1600000x1_S1x1600000x5_02_1_1_1 j (colI q) 0
      + ScatterDims.window scatter_S1x50000x5_S1600000x1_S1x1600000x5_02_1_1_1 j 0 = 0 := by
    have : (j 0).val = 0 := by have := (j 0).isLt; change _ < 1 at this; omega
    show (0 : ℤ) + ((j 0).val : ℕ) = 0
    omega
  have e1 : ScatterDims.start scatter_S1x50000x5_S1600000x1_S1x1600000x5_02_1_1_1 j (colI q) 1
      + ScatterDims.window scatter_S1x50000x5_S1600000x1_S1x1600000x5_02_1_1_1 j 1 = ((q (ix1 (j 1))).toNat : ℤ) := by
    rw [start_mid]
    have := hq (ix1 (j 1))
    show (q (ix1 (j 1))).toInt + (0 : ℕ) = _
    rw [BitVec.toInt_eq_toNat_cond]
    omega
  have e2 : ScatterDims.start scatter_S1x50000x5_S1600000x1_S1x1600000x5_02_1_1_1 j (colI q) 2
      + ScatterDims.window scatter_S1x50000x5_S1600000x1_S1x1600000x5_02_1_1_1 j 2 = ((j 2).val : ℤ) := by
    show (0 : ℤ) + ((j 2).val : ℕ) = _
    omega
  have hall : ∀ a, 0 ≤ ScatterDims.start scatter_S1x50000x5_S1600000x1_S1x1600000x5_02_1_1_1 j (colI q) a
      + ScatterDims.window scatter_S1x50000x5_S1600000x1_S1x1600000x5_02_1_1_1 j a
      ∧ ScatterDims.start scatter_S1x50000x5_S1600000x1_S1x1600000x5_02_1_1_1 j (colI q) a
      + ScatterDims.window scatter_S1x50000x5_S1600000x1_S1x1600000x5_02_1_1_1 j a < S1x50000x5.size a := by
    intro a
    match a with
    | ⟨0, _⟩ => exact ⟨by erw [e0], by erw [e0]; show (0 : ℤ) < ((1 : ℕ) : ℤ); omega⟩
    | ⟨1, _⟩ =>
      have := hq (ix1 (j 1))
      exact ⟨by erw [e1]; omega, by erw [e1]; show _ < ((50000 : ℕ) : ℤ); omega⟩
    | ⟨2, _⟩ =>
      have := (j 2).isLt
      change _ < 5 at this
      exact ⟨by erw [e2]; omega, by erw [e2]; show _ < ((5 : ℕ) : ℤ); omega⟩
  unfold ScatterDims.resultIdx?
  rw [dif_pos hall, Option.some_inj]
  constructor
  · rintro rfl
    exact ⟨(congrArg Int.toNat e1).symm, (congrArg Int.toNat e2).symm⟩
  · rintro ⟨h1, h2⟩
    funext a
    refine Fin.ext ?_
    match a with
    | ⟨0, _⟩ =>
      have : (i 0).val = 0 := by have := (i 0).isLt; change _ < 1 at this; omega
      exact (congrArg Int.toNat e0).trans this.symm
    | ⟨1, _⟩ => exact (congrArg Int.toNat e1).trans h1
    | ⟨2, _⟩ => exact (congrArg Int.toNat e2).trans h2

theorem seg_apply (q : IVec S1600000 32) (hq : ∀ x, (q x).toNat < 50000) (u : FVec Ideal S1x1600000x5 .f32) (n : Fin 50000) (k : Fin 5) :
    seg q u (ix3 0 n k) = ∑ s : Fin 1600000, if (q (ix1 s)).toNat = n.val then (u (ix3 0 s k) : EReal) else 0 := by
  show (Ideal.ofBits .f32 0x00000000#32 : EReal) + ∑ j ∈ Finset.univ.filter (fun j => ScatterDims.resultIdx? scatter_S1x50000x5_S1600000x1_S1x1600000x5_02_1_1_1 j (colI q) = some (ix3 0 n k)), (u j : EReal) = _
  rw [Ideal.ofBits_zero_f32, zero_add, ← Finset.sum_filter]
  refine Finset.sum_nbij' (fun j => (j 1 : Fin 1600000)) (fun s => ix3 0 s k) ?_ ?_ ?_ ?_ ?_
  · intro j hj
    exact Finset.mem_filter.2 ⟨Finset.mem_univ _, ((lands q hq _ _).1 (Finset.mem_filter.1 hj).2).1⟩
  · intro s hs
    exact Finset.mem_filter.2 ⟨Finset.mem_univ _, (lands q hq _ _).2 ⟨(Finset.mem_filter.1 hs).2, rfl⟩⟩
  · intro j hj
    have h2 := ((lands q hq _ _).1 (Finset.mem_filter.1 hj).2).2
    funext a
    refine Fin.ext ?_
    match a with
    | ⟨0, _⟩ =>
      have : (j 0).val = 0 := by have := (j 0).isLt; change _ < 1 at this; omega
      exact this.symm
    | ⟨1, _⟩ => rfl
    | ⟨2, _⟩ => exact h2.symm
  · intro s _
    rfl
  · intro j hj
    have h2 := ((lands q hq _ _).1 (Finset.mem_filter.1 hj).2).2
    refine congrArg u ?_
    funext a
    refine Fin.ext ?_
    match a with
    | ⟨0, _⟩ =>
      have : (j 0).val = 0 := by have := (j 0).isLt; change _ < 1 at this; omega
      exact this
    | ⟨1, _⟩ => rfl
    | ⟨2, _⟩ => exact h2

theorem cur_apply (q : IVec S1600000 32) (u : FVec Ideal S1x1600000x5 .f32) (n : Fin 50000) :
    cur q u (ix2 0 n) = ∑ k : Fin 5, (seg q u (ix3 0 n k) : EReal) := by
  show (Ideal.ofBits .f32 0x00000000#32 : EReal) + ∑ i ∈ Finset.univ.filter (fun i => reducesTo_S1x50000x5_S1x50000_d2.drop i = ix2 0 n), (seg q u i : EReal) = _
  rw [Ideal.ofBits_zero_f32, zero_add]
  have d0 (i : S1x50000x5.Idx) : ((reducesTo_S1x50000x5_S1x50000_d2.drop i) 0).val = (i 0).val := rfl
  have d1 (i : S1x50000x5.Idx) : ((reducesTo_S1x50000x5_S1x50000_d2.drop i) 1).val = (i 1).val := rfl
  have key (i : S1x50000x5.Idx) (hi : reducesTo_S1x50000x5_S1x50000_d2.drop i = ix2 0 n) : i = ix3 0 n (i 2) := by
    funext a
    refine Fin.ext ?_
    match a with
    | ⟨0, _⟩ => exact (d0 i).symm.trans (congrArg (fun x : S1x50000.Idx => (x 0).val) hi)
    | ⟨1, _⟩ => exact (d1 i).symm.trans (congrArg (fun x : S1x50000.Idx => (x 1).val) hi)
    | ⟨2, _⟩ => rfl
  refine Finset.sum_nbij' (fun i => (i 2 : Fin 5)) (fun k => ix3 0 n k) ?_ ?_ ?_ ?_ ?_
  · intro i _
    exact Finset.mem_univ _
  · intro k _
    refine Finset.mem_filter.2 ⟨Finset.mem_univ _, ?_⟩
    funext a
    refine Fin.ext ?_
    match a with
    | ⟨0, _⟩ => rfl
    | ⟨1, _⟩ => rfl
  · intro i hi
    exact (key i (Finset.mem_filter.1 hi).2).symm
  · intro k _
    rfl
  · intro i hi
    exact congrArg (seg q u) (key i (Finset.mem_filter.1 hi).2)

/-- A comparison's bit as a number, and the kernel's choice of one or zero by it. -/
theorem bit_choice (b : BitVec 1) : (FloatOps.uitofp .f32 b : Ideal .f32) = Scalar.select b (Scalar.ofBits .f32 0x3F800000#32 : Ideal .f32) (Scalar.ofBits .f32 0x00000000#32) := by
  have h1 : (Scalar.ofBits .f32 0x3F800000#32 : Ideal .f32) = (1 : EReal) := Ideal.ofBits_one_f32
  rw [h1, zero_word]
  show (((b.toNat : ℝ) : EReal)) = if b = 1#1 then (1 : EReal) else 0
  rcases (show b = 0#1 ∨ b = 1#1 by revert b; decide) with rfl | rfl
  · simp
  · simp

theorem out_apply (x0 x1 : FVec Ideal S1x50000 .f32) (x6 x7 x8 x9 : FVec Ideal S50000 .f32) (r : FVec Ideal S1x50000 .f32) (n : Fin 50000) :
    out x0 x1 x6 x7 x8 x9 r (ix2 0 n) = fire1 (F := Ideal) (r (ix2 0 n)) (x0 (ix2 0 n)) (x1 (ix2 0 n)) (x6 (ix1 n)) (x7 (ix1 n)) (x8 (ix1 n)) (x9 (ix1 n)) := by
  have hb (x : FVec Ideal S50000 .f32) : broadcastInDim S1x50000 ![1] bcast_S50000_S1x50000_1 x (ix2 0 n) = x (ix1 n) := by
    refine broadcastInDim_apply _ _ _ _ _ fun a => ?_
    match a with
    | ⟨0, _⟩ => rfl
  unfold fire1
  rw [← bit_choice, ← hb x6, ← hb x7, ← hb x8, ← hb x9]
  rfl

end Cert.Proof.Ref

end
-- ==== Proof.Value.lean ====
/-
  The value claim: the kernel's result is the reference's, at the ideal instance, when the words are in range and the
  spikes, the weights and the basis are real numbers, no spike below zero.
-/
module

public import proofs.«01_k».proof.Proof.RefSum

@[expose] public section

noncomputable section

namespace Cert.Proof

open Idealize.ShloMosaic
open Idealize.ShloMosaic.ValueIdx (ix1 ix2 ix3 eq_ix1 eq_ix2 eq_ix3)

/-! ### The float arrays hold real numbers -/

theorem inf_word : (Ideal.ofBits .f32 0x7F800000#32 : EReal) = ⊤ := by simp [Ideal.ofBits, Ideal.ieee]

theorem isReal_of_lt {x : EReal} (h0 : 0 ≤ x) (h1 : x < ⊤) : IsReal x := by
  lift x to ℝ using ⟨h1.ne, fun e => by rw [e] at h0; exact absurd h0 (by simp)⟩
  exact ⟨x, rfl⟩

theorem isReal_of_abs {x : EReal} (h : max x (-x) < ⊤) : IsReal x := by
  obtain ⟨h1, h2⟩ := max_lt_iff.1 h
  lift x to ℝ using ⟨h1.ne, fun e => by rw [e] at h2; exact absurd h2 (by simp)⟩
  exact ⟨x, rfl⟩

theorem spike_word {x : EReal} (e : IntOp.andi (Ideal.cmp .oge x (Ideal.ofBits .f32 0x00000000#32)) (Ideal.cmp .olt x (Ideal.ofBits .f32 0x7F800000#32)) = 1#1) :
    IsReal x ∧ 0 ≤ x := by
  rw [Ideal.ofBits_zero_f32, inf_word] at e
  simp only [Ideal.cmp, andi_bool, bool_one, Bool.and_eq_true, decide_eq_true_eq] at e
  exact ⟨isReal_of_lt e.1 e.2, e.1⟩

theorem abs_word {x : EReal} (e : Ideal.cmp .olt (max x (-x)) (Ideal.ofBits .f32 0x7F800000#32) = 1#1) : IsReal x := by
  rw [inf_word] at e
  simp only [Ideal.cmp, bool_one, decide_eq_true_eq] at e
  exact isReal_of_abs e

section
open Cert.KernelIdeal Cert.KernelIdeal.Gen

theorem reals_pre {m : (ℓ : Loc nD τ sig) → Buf (Elt Ideal) ℓ} {d : Dev nD}
    (h0 : (Cert.Pre_in_range_finite.fn (F := Ideal) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).2.2.1 = (fun _ => 1#1))
    (h2 : (Cert.Pre_in_range_finite.fn (F := Ideal) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).2.2.2.1 = (fun _ => 1#1))
    (h5 : (Cert.Pre_in_range_finite.fn (F := Ideal) (m (hloc d main_arg0)) (m (hloc d main_arg1)) (m (hloc d main_arg2)) (m (hloc d main_arg3)) (m (hloc d main_arg4)) (m (hloc d main_arg5)) (m (hloc d main_arg6)) (m (hloc d main_arg7)) (m (hloc d main_arg8)) (m (hloc d main_arg9))).2.2.2.2 = (fun _ => 1#1)) :
    Reals (dat m d) := by
  have R := dat_reads m d
  refine ⟨fun n hn => ?_, fun s hs => ?_, fun n hn => ?_⟩
  · rw [R.spk n hn]
    exact spike_word (congrFun h0 (ix2 0 ⟨n, hn⟩))
  · rw [R.w s hs]
    exact abs_word (congrFun h2 (ix1 ⟨s, hs⟩))
  · have e := R.basis (n / 5) (n % 5) (by omega) (by omega)
    rw [show 5 * (n / 5) + n % 5 = n by omega] at e
    rw [e]
    exact abs_word (congrFun h5 _)

end

/-! ### The reference's current is the kernel's -/

theorem current {D : Data Ideal} {x0 : (⟨2, ![1, 50000]⟩ : Shape).Idx → Ideal .f32} {x2 : (⟨1, ![1600000]⟩ : Shape).Idx → Ideal .f32}
    {x3 : (⟨1, ![1600000]⟩ : Shape).Idx → BitVec 32} {x4 : (⟨2, ![1600000, 2]⟩ : Shape).Idx → BitVec 32}
    {x5 : (⟨2, ![512, 5]⟩ : Shape).Idx → Ideal .f32} (R : Reads D x0 x2 x3 x4 x5) (hr : D.InRange) (hf : Reals D) (n : Fin 50000) :
    Ref.cur (Ref.post x4) (Ref.upd x0 x2 x5 (Ref.pre x4) x3) (ix2 0 n) = sumParts (fun r => D.parts (50176 * r + n.val)) 31 := by
  have ep (s : Fin 1600000) : Ref.pre x4 (ix1 s) = D.pre s.val := (cast_col x4 _ (by omega) _ s).trans (R.pre s.val s.isLt).symm
  have eq (s : Fin 1600000) : Ref.post x4 (ix1 s) = D.post s.val := (cast_col x4 _ (by omega) _ s).trans (R.post s.val s.isLt).symm
  have et (s : Fin 1600000) : x3 (ix1 s) = D.sid s.val := (R.sid s.val s.isLt).symm
  have hp (x : (⟨1, ![1600000]⟩ : Shape).Idx) : (Ref.pre x4 x).toNat < 50000 := by
    rw [eq_ix1 x]; erw [ep]; exact hr.pre _ (x 0).isLt
  have hq (x : (⟨1, ![1600000]⟩ : Shape).Idx) : (Ref.post x4 x).toNat < 50000 := by
    rw [eq_ix1 x]; erw [eq]; exact hr.post _ (x 0).isLt
  have ht (x : (⟨1, ![1600000]⟩ : Shape).Idx) : (x3 x).toNat < 512 := by
    rw [eq_ix1 x]; erw [et]; exact hr.sid _ (x 0).isLt
  rw [Ref.cur_apply, ← current_eq D hr hf n.val n.isLt, Finset.sum_range]
  refine Finset.sum_congr rfl fun k _ => ?_
  rw [Ref.seg_apply _ hq, Finset.sum_range]
  refine Finset.sum_congr rfl fun s _ => ?_
  unfold chan
  rw [eq]
  refine congrArg (fun y : EReal => if (D.post s.val).toNat = n.val then y else 0) ?_
  rw [Ref.upd_apply x0 x2 x5 _ x3 hp ht s k, R.w s.val s.isLt]
  have e0 : x0 (ix2 0 ⟨(Ref.pre x4 (ix1 s)).toNat, hp _⟩) = D.spk (D.pre s.val).toNat := by
    rw [R.spk _ (hr.pre s.val s.isLt)]
    exact congrArg (fun j : Fin 50000 => x0 (ix2 0 j)) (Fin.ext (congrArg BitVec.toNat (ep s)))
  have e5 : x5 (ix2 ⟨(x3 (ix1 s)).toNat, ht _⟩ k) = D.basis (5 * (D.sid s.val).toNat + k.val) := by
    rw [R.basis _ k.val (hr.sid s.val s.isLt) k.isLt]
    exact congrArg (fun j : Fin 512 => x5 (ix2 j k)) (Fin.ext (congrArg BitVec.toNat (et s)))
  rw [e0, e5]

/-- The reference's result, neuron by neuron, is what the kernel writes: both currents are the same sum. -/
theorem firing {D : Data Ideal} {x0 x1 : (⟨2, ![1, 50000]⟩ : Shape).Idx → Ideal .f32} {x2 : (⟨1, ![1600000]⟩ : Shape).Idx → Ideal .f32}
    {x3 : (⟨1, ![1600000]⟩ : Shape).Idx → BitVec 32} {x4 : (⟨2, ![1600000, 2]⟩ : Shape).Idx → BitVec 32}
    {x5 : (⟨2, ![512, 5]⟩ : Shape).Idx → Ideal .f32} {x6 x7 x8 x9 : (⟨1, ![50000]⟩ : Shape).Idx → Ideal .f32}
    {o : (⟨2, ![1, 50000]⟩ : Shape).Idx → Ideal .f32} (R : Reads D x0 x2 x3 x4 x5) (hr : D.InRange) (hf : Reals D)
    (ho : ∀ n : Fin 50000, o (ix2 0 n) = fire1 (F := Ideal) (sumParts (fun r => D.parts (50176 * r + n.val)) 31) (x0 (ix2 0 n)) (x1 (ix2 0 n))
      (x6 (ix1 n)) (x7 (ix1 n)) (x8 (ix1 n)) (x9 (ix1 n))) :
    Ref.all x0 x1 x2 x3 x4 x5 x6 x7 x8 x9 = o := by
  funext x
  obtain ⟨n, rfl⟩ : ∃ n : Fin 50000, x = ix2 0 n := ⟨x 1, by
    funext a
    refine Fin.ext ?_
    match a with
    | ⟨0, _⟩ =>
      have := (x 0).isLt
      change _ < 1 at this
      show (x 0).val = 0
      omega
    | ⟨1, _⟩ => rfl⟩
  rw [ho n, ← current R hr hf n]
  exact Ref.out_apply _ _ _ _ _ _ _ n

/-- On indices in range, spikes that are no less than zero and finite factors, the kernel returns what the reference does. -/
theorem value : Cert.algebraic_KernelIdeal_ReferenceIdeal_pre_in_range_finite := by
  intro m g m' g' hpre hag
  have hr (d : Dev Cert.KernelIdeal.nD) : (dat m d).InRange := fin_pre (F := Ideal) ⟨(hpre d).1, (hpre d).2.1⟩
  refine ⟨fun c => outV m c, (θ_run Cert.KernelIdeal.defs _ _).mono (fun _ h c => ⟨(h.1 c).1, args_of_post h c⟩) (run_main (F := Ideal) m g hr), ?_⟩
  refine (θ_run Cert.ReferenceIdeal.defs _ _).mono (fun r h c => ⟨((h c).1.trans (Ref.res_eq m' c)).trans ?_, (h c).2⟩)
    (Cert.ReferenceIdeal.Value.run (F := Ideal) m' g')
  obtain ⟨a0, a1, a2, a3, a4, a5, a6, a7, a8, a9⟩ := hag c
  have R := dat_reads m c
  have hf : Reals (dat m c) := reals_pre (hpre c).2.2.1 (hpre c).2.2.2.1 (hpre c).2.2.2.2
  refine Eq.trans ?_ (firing R (hr c) hf (fun n => out_reads m c n))
  exact congr (congr (congr (congr (congr (congr (congr (congr (congr (congrArg Ref.all a0) a1) a2) a3) a4) a5) a6) a7) a8) a9

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Range
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    Cert.Pre_in_range_finite.Gen.facts, frame_kernel, frame_ideal, frame_ideal_finite, frame_reference,
    frame_reference_finite, trivial, value⟩

end Cert.Proof

end
